-- ==== Defs.lean ====
def Pre_Kernel [hPre_sorted_positions : Cert.Pre_sorted_positions.Facts] (m : (ℓ : Loc Cert.Kernel.nD Cert.Kernel.τ Cert.Kernel.sig) → Buf (Elt Bits) ℓ) : Prop :=
  ∀ c : Dev Cert.Kernel.nD,
    (Cert.Pre_sorted_positions.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sorted_positions : Cert.Pre_sorted_positions.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_sorted_positions_of_finite_rows [hPre_sorted_positions_of_finite_rows : Cert.Pre_sorted_positions_of_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_positions_of_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_positions_of_finite_rows [hPre_sorted_positions_of_finite_rows : Cert.Pre_sorted_positions_of_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_positions_of_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sorted_positions : Cert.Pre_sorted_positions.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sorted_positions : Cert.Pre_sorted_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sorted_positions_of_finite_rows [hKernelIdeal : Cert.KernelIdeal.Facts] [hPre_sorted_positions_of_finite_rows : Cert.Pre_sorted_positions_of_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_positions_of_finite_rows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_positions_of_finite_rows [hReferenceIdeal : Cert.ReferenceIdeal.Facts] [hPre_sorted_positions_of_finite_rows : Cert.Pre_sorted_positions_of_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_positions_of_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sorted_positions_of_finite_rows [hKernelIdeal : Cert.KernelIdeal.Facts] [hReferenceIdeal : Cert.ReferenceIdeal.Facts] [hPre_sorted_positions_of_finite_rows : Cert.Pre_sorted_positions_of_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_positions_of_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sorted_positions : Cert.Pre_sorted_positions.Facts) (hPre_sorted_positions_of_finite_rows : Cert.Pre_sorted_positions_of_finite_rows.Facts),
    quiescent_Kernel (hKernel := hKernel) (hPre_sorted_positions := hPre_sorted_positions)
    ∧ quiescent_KernelIdeal (hKernelIdeal := hKernelIdeal) (hPre_sorted_positions := hPre_sorted_positions)
    ∧ quiescent_KernelIdeal_pre_sorted_positions_of_finite_rows (hKernelIdeal := hKernelIdeal) (hPre_sorted_positions_of_finite_rows := hPre_sorted_positions_of_finite_rows)
    ∧ quiescent_ReferenceIdeal (hReferenceIdeal := hReferenceIdeal)
    ∧ quiescent_ReferenceIdeal_pre_sorted_positions_of_finite_rows (hReferenceIdeal := hReferenceIdeal) (hPre_sorted_positions_of_finite_rows := hPre_sorted_positions_of_finite_rows)
    ∧ preserves_Kernel_KernelIdeal
    ∧ algebraic_KernelIdeal_ReferenceIdeal_pre_sorted_positions_of_finite_rows (hKernelIdeal := hKernelIdeal) (hReferenceIdeal := hReferenceIdeal) (hPre_sorted_positions_of_finite_rows := hPre_sorted_positions_of_finite_rows)
-- ==== Pre_sorted_positions.lean ====
abbrev S32x8192x128 : Shape := ⟨3, ![32, 8192, 128]⟩
abbrev S32x8192 : Shape := ⟨2, ![32, 8192]⟩
abbrev S2x16x256 : Shape := ⟨3, ![2, 16, 256]⟩
abbrev S262144 : Shape := ⟨1, ![262144]⟩
abbrev S_ : Shape := ⟨0, ![]⟩

class Facts : Prop where
  shapeCasts_S262144_S32x8192 : S262144.ShapeCasts S32x8192
  reducesTo_S32x8192_S_d0_1 : S32x8192.ReducesTo [0, 1] S_
  h_S_ : 0 < S_.numel
  bcast_S_S2x16x256 : S_.BroadcastsInDim S2x16x256 (![] : Fin 0 → Fin S2x16x256.rank)
  reducesTo_S2x16x256_S_d0_1_2 : S2x16x256.ReducesTo [0, 1, 2] S_

variable [Facts]

def comparator_i32_d1 : BitVec 32 → BitVec 32 → BitVec 1 :=
  fun l r =>
    let v1 := IntOp.cmpi .slt l r
    v1
def fn_sort {F : FTy → Type} [FloatOps F] (arg0 : IVec S32x8192 32) : IVec S32x8192 32 :=
  let v0 : IVec S32x8192 32 := (fun x => Host.sort S32x8192 1 comparator_i32_d1 x) arg0
  v0

def fn {F : FTy → Type} [FloatOps F] (main_arg0 : FVec F S32x8192x128 .f32) (main_arg1 : FVec F S32x8192x128 .f32) (main_arg2 : IVec S32x8192 32) (main_arg3 : IVec S32x8192 32) (main_arg4 : IVec S2x16x256 32) : IVec S_ 1 :=
  let main_v0 : IVec S262144 32 := iotaInDim S262144 32 0
  let main_v1 : IVec S32x8192 32 := shapeCast S32x8192 main_v0 shapeCasts_S262144_S32x8192
  let main_v2 : IVec S32x8192 32 := fn_sort (F := F) main_arg2
  let main_v3 : IVec S32x8192 1 := cmpi .eq main_v2 main_v1
  let main_c : IVec S_ 1 := constantI S_ 1 1#1
  let main_v4 : IVec S_ 1 := (fun x v => Host.reduce IntOp.andi x v reducesTo_S32x8192_S_d0_1 h_S_) main_v3 main_c
  let main_v5 : IVec S32x8192 32 := fn_sort (F := F) main_arg3
  let main_v6 : IVec S32x8192 1 := cmpi .eq main_v5 main_v1
  let main_c_0 : IVec S_ 1 := constantI S_ 1 1#1
  let main_v7 : IVec S_ 1 := (fun x v => Host.reduce IntOp.andi x v reducesTo_S32x8192_S_d0_1 h_S_) main_v6 main_c_0
  let main_c_1 : IVec S_ 32 := constantI S_ 32 0#32
  let main_v8 : IVec S2x16x256 32 := broadcastInDim S2x16x256 ![] bcast_S_S2x16x256 main_c_1
  let main_v9 : IVec S2x16x256 1 := cmpi .sge main_arg4 main_v8
  let main_c_2 : IVec S_ 32 := constantI S_ 32 8192#32
  let main_v10 : IVec S2x16x256 32 := broadcastInDim S2x16x256 ![] bcast_S_S2x16x256 main_c_2
  let main_v11 : IVec S2x16x256 1 := cmpi .slt main_arg4 main_v10
  let main_v12 : IVec S2x16x256 1 := andi main_v9 main_v11
  let main_c_3 : IVec S_ 1 := constantI S_ 1 1#1
  let main_v13 : IVec S_ 1 := (fun x v => Host.reduce IntOp.andi x v reducesTo_S2x16x256_S_d0_1_2 h_S_) main_v12 main_c_3
  let main_v14 : IVec S_ 1 := andi main_v4 main_v7
  let main_v15 : IVec S_ 1 := andi main_v14 main_v13
  main_v15
-- ==== Pre_sorted_positions_of_finite_rows.lean ====
abbrev S32x8192x128 : Shape := ⟨3, ![32, 8192, 128]⟩
abbrev S32x8192 : Shape := ⟨2, ![32, 8192]⟩
abbrev S2x16x256 : Shape := ⟨3, ![2, 16, 256]⟩
abbrev S32x8192x64 : Shape := ⟨3, ![32, 8192, 64]⟩
abbrev S_ : Shape := ⟨0, ![]⟩
abbrev S262144 : Shape := ⟨1, ![262144]⟩

class Facts : Prop where
  slices_S32x8192x128_S32x8192x64_0_0_0 : S32x8192x128.Slices ![0, 0, 0] S32x8192x64
  bcast_S_S32x8192x64 : S_.BroadcastsInDim S32x8192x64 (![] : Fin 0 → Fin S32x8192x64.rank)
  reducesTo_S32x8192x64_S_d0_1_2 : S32x8192x64.ReducesTo [0, 1, 2] S_
  h_S_ : 0 < S_.numel
  shapeCasts_S262144_S32x8192 : S262144.ShapeCasts S32x8192
  reducesTo_S32x8192_S_d0_1 : S32x8192.ReducesTo [0, 1] S_
  bcast_S_S2x16x256 : S_.BroadcastsInDim S2x16x256 (![] : Fin 0 → Fin S2x16x256.rank)
  reducesTo_S2x16x256_S_d0_1_2 : S2x16x256.ReducesTo [0, 1, 2] S_

variable [Facts]

def comparator_i32_d1 : BitVec 32 → BitVec 32 → BitVec 1 :=
  fun l r =>
    let v1 := IntOp.cmpi .slt l r
    v1
def fn_sort {F : FTy → Type} [FloatOps F] (arg0 : IVec S32x8192 32) : IVec S32x8192 32 :=
  let v0 : IVec S32x8192 32 := (fun x => Host.sort S32x8192 1 comparator_i32_d1 x) arg0
  v0

def fn_part1 {F : FTy → Type} [FloatOps F] (main_arg4 : IVec S2x16x256 32) (main_v10 : IVec S_ 1) (main_v15 : IVec S_ 1) (main_v17 : IVec S32x8192 1) (main_c_3 : IVec S_ 1) : IVec S_ 1 :=
  let main_v18 : IVec S_ 1 := (fun x v => Host.reduce IntOp.andi x v reducesTo_S32x8192_S_d0_1 h_S_) main_v17 main_c_3
  let main_c_4 : IVec S_ 32 := constantI S_ 32 0#32
  let main_v19 : IVec S2x16x256 32 := broadcastInDim S2x16x256 ![] bcast_S_S2x16x256 main_c_4
  let main_v20 : IVec S2x16x256 1 := cmpi .sge main_arg4 main_v19
  let main_c_5 : IVec S_ 32 := constantI S_ 32 8192#32
  let main_v21 : IVec S2x16x256 32 := broadcastInDim S2x16x256 ![] bcast_S_S2x16x256 main_c_5
  let main_v22 : IVec S2x16x256 1 := cmpi .slt main_arg4 main_v21
  let main_v23 : IVec S2x16x256 1 := andi main_v20 main_v22
  let main_c_6 : IVec S_ 1 := constantI S_ 1 1#1
  let main_v24 : IVec S_ 1 := (fun x v => Host.reduce IntOp.andi x v reducesTo_S2x16x256_S_d0_1_2 h_S_) main_v23 main_c_6
  let main_v25 : IVec S_ 1 := andi main_v15 main_v18
  let main_v26 : IVec S_ 1 := andi main_v25 main_v24
  let main_v27 : IVec S_ 1 := andi main_v26 main_v10
  main_v27

def fn {F : FTy → Type} [FloatOps F] (main_arg0 : FVec F S32x8192x128 .f32) (main_arg1 : FVec F S32x8192x128 .f32) (main_arg2 : IVec S32x8192 32) (main_arg3 : IVec S32x8192 32) (main_arg4 : IVec S2x16x256 32) : IVec S_ 1 :=
  let main_v0 : FVec F S32x8192x64 .f32 := (extractStridedSlice S32x8192x64 ![0, 0, 0] · slices_S32x8192x128_S32x8192x64_0_0_0) main_arg0
  let main_v1 : FVec F S32x8192x64 .f32 := Host.absf main_v0
  let main_cst : FVec F S_ .f32 := constant S_ .f32 0x7F800000#32
  let main_v2 : FVec F S32x8192x64 .f32 := broadcastInDim S32x8192x64 ![] bcast_S_S32x8192x64 main_cst
  let main_v3 : IVec S32x8192x64 1 := cmpf .olt main_v1 main_v2
  let main_c : IVec S_ 1 := constantI S_ 1 1#1
  let main_v4 : IVec S_ 1 := (fun x v => Host.reduce IntOp.andi x v reducesTo_S32x8192x64_S_d0_1_2 h_S_) main_v3 main_c
  let main_v5 : FVec F S32x8192x64 .f32 := (extractStridedSlice S32x8192x64 ![0, 0, 0] · slices_S32x8192x128_S32x8192x64_0_0_0) main_arg1
  let main_v6 : FVec F S32x8192x64 .f32 := Host.absf main_v5
  let main_cst_0 : FVec F S_ .f32 := constant S_ .f32 0x7F800000#32
  let main_v7 : FVec F S32x8192x64 .f32 := broadcastInDim S32x8192x64 ![] bcast_S_S32x8192x64 main_cst_0
  let main_v8 : IVec S32x8192x64 1 := cmpf .olt main_v6 main_v7
  let main_c_1 : IVec S_ 1 := constantI S_ 1 1#1
  let main_v9 : IVec S_ 1 := (fun x v => Host.reduce IntOp.andi x v reducesTo_S32x8192x64_S_d0_1_2 h_S_) main_v8 main_c_1
  let main_v10 : IVec S_ 1 := andi main_v4 main_v9
  let main_v11 : IVec S262144 32 := iotaInDim S262144 32 0
  let main_v12 : IVec S32x8192 32 := shapeCast S32x8192 main_v11 shapeCasts_S262144_S32x8192
  let main_v13 : IVec S32x8192 32 := fn_sort (F := F) main_arg2
  let main_v14 : IVec S32x8192 1 := cmpi .eq main_v13 main_v12
  let main_c_2 : IVec S_ 1 := constantI S_ 1 1#1
  let main_v15 : IVec S_ 1 := (fun x v => Host.reduce IntOp.andi x v reducesTo_S32x8192_S_d0_1 h_S_) main_v14 main_c_2
  let main_v16 : IVec S32x8192 32 := fn_sort (F := F) main_arg3
  let main_v17 : IVec S32x8192 1 := cmpi .eq main_v16 main_v12
  let main_c_3 : IVec S_ 1 := constantI S_ 1 1#1
  fn_part1 (F := F) main_arg4 main_v10 main_v15 main_v17 main_c_3
-- ==== Kernel.lean ====
abbrev S32x8192x128 : Shape := ⟨3, ![32, 8192, 128]⟩
abbrev S32x8192 : Shape := ⟨2, ![32, 8192]⟩
abbrev S2x16x256 : Shape := ⟨3, ![2, 16, 256]⟩
abbrev S32x256 : Shape := ⟨2, ![32, 256]⟩
abbrev S32x2x128 : Shape := ⟨3, ![32, 2, 128]⟩
abbrev S32x64x128 : Shape := ⟨3, ![32, 64, 128]⟩
abbrev S262144x128 : Shape := ⟨2, ![262144, 128]⟩
abbrev S64x128 : Shape := ⟨2, ![64, 128]⟩
abbrev S256x128 : Shape := ⟨2, ![256, 128]⟩
abbrev S_ : Shape := ⟨0, ![]⟩
abbrev S1x64x128 : Shape := ⟨3, ![1, 64, 128]⟩
abbrev S128x128 : Shape := ⟨2, ![128, 128]⟩
abbrev S1x128 : Shape := ⟨2, ![1, 128]⟩
abbrev S128 : Shape := ⟨1, ![128]⟩
abbrev S8192x128 : Shape := ⟨2, ![8192, 128]⟩
abbrev S2x128 : Shape := ⟨2, ![2, 128]⟩
abbrev S1x2x128 : Shape := ⟨3, ![1, 2, 128]⟩
abbrev S32x256x128 : Shape := ⟨3, ![32, 256, 128]⟩
abbrev S32x1x256 : Shape := ⟨3, ![32, 1, 256]⟩
abbrev S32x32x256x128 : Shape := ⟨4, ![32, 32, 256, 128]⟩
abbrev S32x32x256x64 : Shape := ⟨4, ![32, 32, 256, 64]⟩
abbrev S1x8x256x128 : Shape := ⟨4, ![1, 8, 256, 128]⟩
abbrev S1x256x128 : Shape := ⟨3, ![1, 256, 128]⟩
abbrev S1x1x256 : Shape := ⟨3, ![1, 1, 256]⟩
abbrev S1x8x256x64 : Shape := ⟨4, ![1, 8, 256, 64]⟩
abbrev S256x64 : Shape := ⟨2, ![256, 64]⟩
abbrev S256 : Shape := ⟨1, ![256]⟩
abbrev S1x1x256x128 : Shape := ⟨4, ![1, 1, 256, 128]⟩
abbrev S256x256 : Shape := ⟨2, ![256, 256]⟩
abbrev S256x1 : Shape := ⟨2, ![256, 1]⟩
abbrev S1x256 : Shape := ⟨2, ![1, 256]⟩
abbrev S1x1x256x64 : Shape := ⟨4, ![1, 1, 256, 64]⟩
abbrev S32x8192x64 : Shape := ⟨3, ![32, 8192, 64]⟩
abbrev S262144x64 : Shape := ⟨2, ![262144, 64]⟩
abbrev S262144 : Shape := ⟨1, ![262144]⟩
abbrev S262144x1 : Shape := ⟨2, ![262144, 1]⟩
abbrev S1 : Shape := ⟨1, ![1]⟩
abbrev S1x1 : Shape := ⟨2, ![1, 1]⟩
abbrev S2x16x8192x64 : Shape := ⟨4, ![2, 16, 8192, 64]⟩

abbrev nBuf : Table → Nat
  | .hbm => 48
  | .local .tc .vmem => 10
  | .local .scVector .vmem => 6
  | _ => 0

abbrev bufTy : (tb : Table) → Fin (nBuf tb) → BufTy
  | .hbm, ⟨0, _⟩ => ⟨S32x8192x128, .f32⟩
  | .hbm, ⟨1, _⟩ => ⟨S32x8192x128, .f32⟩
  | .hbm, ⟨2, _⟩ => ⟨S32x8192, .i32⟩
  | .hbm, ⟨3, _⟩ => ⟨S32x8192, .i32⟩
  | .hbm, ⟨4, _⟩ => ⟨S2x16x256, .i32⟩
  | .hbm, ⟨5, _⟩ => ⟨S32x256, .i32⟩
  | .hbm, ⟨6, _⟩ => ⟨S32x2x128, .i32⟩
  | .hbm, ⟨7, _⟩ => ⟨S32x64x128, .i32⟩
  | .hbm, ⟨8, _⟩ => ⟨S262144x128, .f32⟩
  | .hbm, ⟨9, _⟩ => ⟨S262144x128, .f32⟩
  | .hbm, ⟨10, _⟩ => ⟨S32x64x128, .i32⟩
  | .hbm, ⟨11, _⟩ => ⟨S262144x128, .f32⟩
  | .hbm, ⟨12, _⟩ => ⟨S262144x128, .f32⟩
  | .hbm, ⟨13, _⟩ => ⟨S8192x128, .f32⟩
  | .hbm, ⟨14, _⟩ => ⟨S32x8192x128, .f32⟩
  | .hbm, ⟨15, _⟩ => ⟨S32x8192x128, .f32⟩
  | .hbm, ⟨16, _⟩ => ⟨S32x256x128, .f32⟩
  | .hbm, ⟨17, _⟩ => ⟨S32x1x256, .i32⟩
  | .hbm, ⟨18, _⟩ => ⟨S32x32x256x128, .f32⟩
  | .hbm, ⟨19, _⟩ => ⟨S32x32x256x128, .f32⟩
  | .hbm, ⟨20, _⟩ => ⟨S32x32x256x64, .f32⟩
  | .hbm, ⟨21, _⟩ => ⟨S32x8192x64, .f32⟩
  | .hbm, ⟨22, _⟩ => ⟨S262144x64, .f32⟩
  | .hbm, ⟨23, _⟩ => ⟨S262144, .i32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S262144x1, .i32⟩
  | .hbm, ⟨32, _⟩ => ⟨S1, .i32⟩
  | .hbm, ⟨33, _⟩ => ⟨S_, .i32⟩
  | .hbm, ⟨34, _⟩ => ⟨S262144x1, .i32⟩
  | .hbm, ⟨35, _⟩ => ⟨S262144x1, .i1⟩
  | .hbm, ⟨36, _⟩ => ⟨S1x1, .i32⟩
  | .hbm, ⟨37, _⟩ => ⟨S262144x1, .i32⟩
  | .hbm, ⟨38, _⟩ => ⟨S262144x1, .i1⟩
  | .hbm, ⟨39, _⟩ => ⟨S262144x1, .i1⟩
  | .hbm, ⟨40, _⟩ => ⟨S_, .i1⟩
  | .hbm, ⟨41, _⟩ => ⟨S262144, .i1⟩
  | .hbm, ⟨42, _⟩ => ⟨S262144x64, .f32⟩
  | .hbm, ⟨43, _⟩ => ⟨S262144x64, .i1⟩
  | .hbm, ⟨44, _⟩ => ⟨S_, .f32⟩
  | .hbm, ⟨45, _⟩ => ⟨S262144x64, .f32⟩
  | .hbm, ⟨46, _⟩ => ⟨S262144x64, .f32⟩
  | .hbm, ⟨47, _⟩ => ⟨S2x16x8192x64, .f32⟩
  | .local .tc .vmem, ⟨0, _⟩ => ⟨S1x8x256x128, .f32⟩
  | .local .tc .vmem, ⟨1, _⟩ => ⟨S1x8x256x128, .f32⟩
  | .local .tc .vmem, ⟨2, _⟩ => ⟨S1x8x256x128, .f32⟩
  | .local .tc .vmem, ⟨3, _⟩ => ⟨S1x8x256x128, .f32⟩
  | .local .tc .vmem, ⟨4, _⟩ => ⟨S1x256x128, .f32⟩
  | .local .tc .vmem, ⟨5, _⟩ => ⟨S1x256x128, .f32⟩
  | .local .tc .vmem, ⟨6, _⟩ => ⟨S1x1x256, .i32⟩
  | .local .tc .vmem, ⟨7, _⟩ => ⟨S1x1x256, .i32⟩
  | .local .tc .vmem, ⟨8, _⟩ => ⟨S1x8x256x64, .f32⟩
  | .local .tc .vmem, ⟨9, _⟩ => ⟨S1x8x256x64, .f32⟩
  | .local .scVector .vmem, ⟨0, _⟩ => ⟨S64x128, .i32⟩
  | .local .scVector .vmem, ⟨1, _⟩ => ⟨S256x128, .f32⟩
  | .local .scVector .vmem, ⟨2, _⟩ => ⟨S64x128, .i32⟩
  | .local .scVector .vmem, ⟨3, _⟩ => ⟨S256x128, .f32⟩
  | .local .scVector .vmem, ⟨4, _⟩ => ⟨S2x128, .i32⟩
  | .local .scVector .vmem, ⟨5, _⟩ => ⟨S256x128, .f32⟩
  | _, _ => ⟨S32x8192x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v18 : Ref sig .tc := ⟨.hbm, 46, rfl⟩
abbrev main_v19 : Ref sig .tc := ⟨.hbm, 47, rfl⟩
abbrev main_v3_scv : Ref sig .scVector := ⟨.hbm, 8, rfl⟩
abbrev main_v2_scv : Ref sig .scVector := ⟨.hbm, 7, rfl⟩
abbrev main_v4_scv : Ref sig .scVector := ⟨.hbm, 9, rfl⟩
abbrev main_v6_scv : Ref sig .scVector := ⟨.hbm, 11, rfl⟩
abbrev main_v5_scv : Ref sig .scVector := ⟨.hbm, 10, rfl⟩
abbrev main_v1_scv : Ref sig .scVector := ⟨.hbm, 6, rfl⟩
abbrev main_v7_0_scv : Ref sig .scVector := ⟨.hbm, 12, rfl⟩
abbrev main_v7_1_scv : Ref sig .scVector := ⟨.hbm, 13, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg3_1 : Ref sig .tc := ⟨.vmem, 7, rfl⟩
abbrev cc2_stg4_0 : Ref sig .tc := ⟨.vmem, 8, rfl⟩
abbrev cc2_stg4_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scratch3 : Ref sig .scVector := ⟨.vmem, 5, rfl⟩
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k0_t1
  let c256_i32 : BitVec 32 := 256#32
  let v5 : BitVec 32 := Scalar.muli arg8 c256_i32
  let v6 : BitVec 32 := Scalar.addi v2 v5
  let c0_i32_26_r1 : BitVec 32 := 0#32
  ![v6.toNat, 0]
def k0_off3 (k0_t1 : Fin k0_t1_loop.trips) (c0_i32_3 : BitVec 32) : Fin 2 → Nat :=
  let c0_i32_0 : BitVec 32 := 0#32
  let c1_i32 : BitVec 32 := 1#32
  let arg8 : BitVec 32 := Scf.iv c0_i32_0 c1_i32 k0_t1
  let c2_i32_2 : BitVec 32 := 2#32
  let v7 : BitVec 32 := Scalar.muli arg8 c2_i32_2
  let v8 : BitVec 32 := Scalar.addi v7 c0_i32_3
  let c0_i32_6 : BitVec 32 := 0#32
  ![v8.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31_r0 : BitVec 32 := 0#32
  let c0_i32_32_r0 : BitVec 32 := 0#32
  ![v1.toNat, 0, 0]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg12 : BitVec 32 := Scf.iv c0_i32_0 c1_i32 k1_t1
  let c256_i32_31 : BitVec 32 := 256#32
  let v28 : BitVec 32 := Scalar.muli arg12 c256_i32_31
  let v29 : BitVec 32 := Scalar.addi v2 v28
  let c0_i32_57_r1 : BitVec 32 := 0#32
  ![v29.toNat, 0]
def k1_off3 (k1_t1 : Fin k1_t1_loop.trips) (c0_i32_33 : BitVec 32) : Fin 2 → Nat :=
  let c0_i32_0 : BitVec 32 := 0#32
  let c1_i32 : BitVec 32 := 1#32
  let arg12 : BitVec 32 := Scf.iv c0_i32_0 c1_i32 k1_t1
  let c2_i32_32 : BitVec 32 := 2#32
  let v30 : BitVec 32 := Scalar.muli arg12 c2_i32_32
  let v31 : BitVec 32 := Scalar.addi v30 c0_i32_33
  let c0_i32_36 : BitVec 32 := 0#32
  ![v31.toNat, 0]
def k1_off4 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31_r2 : BitVec 32 := 0#32
  let c0_i32_32_r2 : BitVec 32 := 0#32
  ![v1.toNat, 0, 0]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_2 : BitVec 32 := 8192#32
  let v5 : BitVec 32 := Scalar.muli v1 c8192_i32_2
  let c0_i32_7 : BitVec 32 := 0#32
  ![v5.toNat, 0]
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v27 : BitVec 32 := Scalar.muli v1 c256_i32
  let c0_i32_31_r3 : BitVec 32 := 0#32
  ![v27.toNat, 0]
abbrev grid2 : Pipeline.Grid := ⟨2, ![32, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x8x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x256 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x8x256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S32x8192x128 : Shape := ⟨3, ![32, 8192, 128]⟩
abbrev S32x8192 : Shape := ⟨2, ![32, 8192]⟩
abbrev S2x16x256 : Shape := ⟨3, ![2, 16, 256]⟩
abbrev S2x16x8192x128 : Shape := ⟨4, ![2, 16, 8192, 128]⟩
abbrev S2x16x8192x64 : Shape := ⟨4, ![2, 16, 8192, 64]⟩
abbrev S2x16x8192 : Shape := ⟨3, ![2, 16, 8192]⟩
abbrev S32 : Shape := ⟨1, ![32]⟩
abbrev S_ : Shape := ⟨0, ![]⟩
abbrev S2x16x1 : Shape := ⟨3, ![2, 16, 1]⟩
abbrev S2x16x8192x1 : Shape := ⟨4, ![2, 16, 8192, 1]⟩
abbrev S1 : Shape := ⟨1, ![1]⟩
abbrev S1x1x1x1 : Shape := ⟨4, ![1, 1, 1, 1]⟩
abbrev S2x16x32x256x64 : Shape := ⟨5, ![2, 16, 32, 256, 64]⟩
abbrev S2x16x32x256x256 : Shape := ⟨5, ![2, 16, 32, 256, 256]⟩
abbrev S2x16x32x256 : Shape := ⟨4, ![2, 16, 32, 256]⟩
abbrev S2x16x32x256x1 : Shape := ⟨5, ![2, 16, 32, 256, 1]⟩
abbrev S2x16x256x1 : Shape := ⟨4, ![2, 16, 256, 1]⟩
abbrev S2x16x256x64 : Shape := ⟨4, ![2, 16, 256, 64]⟩
abbrev S8192 : Shape := ⟨1, ![8192]⟩
abbrev S1x1x8192x1 : Shape := ⟨4, ![1, 1, 8192, 1]⟩
abbrev S2x16x1x256 : Shape := ⟨4, ![2, 16, 1, 256]⟩
abbrev S2x16x8192x256 : Shape := ⟨4, ![2, 16, 8192, 256]⟩

abbrev nBuf : Space → Nat
  | .hbm => 304
  | .vmem => 0
  | .smem => 0
  | _ => 0

abbrev hbmTy0_0 (i : Nat) : BufTy := match i % 128 with
  | 0 => ⟨S32x8192x128, .f32⟩
  | 1 => ⟨S32x8192x128, .f32⟩
  | 2 => ⟨S32x8192, .i32⟩
  | 3 => ⟨S32x8192, .i32⟩
  | 4 => ⟨S2x16x256, .i32⟩
  | 5 => ⟨S2x16x8192x128, .f32⟩
  | 6 => ⟨S2x16x8192x64, .f32⟩
  | 7 => ⟨S2x16x8192x128, .f32⟩
  | 8 => ⟨S2x16x8192x64, .f32⟩
  | 9 => ⟨S2x16x8192x128, .f32⟩
  | 10 => ⟨S2x16x8192x64, .f32⟩
  | 11 => ⟨S2x16x8192, .i32⟩
  | 12 => ⟨S32, .i32⟩
  | 13 => ⟨S_, .i32⟩
  | 14 => ⟨S32, .i32⟩
  | 15 => ⟨S32, .i32⟩
  | 16 => ⟨S2x16x1, .i32⟩
  | 17 => ⟨S2x16x8192, .i32⟩
  | 18 => ⟨S2x16x8192, .i32⟩
  | 19 => ⟨S2x16x8192, .i32⟩
  | 20 => ⟨S2x16x8192, .i32⟩
  | 21 => ⟨S2x16x8192, .i32⟩
  | 22 => ⟨S2x16x8192, .i32⟩
  | 23 => ⟨S32, .i32⟩
  | 24 => ⟨S_, .i32⟩
  | 25 => ⟨S32, .i32⟩
  | 26 => ⟨S32, .i32⟩
  | 27 => ⟨S2x16x1, .i32⟩
  | 28 => ⟨S2x16x8192, .i32⟩
  | 29 => ⟨S2x16x8192, .i32⟩
  | 30 => ⟨S2x16x8192, .i32⟩
  | 31 => ⟨S2x16x8192, .i32⟩
  | 32 => ⟨S2x16x8192, .i32⟩
  | 33 => ⟨S2x16x8192x1, .i32⟩
  | 34 => ⟨S_, .i32⟩
  | 35 => ⟨S2x16x8192x1, .i32⟩
  | 36 => ⟨S2x16x8192x1, .i1⟩
  | 37 => ⟨S_, .i32⟩
  | 38 => ⟨S2x16x8192x1, .i32⟩
  | 39 => ⟨S2x16x8192x1, .i32⟩
  | 40 => ⟨S2x16x8192x1, .i32⟩
  | 41 => ⟨S1, .i32⟩
  | 42 => ⟨S_, .i32⟩
  | 43 => ⟨S2x16x8192x1, .i32⟩
  | 44 => ⟨S2x16x8192x1, .i1⟩
  | 45 => ⟨S1x1x1x1, .i32⟩
  | 46 => ⟨S2x16x8192x1, .i32⟩
  | 47 => ⟨S2x16x8192x1, .i1⟩
  | 48 => ⟨S2x16x8192x1, .i1⟩
  | 49 => ⟨S_, .i1⟩
  | 50 => ⟨S2x16x8192, .i1⟩
  | 51 => ⟨S2x16x8192x64, .f32⟩
  | 52 => ⟨S2x16x8192x64, .i1⟩
  | 53 => ⟨S_, .f32⟩
  | 54 => ⟨S2x16x8192x64, .f32⟩
  | 55 => ⟨S2x16x8192x64, .f32⟩
  | 56 => ⟨S2x16x8192x1, .i32⟩
  | 57 => ⟨S_, .i32⟩
  | 58 => ⟨S2x16x8192x1, .i32⟩
  | 59 => ⟨S2x16x8192x1, .i1⟩
  | 60 => ⟨S_, .i32⟩
  | 61 => ⟨S2x16x8192x1, .i32⟩
  | 62 => ⟨S2x16x8192x1, .i32⟩
  | 63 => ⟨S2x16x8192x1, .i32⟩
  | 64 => ⟨S1, .i32⟩
  | 65 => ⟨S_, .i32⟩
  | 66 => ⟨S2x16x8192x1, .i32⟩
  | 67 => ⟨S2x16x8192x1, .i1⟩
  | 68 => ⟨S1x1x1x1, .i32⟩
  | 69 => ⟨S2x16x8192x1, .i32⟩
  | 70 => ⟨S2x16x8192x1, .i1⟩
  | 71 => ⟨S2x16x8192x1, .i1⟩
  | 72 => ⟨S_, .i1⟩
  | 73 => ⟨S2x16x8192, .i1⟩
  | 74 => ⟨S2x16x8192x64, .f32⟩
  | 75 => ⟨S2x16x8192x64, .i1⟩
  | 76 => ⟨S_, .f32⟩
  | 77 => ⟨S2x16x8192x64, .f32⟩
  | 78 => ⟨S2x16x8192x64, .f32⟩
  | 79 => ⟨S2x16x8192x1, .i32⟩
  | 80 => ⟨S_, .i32⟩
  | 81 => ⟨S2x16x8192x1, .i32⟩
  | 82 => ⟨S2x16x8192x1, .i1⟩
  | 83 => ⟨S_, .i32⟩
  | 84 => ⟨S2x16x8192x1, .i32⟩
  | 85 => ⟨S2x16x8192x1, .i32⟩
  | 86 => ⟨S2x16x8192x1, .i32⟩
  | 87 => ⟨S1, .i32⟩
  | 88 => ⟨S_, .i32⟩
  | 89 => ⟨S2x16x8192x1, .i32⟩
  | 90 => ⟨S2x16x8192x1, .i1⟩
  | 91 => ⟨S1x1x1x1, .i32⟩
  | 92 => ⟨S2x16x8192x1, .i32⟩
  | 93 => ⟨S2x16x8192x1, .i1⟩
  | 94 => ⟨S2x16x8192x1, .i1⟩
  | 95 => ⟨S_, .i1⟩
  | 96 => ⟨S2x16x8192, .i1⟩
  | 97 => ⟨S2x16x8192x64, .f32⟩
  | 98 => ⟨S2x16x8192x64, .i1⟩
  | 99 => ⟨S_, .f32⟩
  | 100 => ⟨S2x16x8192x64, .f32⟩
  | 101 => ⟨S2x16x8192x64, .f32⟩
  | 102 => ⟨S2x16x32x256x64, .f32⟩
  | 103 => ⟨S2x16x32x256x64, .f32⟩
  | 104 => ⟨S2x16x32x256x64, .f32⟩
  | 105 => ⟨S2x16x32x256x256, .f32⟩
  | 106 => ⟨S_, .f32⟩
  | 107 => ⟨S2x16x32x256x256, .f32⟩
  | 108 => ⟨S2x16x32x256x256, .f32⟩
  | 109 => ⟨S_, .f32⟩
  | 110 => ⟨S2x16x32x256, .f32⟩
  | 111 => ⟨S2x16x32x256x1, .f32⟩
  | 112 => ⟨S2x16x32x256x256, .f32⟩
  | 113 => ⟨S2x16x32x256x256, .f32⟩
  | 114 => ⟨S2x16x32x256x256, .f32⟩
  | 115 => ⟨S_, .f32⟩
  | 116 => ⟨S2x16x32x256, .f32⟩
  | 117 => ⟨S2x16x32x256x1, .f32⟩
  | 118 => ⟨S2x16x32x256x1, .f32⟩
  | 119 => ⟨S2x16x32x256x1, .f32⟩
  | 120 => ⟨S_, .f32⟩
  | 121 => ⟨S2x16x32x256, .f32⟩
  | 122 => ⟨S_, .f32⟩
  | 123 => ⟨S2x16x32x256, .f32⟩
  | 124 => ⟨S2x16x32x256, .f32⟩
  | 125 => ⟨S2x16x32x256x1, .f32⟩
  | 126 => ⟨S2x16x32x256x256, .f32⟩
  | 127 => ⟨S2x16x32x256x256, .f32⟩
  | _ => ⟨S32x8192x128, .f32⟩

abbrev hbmTy0_1 (i : Nat) : BufTy := match i % 128 with
  | 0 => ⟨S2x16x32x256x256, .f32⟩
  | 1 => ⟨S_, .f32⟩
  | 2 => ⟨S2x16x32x256, .f32⟩
  | 3 => ⟨S2x16x32x256x1, .f32⟩
  | 4 => ⟨S2x16x32x256x256, .f32⟩
  | 5 => ⟨S2x16x32x256x256, .f32⟩
  | 6 => ⟨S2x16x32x256x64, .f32⟩
  | 7 => ⟨S2x16x8192x64, .f32⟩
  | 8 => ⟨S2x16x8192x1, .f32⟩
  | 9 => ⟨S2x16x256x1, .i32⟩
  | 10 => ⟨S_, .i32⟩
  | 11 => ⟨S2x16x256x1, .i32⟩
  | 12 => ⟨S2x16x256x1, .i1⟩
  | 13 => ⟨S_, .i32⟩
  | 14 => ⟨S2x16x256x1, .i32⟩
  | 15 => ⟨S2x16x256x1, .i32⟩
  | 16 => ⟨S2x16x256x1, .i32⟩
  | 17 => ⟨S1, .i32⟩
  | 18 => ⟨S_, .i32⟩
  | 19 => ⟨S2x16x256x1, .i32⟩
  | 20 => ⟨S2x16x256x1, .i1⟩
  | 21 => ⟨S1x1x1x1, .i32⟩
  | 22 => ⟨S2x16x256x1, .i32⟩
  | 23 => ⟨S2x16x256x1, .i1⟩
  | 24 => ⟨S2x16x256x1, .i1⟩
  | 25 => ⟨S_, .i1⟩
  | 26 => ⟨S2x16x256, .i1⟩
  | 27 => ⟨S2x16x256x64, .f32⟩
  | 28 => ⟨S2x16x256x64, .i1⟩
  | 29 => ⟨S_, .f32⟩
  | 30 => ⟨S2x16x256x64, .f32⟩
  | 31 => ⟨S2x16x256x64, .f32⟩
  | 32 => ⟨S2x16x256x1, .i32⟩
  | 33 => ⟨S_, .i32⟩
  | 34 => ⟨S2x16x256x1, .i32⟩
  | 35 => ⟨S2x16x256x1, .i1⟩
  | 36 => ⟨S_, .i32⟩
  | 37 => ⟨S2x16x256x1, .i32⟩
  | 38 => ⟨S2x16x256x1, .i32⟩
  | 39 => ⟨S2x16x256x1, .i32⟩
  | 40 => ⟨S1, .i32⟩
  | 41 => ⟨S_, .i32⟩
  | 42 => ⟨S2x16x256x1, .i32⟩
  | 43 => ⟨S2x16x256x1, .i1⟩
  | 44 => ⟨S1x1x1x1, .i32⟩
  | 45 => ⟨S2x16x256x1, .i32⟩
  | 46 => ⟨S2x16x256x1, .i1⟩
  | 47 => ⟨S2x16x256x1, .i1⟩
  | 48 => ⟨S_, .i1⟩
  | 49 => ⟨S2x16x256, .i1⟩
  | 50 => ⟨S2x16x256x64, .f32⟩
  | 51 => ⟨S2x16x256x64, .i1⟩
  | 52 => ⟨S_, .f32⟩
  | 53 => ⟨S2x16x256x64, .f32⟩
  | 54 => ⟨S2x16x256x64, .f32⟩
  | 55 => ⟨S8192, .i32⟩
  | 56 => ⟨S_, .i32⟩
  | 57 => ⟨S_, .i32⟩
  | 58 => ⟨S8192, .i32⟩
  | 59 => ⟨S8192, .i32⟩
  | 60 => ⟨S8192, .i32⟩
  | 61 => ⟨S_, .i32⟩
  | 62 => ⟨S8192, .i32⟩
  | 63 => ⟨S8192, .i1⟩
  | 64 => ⟨S8192, .i32⟩
  | 65 => ⟨S8192, .i32⟩
  | 66 => ⟨S_, .i32⟩
  | 67 => ⟨S8192, .i32⟩
  | 68 => ⟨S8192, .i1⟩
  | 69 => ⟨S8192, .i1⟩
  | 70 => ⟨S_, .i32⟩
  | 71 => ⟨S8192, .i32⟩
  | 72 => ⟨S8192, .i32⟩
  | 73 => ⟨S8192, .i32⟩
  | 74 => ⟨S1x1x8192x1, .i32⟩
  | 75 => ⟨S_, .i32⟩
  | 76 => ⟨S_, .i32⟩
  | 77 => ⟨S2x16x256, .i32⟩
  | 78 => ⟨S2x16x256, .i32⟩
  | 79 => ⟨S2x16x256, .i32⟩
  | 80 => ⟨S_, .i32⟩
  | 81 => ⟨S2x16x256, .i32⟩
  | 82 => ⟨S2x16x256, .i1⟩
  | 83 => ⟨S2x16x256, .i32⟩
  | 84 => ⟨S2x16x256, .i32⟩
  | 85 => ⟨S_, .i32⟩
  | 86 => ⟨S2x16x256, .i32⟩
  | 87 => ⟨S2x16x256, .i1⟩
  | 88 => ⟨S2x16x256, .i1⟩
  | 89 => ⟨S_, .i32⟩
  | 90 => ⟨S2x16x256, .i32⟩
  | 91 => ⟨S2x16x256, .i32⟩
  | 92 => ⟨S2x16x256, .i32⟩
  | 93 => ⟨S2x16x1x256, .i32⟩
  | 94 => ⟨S2x16x8192x256, .i32⟩
  | 95 => ⟨S2x16x8192x256, .i32⟩
  | 96 => ⟨S2x16x8192x256, .i1⟩
  | 97 => ⟨S_, .f32⟩
  | 98 => ⟨S_, .f32⟩
  | 99 => ⟨S_, .f32⟩
  | 100 => ⟨S2x16x8192x256, .f32⟩
  | 101 => ⟨S2x16x8192x256, .f32⟩
  | 102 => ⟨S2x16x8192x256, .f32⟩
  | 103 => ⟨S2x16x8192x256, .f32⟩
  | 104 => ⟨S_, .f32⟩
  | 105 => ⟨S2x16x8192x256, .f32⟩
  | 106 => ⟨S2x16x8192x256, .f32⟩
  | 107 => ⟨S2x16x8192x256, .f32⟩
  | 108 => ⟨S_, .f32⟩
  | 109 => ⟨S2x16x8192, .f32⟩
  | 110 => ⟨S2x16x8192x1, .f32⟩
  | 111 => ⟨S2x16x8192x256, .f32⟩
  | 112 => ⟨S2x16x8192x256, .f32⟩
  | 113 => ⟨S2x16x8192x256, .f32⟩
  | 114 => ⟨S_, .f32⟩
  | 115 => ⟨S2x16x8192, .f32⟩
  | 116 => ⟨S2x16x8192x1, .f32⟩
  | 117 => ⟨S2x16x8192x1, .f32⟩
  | 118 => ⟨S2x16x8192x1, .f32⟩
  | 119 => ⟨S_, .f32⟩
  | 120 => ⟨S2x16x8192x1, .f32⟩
  | 121 => ⟨S2x16x8192x1, .f32⟩
  | 122 => ⟨S_, .f32⟩
  | 123 => ⟨S2x16x8192, .f32⟩
  | 124 => ⟨S_, .f32⟩
  | 125 => ⟨S2x16x8192, .f32⟩
  | 126 => ⟨S2x16x8192, .f32⟩
  | 127 => ⟨S2x16x8192x1, .f32⟩
  | _ => ⟨S32x8192x128, .f32⟩

abbrev hbmTy0_2 (i : Nat) : BufTy := match i % 128 with
  | 0 => ⟨S2x16x8192x256, .f32⟩
  | 1 => ⟨S2x16x8192x256, .f32⟩
  | 2 => ⟨S2x16x8192x256, .f32⟩
  | 3 => ⟨S_, .f32⟩
  | 4 => ⟨S2x16x8192, .f32⟩
  | 5 => ⟨S2x16x8192x1, .f32⟩
  | 6 => ⟨S2x16x8192x256, .f32⟩
  | 7 => ⟨S2x16x8192x256, .f32⟩
  | 8 => ⟨S2x16x8192x64, .f32⟩
  | 9 => ⟨S2x16x8192x1, .f32⟩
  | 10 => ⟨S2x16x8192x1, .f32⟩
  | 11 => ⟨S_, .f32⟩
  | 12 => ⟨S2x16x8192x1, .f32⟩
  | 13 => ⟨S2x16x8192x1, .f32⟩
  | 14 => ⟨S_, .f32⟩
  | 15 => ⟨S2x16x8192x1, .f32⟩
  | 16 => ⟨S2x16x8192x1, .f32⟩
  | 17 => ⟨S2x16x8192x64, .f32⟩
  | 18 => ⟨S2x16x8192x64, .f32⟩
  | 19 => ⟨S_, .f32⟩
  | 20 => ⟨S2x16x8192x1, .f32⟩
  | 21 => ⟨S2x16x8192x1, .f32⟩
  | 22 => ⟨S2x16x8192x64, .f32⟩
  | 23 => ⟨S2x16x8192x64, .f32⟩
  | 24 => ⟨S2x16x8192x64, .f32⟩
  | 25 => ⟨S2x16x8192x1, .i32⟩
  | 26 => ⟨S_, .i32⟩
  | 27 => ⟨S2x16x8192x1, .i32⟩
  | 28 => ⟨S2x16x8192x1, .i1⟩
  | 29 => ⟨S_, .i32⟩
  | 30 => ⟨S2x16x8192x1, .i32⟩
  | 31 => ⟨S2x16x8192x1, .i32⟩
  | 32 => ⟨S2x16x8192x1, .i32⟩
  | 33 => ⟨S1, .i32⟩
  | 34 => ⟨S_, .i32⟩
  | 35 => ⟨S2x16x8192x1, .i32⟩
  | 36 => ⟨S2x16x8192x1, .i1⟩
  | 37 => ⟨S1x1x1x1, .i32⟩
  | 38 => ⟨S2x16x8192x1, .i32⟩
  | 39 => ⟨S2x16x8192x1, .i1⟩
  | 40 => ⟨S2x16x8192x1, .i1⟩
  | 41 => ⟨S_, .i1⟩
  | 42 => ⟨S2x16x8192, .i1⟩
  | 43 => ⟨S2x16x8192x64, .f32⟩
  | 44 => ⟨S2x16x8192x64, .i1⟩
  | 45 => ⟨S_, .f32⟩
  | 46 => ⟨S2x16x8192x64, .f32⟩
  | 47 => ⟨S2x16x8192x64, .f32⟩
  | _ => ⟨S32x8192x128, .f32⟩

abbrev hbmTy (i : Nat) : BufTy := match i / 128 with
  | 0 => hbmTy0_0 i
  | 1 => hbmTy0_1 i
  | 2 => hbmTy0_2 i
  | _ => ⟨S32x8192x128, .f32⟩

abbrev bufTy : (tb : Table) → Fin (tcTables nBuf tb) → BufTy
  | .hbm, ⟨i, _⟩ => hbmTy i
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_v0 : Ref sig .tc := ⟨.hbm, 30, rfl⟩
abbrev main_call1_v1_0 : Ref sig .tc := ⟨.hbm, 31, rfl⟩
abbrev main_v21 : Ref sig .tc := ⟨.hbm, 32, rfl⟩
abbrev main_v22 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_c_2 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_c_3 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v23 : Ref sig .tc := ⟨.hbm, 55, rfl⟩
abbrev main_v24 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_1 : Ref sig .tc := ⟨.hbm, 64, rfl⟩
abbrev main_call3_c_2 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_c_3 : Ref sig .tc := ⟨.hbm, 72, rfl⟩
abbrev main_call3_v11 : Ref sig .tc := ⟨.hbm, 73, rfl⟩
abbrev main_call3_v12 : Ref sig .tc := ⟨.hbm, 74, rfl⟩
abbrev main_call3_v13 : Ref sig .tc := ⟨.hbm, 75, rfl⟩
abbrev main_call3_cst : Ref sig .tc := ⟨.hbm, 76, rfl⟩
abbrev main_call3_v14 : Ref sig .tc := ⟨.hbm, 77, rfl⟩
abbrev main_v25 : Ref sig .tc := ⟨.hbm, 78, rfl⟩
abbrev main_v26 : Ref sig .tc := ⟨.hbm, 79, rfl⟩
abbrev main_call4_c : Ref sig .tc := ⟨.hbm, 80, rfl⟩
abbrev main_call4_v0 : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_c_1 : Ref sig .tc := ⟨.hbm, 87, rfl⟩
abbrev main_call4_c_2 : Ref sig .tc := ⟨.hbm, 88, rfl⟩
abbrev main_call4_v5 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_v9 : Ref sig .tc := ⟨.hbm, 93, rfl⟩
abbrev main_call4_v10 : Ref sig .tc := ⟨.hbm, 94, rfl⟩
abbrev main_call4_c_3 : Ref sig .tc := ⟨.hbm, 95, rfl⟩
abbrev main_call4_v11 : Ref sig .tc := ⟨.hbm, 96, rfl⟩
abbrev main_call4_v12 : Ref sig .tc := ⟨.hbm, 97, rfl⟩
abbrev main_call4_v13 : Ref sig .tc := ⟨.hbm, 98, rfl⟩
abbrev main_call4_cst : Ref sig .tc := ⟨.hbm, 99, rfl⟩
abbrev main_call4_v14 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_cst : Ref sig .tc := ⟨.hbm, 106, rfl⟩
abbrev main_v32 : Ref sig .tc := ⟨.hbm, 107, rfl⟩
abbrev main_v33 : Ref sig .tc := ⟨.hbm, 108, rfl⟩
abbrev main_cst_1 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_cst_2 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_cst_3 : Ref sig .tc := ⟨.hbm, 120, rfl⟩
abbrev main_v43 : Ref sig .tc := ⟨.hbm, 121, rfl⟩
abbrev main_cst_4 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_cst_5 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_c_1 : Ref sig .tc := ⟨.hbm, 145, rfl⟩
abbrev main_call5_c_2 : Ref sig .tc := ⟨.hbm, 146, rfl⟩
abbrev main_call5_v5 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_c_3 : Ref sig .tc := ⟨.hbm, 153, rfl⟩
abbrev main_call5_v11 : Ref sig .tc := ⟨.hbm, 154, rfl⟩
abbrev main_call5_v12 : Ref sig .tc := ⟨.hbm, 155, rfl⟩
abbrev main_call5_v13 : Ref sig .tc := ⟨.hbm, 156, rfl⟩
abbrev main_call5_cst : Ref sig .tc := ⟨.hbm, 157, rfl⟩
abbrev main_call5_v14 : Ref sig .tc := ⟨.hbm, 158, rfl⟩
abbrev main_v58 : Ref sig .tc := ⟨.hbm, 159, rfl⟩
abbrev main_v59 : Ref sig .tc := ⟨.hbm, 160, rfl⟩
abbrev main_call6_c : Ref sig .tc := ⟨.hbm, 161, rfl⟩
abbrev main_call6_v0 : Ref sig .tc := ⟨.hbm, 162, rfl⟩
abbrev main_call6_v1 : Ref sig .tc := ⟨.hbm, 163, rfl⟩
abbrev main_call6_c_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_c_1 : Ref sig .tc := ⟨.hbm, 168, rfl⟩
abbrev main_call6_c_2 : Ref sig .tc := ⟨.hbm, 169, rfl⟩
abbrev main_call6_v5 : Ref sig .tc := ⟨.hbm, 170, rfl⟩
abbrev main_call6_v6 : Ref sig .tc := ⟨.hbm, 171, rfl⟩
abbrev main_call6_v7 : Ref sig .tc := ⟨.hbm, 172, rfl⟩
abbrev main_call6_v8 : Ref sig .tc := ⟨.hbm, 173, rfl⟩
abbrev main_call6_v9 : Ref sig .tc := ⟨.hbm, 174, rfl⟩
abbrev main_call6_v10 : Ref sig .tc := ⟨.hbm, 175, rfl⟩
abbrev main_call6_c_3 : Ref sig .tc := ⟨.hbm, 176, rfl⟩
abbrev main_call6_v11 : Ref sig .tc := ⟨.hbm, 177, rfl⟩
abbrev main_call6_v12 : Ref sig .tc := ⟨.hbm, 178, rfl⟩
abbrev main_call6_v13 : Ref sig .tc := ⟨.hbm, 179, rfl⟩
abbrev main_call6_cst : Ref sig .tc := ⟨.hbm, 180, rfl⟩
abbrev main_call6_v14 : Ref sig .tc := ⟨.hbm, 181, rfl⟩
abbrev main_v60 : Ref sig .tc := ⟨.hbm, 182, rfl⟩
abbrev main_v61 : Ref sig .tc := ⟨.hbm, 183, rfl⟩
abbrev main_c_6 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_call7_v5 : Ref sig .tc := ⟨.hbm, 190, rfl⟩
abbrev main_call7_v6 : Ref sig .tc := ⟨.hbm, 191, rfl⟩
abbrev main_call7_v7 : Ref sig .tc := ⟨.hbm, 192, rfl⟩
abbrev main_call7_v8 : Ref sig .tc := ⟨.hbm, 193, rfl⟩
abbrev main_call7_c : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_c_0 : Ref sig .tc := ⟨.hbm, 198, rfl⟩
abbrev main_call7_v12 : Ref sig .tc := ⟨.hbm, 199, rfl⟩
abbrev main_call7_v13 : Ref sig .tc := ⟨.hbm, 200, rfl⟩
abbrev main_v62 : Ref sig .tc := ⟨.hbm, 201, rfl⟩
abbrev main_v63 : Ref sig .tc := ⟨.hbm, 202, rfl⟩
abbrev main_c_7 : Ref sig .tc := ⟨.hbm, 203, rfl⟩
abbrev main_call8_v0 : Ref sig .tc := ⟨.hbm, 204, rfl⟩
abbrev main_call8_v1 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_call8_v5 : Ref sig .tc := ⟨.hbm, 209, rfl⟩
abbrev main_call8_v6 : Ref sig .tc := ⟨.hbm, 210, rfl⟩
abbrev main_call8_v7 : Ref sig .tc := ⟨.hbm, 211, rfl⟩
abbrev main_call8_v8 : Ref sig .tc := ⟨.hbm, 212, rfl⟩
abbrev main_call8_c : Ref sig .tc := ⟨.hbm, 213, rfl⟩
abbrev main_call8_v9 : Ref sig .tc := ⟨.hbm, 214, rfl⟩
abbrev main_call8_v10 : Ref sig .tc := ⟨.hbm, 215, rfl⟩
abbrev main_call8_v11 : Ref sig .tc := ⟨.hbm, 216, rfl⟩
abbrev main_call8_c_0 : Ref sig .tc := ⟨.hbm, 217, rfl⟩
abbrev main_call8_v12 : Ref sig .tc := ⟨.hbm, 218, rfl⟩
abbrev main_call8_v13 : Ref sig .tc := ⟨.hbm, 219, rfl⟩
abbrev main_v64 : Ref sig .tc := ⟨.hbm, 220, rfl⟩
abbrev main_v65 : Ref sig .tc := ⟨.hbm, 221, rfl⟩
abbrev main_v66 : Ref sig .tc := ⟨.hbm, 222, rfl⟩
abbrev main_v67 : Ref sig .tc := ⟨.hbm, 223, rfl⟩
abbrev main_v68 : Ref sig .tc := ⟨.hbm, 224, rfl⟩
abbrev main_cst_8 : Ref sig .tc := ⟨.hbm, 225, rfl⟩
abbrev main_cst_9 : Ref sig .tc := ⟨.hbm, 226, rfl⟩
abbrev main_call9_v0 : Ref sig .tc := ⟨.hbm, 227, rfl⟩
abbrev main_call9_v1 : Ref sig .tc := ⟨.hbm, 228, rfl⟩
abbrev main_call9_v2 : Ref sig .tc := ⟨.hbm, 229, rfl⟩
abbrev main_v69 : Ref sig .tc := ⟨.hbm, 230, rfl⟩
abbrev main_v70 : Ref sig .tc := ⟨.hbm, 231, rfl⟩
abbrev main_cst_10 : Ref sig .tc := ⟨.hbm, 232, rfl⟩
abbrev main_v71 : Ref sig .tc := ⟨.hbm, 233, rfl⟩
abbrev main_v72 : Ref sig .tc := ⟨.hbm, 234, rfl⟩
abbrev main_v73 : Ref sig .tc := ⟨.hbm, 235, rfl⟩
abbrev main_cst_11 : Ref sig .tc := ⟨.hbm, 236, rfl⟩
abbrev main_v74 : Ref sig .tc := ⟨.hbm, 237, rfl⟩
abbrev main_v75 : Ref sig .tc := ⟨.hbm, 238, rfl⟩
abbrev main_v76 : Ref sig .tc := ⟨.hbm, 239, rfl⟩
abbrev main_v77 : Ref sig .tc := ⟨.hbm, 240, rfl⟩
abbrev main_v78 : Ref sig .tc := ⟨.hbm, 241, rfl⟩
abbrev main_cst_12 : Ref sig .tc := ⟨.hbm, 242, rfl⟩
abbrev main_v79 : Ref sig .tc := ⟨.hbm, 243, rfl⟩
abbrev main_v80 : Ref sig .tc := ⟨.hbm, 244, rfl⟩
abbrev main_v81 : Ref sig .tc := ⟨.hbm, 245, rfl⟩
abbrev main_v82 : Ref sig .tc := ⟨.hbm, 246, rfl⟩
abbrev main_cst_13 : Ref sig .tc := ⟨.hbm, 247, rfl⟩
abbrev main_v83 : Ref sig .tc := ⟨.hbm, 248, rfl⟩
abbrev main_v84 : Ref sig .tc := ⟨.hbm, 249, rfl⟩
abbrev main_cst_14 : Ref sig .tc := ⟨.hbm, 250, rfl⟩
abbrev main_v85 : Ref sig .tc := ⟨.hbm, 251, rfl⟩
abbrev main_cst_15 : Ref sig .tc := ⟨.hbm, 252, rfl⟩
abbrev main_v86 : Ref sig .tc := ⟨.hbm, 253, rfl⟩
abbrev main_v87 : Ref sig .tc := ⟨.hbm, 254, rfl⟩
abbrev main_v88 : Ref sig .tc := ⟨.hbm, 255, rfl⟩
abbrev main_v89 : Ref sig .tc := ⟨.hbm, 256, rfl⟩
abbrev main_v90 : Ref sig .tc := ⟨.hbm, 257, rfl⟩
abbrev main_v91 : Ref sig .tc := ⟨.hbm, 258, rfl⟩
abbrev main_cst_16 : Ref sig .tc := ⟨.hbm, 259, rfl⟩
abbrev main_v92 : Ref sig .tc := ⟨.hbm, 260, rfl⟩
abbrev main_v93 : Ref sig .tc := ⟨.hbm, 261, rfl⟩
abbrev main_v94 : Ref sig .tc := ⟨.hbm, 262, rfl⟩
abbrev main_v95 : Ref sig .tc := ⟨.hbm, 263, rfl⟩
abbrev main_v96 : Ref sig .tc := ⟨.hbm, 264, rfl⟩
abbrev main_v97 : Ref sig .tc := ⟨.hbm, 265, rfl⟩
abbrev main_v98 : Ref sig .tc := ⟨.hbm, 266, rfl⟩
abbrev main_cst_17 : Ref sig .tc := ⟨.hbm, 267, rfl⟩
abbrev main_v99 : Ref sig .tc := ⟨.hbm, 268, rfl⟩
abbrev main_v100 : Ref sig .tc := ⟨.hbm, 269, rfl⟩
abbrev main_cst_18 : Ref sig .tc := ⟨.hbm, 270, rfl⟩
abbrev main_v101 : Ref sig .tc := ⟨.hbm, 271, rfl⟩
abbrev main_v102 : Ref sig .tc := ⟨.hbm, 272, rfl⟩
abbrev main_v103 : Ref sig .tc := ⟨.hbm, 273, rfl⟩
abbrev main_v104 : Ref sig .tc := ⟨.hbm, 274, rfl⟩
abbrev main_cst_19 : Ref sig .tc := ⟨.hbm, 275, rfl⟩
abbrev main_v105 : Ref sig .tc := ⟨.hbm, 276, rfl⟩
abbrev main_v106 : Ref sig .tc := ⟨.hbm, 277, rfl⟩
abbrev main_v107 : Ref sig .tc := ⟨.hbm, 278, rfl⟩
abbrev main_v108 : Ref sig .tc := ⟨.hbm, 279, rfl⟩
abbrev main_v109 : Ref sig .tc := ⟨.hbm, 280, rfl⟩
abbrev main_v110 : Ref sig .tc := ⟨.hbm, 281, rfl⟩
abbrev main_call10_c : Ref sig .tc := ⟨.hbm, 282, rfl⟩
abbrev main_call10_v0 : Ref sig .tc := ⟨.hbm, 283, rfl⟩
abbrev main_call10_v1 : Ref sig .tc := ⟨.hbm, 284, rfl⟩
abbrev main_call10_c_0 : Ref sig .tc := ⟨.hbm, 285, rfl⟩
abbrev main_call10_v2 : Ref sig .tc := ⟨.hbm, 286, rfl⟩
abbrev main_call10_v3 : Ref sig .tc := ⟨.hbm, 287, rfl⟩
abbrev main_call10_v4 : Ref sig .tc := ⟨.hbm, 288, rfl⟩
abbrev main_call10_c_1 : Ref sig .tc := ⟨.hbm, 289, rfl⟩
abbrev main_call10_c_2 : Ref sig .tc := ⟨.hbm, 290, rfl⟩
abbrev main_call10_v5 : Ref sig .tc := ⟨.hbm, 291, rfl⟩
abbrev main_call10_v6 : Ref sig .tc := ⟨.hbm, 292, rfl⟩
abbrev main_call10_v7 : Ref sig .tc := ⟨.hbm, 293, rfl⟩
abbrev main_call10_v8 : Ref sig .tc := ⟨.hbm, 294, rfl⟩
abbrev main_call10_v9 : Ref sig .tc := ⟨.hbm, 295, rfl⟩
abbrev main_call10_v10 : Ref sig .tc := ⟨.hbm, 296, rfl⟩
abbrev main_call10_c_3 : Ref sig .tc := ⟨.hbm, 297, rfl⟩
abbrev main_call10_v11 : Ref sig .tc := ⟨.hbm, 298, rfl⟩
abbrev main_call10_v12 : Ref sig .tc := ⟨.hbm, 299, rfl⟩
abbrev main_call10_v13 : Ref sig .tc := ⟨.hbm, 300, rfl⟩
abbrev main_call10_cst : Ref sig .tc := ⟨.hbm, 301, rfl⟩
abbrev main_call10_v14 : Ref sig .tc := ⟨.hbm, 302, rfl⟩
abbrev main_v111 : Ref sig .tc := ⟨.hbm, 303, rfl⟩

abbrev nD : Nat := 1
abbrev τ : Topo := Topo.v7x

variable {F : FTy → Type} [FloatOps F]
-- ==== Proof.Common.lean ====
/- The program as the launch theorem sees it, and the words of the handshakes' resources. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sort

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 1) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
/-- The ghost state: the handshakes' rounds, the staging cells' rounds and the counters of the tiles' own copies. -/
abbrev UU : Type := UH × (UP × Counters)
abbrev EH : Emb UH (MT nD τ sig (HIx 2) (Elt F) ℕ UU ℕ) := embL
abbrev EP : Emb UP (MT nD τ sig (HIx 2) (Elt F) ℕ UU ℕ) := (Emb.inl : Emb UP (UP × Counters)).trans embR
instance EP_landsIn : (EP (F := F)).LandsIn upEmb := by unfold EP; infer_instance

/-- The vector subcore that runs the tile of coordinates `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's number, as the kernel reckons it. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

end Cert.Proof.Sort

end
-- ==== Proof.Attn.lean ====
/- The attention call's body on whole staging buffers: its eight stores, block by block, as one value. -/
module

public import proofs.«01_k».proof.Proof.Common
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring

@[expose] public section

set_option maxRecDepth 16384

noncomputable section

namespace Cert.Proof.Sort

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-! ## One block -/

/-- What the body stores for one block of 256 query rows: block number `nb`, the block's query rows `q` and key-value
    rows `k`, the sampled rows `x2` and the sampled row numbers `x3`. -/
def blockOut (nb : BitVec 32) (q k : Vec F S1x1x256x128 .f32) (x2 : Vec F S1x256x128 .f32) (x3 : Vec F S1x1x256 .i32) :
    FVec F S1x1x256x64 .f32 :=
  k2_pay19 (k2_pay15 (k2_pay3 x2) (k2_pay5 x3) nb (k2_pay6 q))
    (k2_pay16 (k2_pay3 x2) (k2_pay4 x2) (k2_pay5 x3) nb (k2_pay6 q))
    (k2_pay17 (k2_pay3 x2) (k2_pay5 x3) nb (k2_pay6 q) k)
    (k2_pay18 (k2_pay3 x2) (k2_pay5 x3) nb (k2_pay6 q) k)
    (Scalar.ofBits .f32 0x3F800000#32)

/-- The number of the `j`-th block of grid point `i`. -/
abbrev nbOf (i : grid2.Coords) (j : ℕ) : BitVec 32 := Scalar.addi (Scalar.muli (BitVec.ofNat 32 (i 1).val) 8#32) (BitVec.ofNat 32 j)

abbrev rS : Rect S1x256x128 := Rect.unit (s := S1x256x128) ![0, 0, 0] S1x256x128.size inb_S1x256x128_S1x256x128_0_0_0
abbrev rB : Rect S1x1x256 := Rect.unit (s := S1x1x256) ![0, 0, 0] S1x1x256.size inb_S1x1x256_S1x1x256_0_0_0
abbrev rQ0 : Rect S1x8x256x128 := Rect.unit (s := S1x8x256x128) ![0, 0, 0, 0] S1x1x256x128.size inb_S1x8x256x128_S1x1x256x128_0_0_0_0
abbrev rO0 : Rect S1x8x256x64 := Rect.unit (s := S1x8x256x64) ![0, 0, 0, 0] S1x1x256x64.size inb_S1x8x256x64_S1x1x256x64_0_0_0_0
abbrev rQ1 : Rect S1x8x256x128 := Rect.unit (s := S1x8x256x128) ![0, 1, 0, 0] S1x1x256x128.size inb_S1x8x256x128_S1x1x256x128_0_1_0_0
abbrev rO1 : Rect S1x8x256x64 := Rect.unit (s := S1x8x256x64) ![0, 1, 0, 0] S1x1x256x64.size inb_S1x8x256x64_S1x1x256x64_0_1_0_0
abbrev rQ2 : Rect S1x8x256x128 := Rect.unit (s := S1x8x256x128) ![0, 2, 0, 0] S1x1x256x128.size inb_S1x8x256x128_S1x1x256x128_0_2_0_0
abbrev rO2 : Rect S1x8x256x64 := Rect.unit (s := S1x8x256x64) ![0, 2, 0, 0] S1x1x256x64.size inb_S1x8x256x64_S1x1x256x64_0_2_0_0
abbrev rQ3 : Rect S1x8x256x128 := Rect.unit (s := S1x8x256x128) ![0, 3, 0, 0] S1x1x256x128.size inb_S1x8x256x128_S1x1x256x128_0_3_0_0
abbrev rO3 : Rect S1x8x256x64 := Rect.unit (s := S1x8x256x64) ![0, 3, 0, 0] S1x1x256x64.size inb_S1x8x256x64_S1x1x256x64_0_3_0_0
abbrev rQ4 : Rect S1x8x256x128 := Rect.unit (s := S1x8x256x128) ![0, 4, 0, 0] S1x1x256x128.size inb_S1x8x256x128_S1x1x256x128_0_4_0_0
abbrev rO4 : Rect S1x8x256x64 := Rect.unit (s := S1x8x256x64) ![0, 4, 0, 0] S1x1x256x64.size inb_S1x8x256x64_S1x1x256x64_0_4_0_0
abbrev rQ5 : Rect S1x8x256x128 := Rect.unit (s := S1x8x256x128) ![0, 5, 0, 0] S1x1x256x128.size inb_S1x8x256x128_S1x1x256x128_0_5_0_0
abbrev rO5 : Rect S1x8x256x64 := Rect.unit (s := S1x8x256x64) ![0, 5, 0, 0] S1x1x256x64.size inb_S1x8x256x64_S1x1x256x64_0_5_0_0
abbrev rQ6 : Rect S1x8x256x128 := Rect.unit (s := S1x8x256x128) ![0, 6, 0, 0] S1x1x256x128.size inb_S1x8x256x128_S1x1x256x128_0_6_0_0
abbrev rO6 : Rect S1x8x256x64 := Rect.unit (s := S1x8x256x64) ![0, 6, 0, 0] S1x1x256x64.size inb_S1x8x256x64_S1x1x256x64_0_6_0_0
abbrev rQ7 : Rect S1x8x256x128 := Rect.unit (s := S1x8x256x128) ![0, 7, 0, 0] S1x1x256x128.size inb_S1x8x256x128_S1x1x256x128_0_7_0_0
abbrev rO7 : Rect S1x8x256x64 := Rect.unit (s := S1x8x256x64) ![0, 7, 0, 0] S1x1x256x64.size inb_S1x8x256x64_S1x1x256x64_0_7_0_0

/-- The output's staging buffer after the body, from the four input blocks. -/
def attnOut (i : grid2.Coords) (x0 x1 : Vec F S1x8x256x128 .f32) (x2 : Vec F S1x256x128 .f32) (x3 : Vec F S1x1x256 .i32) : Vec F S1x8x256x64 .f32 :=
  View.canon [⟨rO7, blockOut (nbOf i 7) (View.ld x0 rQ7) (View.ld x1 rQ7) (View.ld x2 rS) (View.ld x3 rB)⟩, ⟨rO6, blockOut (nbOf i 6) (View.ld x0 rQ6) (View.ld x1 rQ6) (View.ld x2 rS) (View.ld x3 rB)⟩, ⟨rO5, blockOut (nbOf i 5) (View.ld x0 rQ5) (View.ld x1 rQ5) (View.ld x2 rS) (View.ld x3 rB)⟩, ⟨rO4, blockOut (nbOf i 4) (View.ld x0 rQ4) (View.ld x1 rQ4) (View.ld x2 rS) (View.ld x3 rB)⟩, ⟨rO3, blockOut (nbOf i 3) (View.ld x0 rQ3) (View.ld x1 rQ3) (View.ld x2 rS) (View.ld x3 rB)⟩, ⟨rO2, blockOut (nbOf i 2) (View.ld x0 rQ2) (View.ld x1 rQ2) (View.ld x2 rS) (View.ld x3 rB)⟩, ⟨rO1, blockOut (nbOf i 1) (View.ld x0 rQ1) (View.ld x1 rQ1) (View.ld x2 rS) (View.ld x3 rB)⟩, ⟨rO0, blockOut (nbOf i 0) (View.ld x0 rQ0) (View.ld x1 rQ0) (View.ld x2 rS) (View.ld x3 rB)⟩]

theorem attn_cover (p0 : Vec F S1x1x256x64 .f32) (p1 : Vec F S1x1x256x64 .f32) (p2 : Vec F S1x1x256x64 .f32) (p3 : Vec F S1x1x256x64 .f32) (p4 : Vec F S1x1x256x64 .f32) (p5 : Vec F S1x1x256x64 .f32) (p6 : Vec F S1x1x256x64 .f32) (p7 : Vec F S1x1x256x64 .f32) (y : S1x8x256x64.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x8x256x64 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩] S1x1x256x64.size (by rfl) y

/-! ## The stores, block by block, are that one value -/

set_option maxHeartbeats 4000000

theorem block1_eq (i : grid2.Coords) (q k : Vec F S1x1x256x128 .f32) (x2 : Vec F S1x256x128 .f32) (x3 : Vec F S1x1x256 .i32) :
    k2_pay30 (k2_pay4 x2) (k2_pay25 q k) (k2_pay26 q k) (k2_pay27 q k) (k2_pay28 (k2_pay3 x2) q) (k2_pay29 (BitVec.ofNat 32 (i 1).val) (k2_pay5 x3))
      (Scalar.ofBits .f32 0xFF7FFFFF#32) = blockOut (nbOf i 1) q k x2 x3 := rfl
theorem block2_eq (nb : BitVec 32) (q k : Vec F S1x1x256x128 .f32) (x2 : Vec F S1x256x128 .f32) (x3 : Vec F S1x1x256 .i32) :
    k2_pay44 (k2_pay40 (k2_pay3 x2) (k2_pay5 x3) nb (k2_pay31 q)) (k2_pay41 (k2_pay3 x2) (k2_pay4 x2) (k2_pay5 x3) nb (k2_pay31 q))
      (k2_pay42 (k2_pay3 x2) (k2_pay5 x3) nb (k2_pay31 q) k) (k2_pay43 (k2_pay3 x2) (k2_pay5 x3) nb (k2_pay31 q) k)
      (Scalar.ofBits .f32 0x3F800000#32) = blockOut nb q k x2 x3 := rfl
theorem block3_eq (i : grid2.Coords) (q k : Vec F S1x1x256x128 .f32) (x2 : Vec F S1x256x128 .f32) (x3 : Vec F S1x1x256 .i32) :
    k2_pay55 (k2_pay4 x2) (k2_pay50 q k) (k2_pay51 q k) (k2_pay52 q k) (k2_pay53 (k2_pay3 x2) q) (k2_pay54 (BitVec.ofNat 32 (i 1).val) (k2_pay5 x3))
      (Scalar.ofBits .f32 0xFF7FFFFF#32) = blockOut (nbOf i 3) q k x2 x3 := rfl
theorem block4_eq (nb : BitVec 32) (q k : Vec F S1x1x256x128 .f32) (x2 : Vec F S1x256x128 .f32) (x3 : Vec F S1x1x256 .i32) :
    k2_pay69 (k2_pay65 (k2_pay3 x2) (k2_pay5 x3) nb (k2_pay56 q)) (k2_pay66 (k2_pay3 x2) (k2_pay4 x2) (k2_pay5 x3) nb (k2_pay56 q))
      (k2_pay67 (k2_pay3 x2) (k2_pay5 x3) nb (k2_pay56 q) k) (k2_pay68 (k2_pay3 x2) (k2_pay5 x3) nb (k2_pay56 q) k)
      (Scalar.ofBits .f32 0x3F800000#32) = blockOut nb q k x2 x3 := rfl
theorem block5_eq (i : grid2.Coords) (q k : Vec F S1x1x256x128 .f32) (x2 : Vec F S1x256x128 .f32) (x3 : Vec F S1x1x256 .i32) :
    k2_pay80 (k2_pay4 x2) (k2_pay75 q k) (k2_pay76 q k) (k2_pay77 q k) (k2_pay78 (k2_pay3 x2) q) (k2_pay79 (BitVec.ofNat 32 (i 1).val) (k2_pay5 x3))
      (Scalar.ofBits .f32 0xFF7FFFFF#32) = blockOut (nbOf i 5) q k x2 x3 := rfl
theorem block6_eq (nb : BitVec 32) (q k : Vec F S1x1x256x128 .f32) (x2 : Vec F S1x256x128 .f32) (x3 : Vec F S1x1x256 .i32) :
    k2_pay94 (k2_pay90 (k2_pay3 x2) (k2_pay5 x3) nb (k2_pay81 q)) (k2_pay91 (k2_pay3 x2) (k2_pay4 x2) (k2_pay5 x3) nb (k2_pay81 q))
      (k2_pay92 (k2_pay3 x2) (k2_pay5 x3) nb (k2_pay81 q) k) (k2_pay93 (k2_pay3 x2) (k2_pay5 x3) nb (k2_pay81 q) k)
      (Scalar.ofBits .f32 0x3F800000#32) = blockOut nb q k x2 x3 := rfl
theorem block7_eq (i : grid2.Coords) (q k : Vec F S1x1x256x128 .f32) (x2 : Vec F S1x256x128 .f32) (x3 : Vec F S1x1x256 .i32) :
    k2_pay1 (k2_pay4 x2) (k2_pay100 q k) (k2_pay101 q k) (k2_pay102 q k) (k2_pay103 (k2_pay3 x2) q) (k2_pay104 (BitVec.ofNat 32 (i 1).val) (k2_pay5 x3))
      (Scalar.ofBits .f32 0xFF7FFFFF#32) = blockOut (nbOf i 7) q k x2 x3 := rfl

/-! ## The body's triple -/

/-- The attention body on whole staging memrefs: the inputs' stay at `x0` … `x3`, the output's ends at `attnOut`. -/
theorem attn_body (c : Dev nD) (E : Set ℕ) (i : grid2.Coords) (arg2 : Memref sig .tc .vmem S1x8x256x128 .f32) (harg2 : arg2.IsWhole) (arg3 : Memref sig .tc .vmem S1x8x256x128 .f32) (harg3 : arg3.IsWhole) (arg4 : Memref sig .tc .vmem S1x256x128 .f32) (harg4 : arg4.IsWhole) (arg5 : Memref sig .tc .vmem S1x1x256 .i32) (harg5 : arg5.IsWhole) (arg6 : Memref sig .tc .vmem S1x8x256x64 .f32) (harg6 : arg6.IsWhole)
    (x0 x1 : Vec F S1x8x256x128 .f32) (x2 : Vec F S1x256x128 .f32) (x3 : Vec F S1x1x256 .i32) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (attnOut i x0 x1 x2 x3)) -∗ Q ⟨⟩))
      ⊢ wp frame (wpE (defs₀ (F := F)) Variants.none c none) E (cc2__attn_body i arg2 harg2 arg3 harg3 arg4 harg4 arg5 harg5 arg6 harg6) Q := by
  simp only [cc2__attn_body_eq_skeleton]; unfold cc2__attn_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (attn_cover _ _ _ _ _ _ _ _)).trans ?_
  unfold attnOut
  rw [← block1_eq, ← block2_eq (nbOf i 2), ← block3_eq, ← block4_eq (nbOf i 4), ← block5_eq, ← block6_eq (nbOf i 6), ← block7_eq]
  rfl

end Cert.Proof.Sort

end
-- ==== Proof.Region.lean ====
/- The attention call as a region of @main: its proof data over the contents it is entered from, and the contents it leaves. -/
module

public import proofs.«01_k».proof.Proof.Attn
public import Idealize.ShloMosaic.Lib.Pipeline.Regions
public import Idealize.ShloMosaic.Lib.Pipeline.Sound

@[expose] public section

set_option maxRecDepth 16384

noncomputable section

namespace Cert.Proof.Sort

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-- The buffers' contents when the attention call is entered, per device. -/
abbrev Vals (F : FTy → Type) : Type := Dev nD → Valuation τ sig (Elt F)

variable (W₀ : Vals F)

/-- The recorded waits the TensorCore may carry after both SparseCore calls. -/
def recOK (c : Dev nD) : Set (SemLoc sig × HIx 2) := {p | (K (F := F)).lev (SparseCore.T c, p.1) p.2 ≤ 16}

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (W₀ c (Proc.devRef .tc (Pipeline.arrRef spec2 w)))

def dat (c : Dev nD) : Dat τ (Elt F) (HIx 2) ℕ UU ℕ cfg2 c where
  A w := W₀ c (Proc.devRef .tc (Pipeline.arrRef spec2 w))
  after w t := match w with
    | ⟨0, _⟩ => iblk W₀ c 0 t
    | ⟨1, _⟩ => iblk W₀ c 1 t
    | ⟨2, _⟩ => iblk W₀ c 2 t
    | ⟨3, _⟩ => iblk W₀ c 3 t
    | ⟨4, _⟩ => attnOut (grid2.coords t) (iblk W₀ c 0 t) (iblk W₀ c 1 t) (iblk W₀ c 2 t) (iblk W₀ c 3 t)
  Φ _ := BI.emp
  q _ := fullShare
  owed _ := 0
  recorded _ := recOK (F := F) c

theorem dat_A (c : Dev nD) (w : Fin cfg2.W) : (dat W₀ c).A w = W₀ c (Proc.devRef .tc (Pipeline.arrRef spec2 w)) := by dsimp only [dat]
theorem after0 (c : Dev nD) (t : Fin cfg2.N) : (dat W₀ c).after 0 t = iblk W₀ c 0 t := by dsimp only [dat]
theorem after1 (c : Dev nD) (t : Fin cfg2.N) : (dat W₀ c).after 1 t = iblk W₀ c 1 t := by dsimp only [dat]
theorem after2 (c : Dev nD) (t : Fin cfg2.N) : (dat W₀ c).after 2 t = iblk W₀ c 2 t := by dsimp only [dat]
theorem after3 (c : Dev nD) (t : Fin cfg2.N) : (dat W₀ c).after 3 t = iblk W₀ c 3 t := by dsimp only [dat]
theorem after4 (c : Dev nD) (t : Fin cfg2.N) :
    (dat W₀ c).after 4 t = attnOut (grid2.coords t) (iblk W₀ c 0 t) (iblk W₀ c 1 t) (iblk W₀ c 2 t) (iblk W₀ c 3 t) := by dsimp only [dat]
theorem before0 (c : Dev nD) (t : Fin cfg2.N) (d) : (dat W₀ c).before 0 t d = iblk W₀ c 0 t :=
  ((dat W₀ c).before_in_eq_fetched 0 rfl (fun _ => rfl) (fun _ _ _ => rfl) (fun t => by rw [after0]; unfold Dat.blockOf iblk; rw [dat_A]; try rfl) t d).trans
    (by unfold Dat.fetched Dat.blockOf iblk; rw [dat_A]; try rfl)
theorem before1 (c : Dev nD) (t : Fin cfg2.N) (d) : (dat W₀ c).before 1 t d = iblk W₀ c 1 t :=
  ((dat W₀ c).before_in_eq_fetched 1 rfl (fun _ => rfl) (fun _ _ _ => rfl) (fun t => by rw [after1]; unfold Dat.blockOf iblk; rw [dat_A]; try rfl) t d).trans
    (by unfold Dat.fetched Dat.blockOf iblk; rw [dat_A]; try rfl)
theorem before2 (c : Dev nD) (t : Fin cfg2.N) (d) : (dat W₀ c).before 2 t d = iblk W₀ c 2 t :=
  ((dat W₀ c).before_in_eq_fetched 2 rfl (fun _ => rfl) (fun _ _ _ => rfl) (fun t => by rw [after2]; unfold Dat.blockOf iblk; rw [dat_A]; try rfl) t d).trans
    (by unfold Dat.fetched Dat.blockOf iblk; rw [dat_A]; try rfl)
theorem before3 (c : Dev nD) (t : Fin cfg2.N) (d) : (dat W₀ c).before 3 t d = iblk W₀ c 3 t :=
  ((dat W₀ c).before_in_eq_fetched 3 rfl (fun _ => rfl) (fun _ _ _ => rfl) (fun t => by rw [after3]; unfold Dat.blockOf iblk; rw [dat_A]; try rfl) t d).trans
    (by unfold Dat.fetched Dat.blockOf iblk; rw [dat_A]; try rfl)

def bodyPre (c : Dev nD) (t : Fin cfg2.N) : sProp 𝕄 :=
  iprop((dat W₀ c).Φ t.castSucc ∗ (dat W₀ c).owesAt none t.castSucc
    ∗ (∃ d, owns (c : Thread nD τ) (st2_0 t) fullShare ((dat W₀ c).before 0 t d))
    ∗ (∃ d, owns (c : Thread nD τ) (st2_1 t) fullShare ((dat W₀ c).before 1 t d))
    ∗ (∃ d, owns (c : Thread nD τ) (st2_2 t) fullShare ((dat W₀ c).before 2 t d))
    ∗ (∃ d, owns (c : Thread nD τ) (st2_3 t) fullShare ((dat W₀ c).before 3 t d))
    ∗ (∃ d, owns (c : Thread nD τ) (st2_4 t) fullShare ((dat W₀ c).before 4 t d)))

def bodyPost (c : Dev nD) (t : Fin cfg2.N) : sProp 𝕄 :=
  iprop((dat W₀ c).Φ t.succ ∗ (dat W₀ c).owesAt none t.succ
    ∗ owns (c : Thread nD τ) (st2_0 t) fullShare ((dat W₀ c).after 0 t)
    ∗ owns (c : Thread nD τ) (st2_1 t) fullShare ((dat W₀ c).after 1 t)
    ∗ owns (c : Thread nD τ) (st2_2 t) fullShare ((dat W₀ c).after 2 t)
    ∗ owns (c : Thread nD τ) (st2_3 t) fullShare ((dat W₀ c).after 3 t)
    ∗ owns (c : Thread nD τ) (st2_4 t) fullShare ((dat W₀ c).after 4 t))

theorem sound_body (c : Dev nD) (t : Fin cfg2.N) :
    bodyPre W₀ c t ⊢ wp frame (wpE (defs₀ (F := F)) Variants.none c none) Set.univ (bodyAt2 t) (fun _ => bodyPost W₀ c t) := by
  unfold bodyPre bodyPost bodyAt2
  simp only [before0, before1, before2, before3]
  rw [show (dat W₀ c).Φ t.succ = (dat W₀ c).Φ t.castSucc from rfl,
    show (dat W₀ c).owesAt none t.succ = (dat W₀ c).owesAt none t.castSucc from rfl,
    after0, after1, after2, after3, after4]
  iintro ⟨HΦ, Ho, ⟨%d0, H0⟩, ⟨%d1, H1⟩, ⟨%d2, H2⟩, ⟨%d3, H3⟩, ⟨%d4, H4⟩⟩
  iapply (attn_body c Set.univ (grid2.coords t) _ _ _ _ _ _ _ _ _ _ (iblk W₀ c 0 t) (iblk W₀ c 1 t) (iblk W₀ c 2 t) (iblk W₀ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_attn (t : Fin cfg2.N) : defs₀ (F := F) .tc cfg2.body (cfg2.bodyArgs t (cfg2.slots t)) = bodyAt2 t := rfl

theorem body_obligation (c : Dev nD) : BodyObligation (dat W₀ c) (defs₀ (F := F)) Variants.none none Set.univ := fun t => by
  rw [bigSep_W2, bigSep_W2, defs₀_attn]
  exact triple_restated (sound_body W₀ c t) rfl .rfl fun _ => .rfl

abbrev adm : (p : Fin 1) → (pcfgs (F := F) p).Adm := fun p => (cfgs p).toPCfg_adm

def pdats : (p : Fin 1) → (c : Dev nD) → Dat τ (Elt F) (HIx 2) ℕ UU ℕ (Pipeline.pin (pcfgs (F := F)) adm p) c
  | 0 => dat W₀

theorem share_eq (c : Dev nD) (w) : (pdats W₀ 0 c).share w = fullShare := (dat W₀ c).share_full (fun _ => rfl) w

theorem bigSep_none {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 2) (Name := ℕ) (U := UU) (Lvl := ℕ) (Val := Elt F) (pcfgs (F := F) 0).pre c q pf : sProp 𝕄) = BI.emp :=
  bigSep_none _

/-- The buffers' contents the call leaves: its arrays at their last contents, the rest untouched. -/
def Wout (c : Dev nD) : Valuation τ sig (Elt F) :=
  Pipeline.withArrays spec2 c (W₀ c) (fun w => (dat W₀ c).arrAt w cfg2.N)

/-- What the TensorCore still records, nothing owed. -/
def owesEnd (c : Dev nD) : sProp 𝕄 :=
  iprop(∃ W, ⌜(K (F := F)).WBelow (SparseCore.T c) W 16⌝ ∗ owes (SparseCore.T c) (0 : CellTallies nD τ sig (HIx 2)) W)

theorem owesEnd_at (c : Dev nD) (t : Fin (cfg2.N + 1)) : owesEnd (F := F) c ⊢ ((dat W₀ c).owesAt none t : sProp 𝕄) := by
  unfold owesEnd Pipeline.Dat.owesAt Pipeline.owesWithin Pipeline.Dat.bound
  rw [show (dat W₀ c).owed t = 0 from rfl, show (dat W₀ c).recorded t = recOK (F := F) c from rfl]
  iintro ⟨%W, %hW, HO⟩
  iexists W
  isplitr
  · ipureintro
    intro p hp
    exact Or.inl (hW p hp)
  iexact HO

theorem at_owesEnd (c : Dev nD) (t : Fin (cfg2.N + 1)) : ((dat W₀ c).owesAt none t : sProp 𝕄) ⊢ owesEnd (F := F) c := by
  unfold owesEnd Pipeline.Dat.owesAt Pipeline.owesWithin Pipeline.Dat.bound
  rw [show (dat W₀ c).owed t = 0 from rfl, show (dat W₀ c).recorded t = recOK (F := F) c from rfl]
  iintro ⟨%W, %hW, HO⟩
  iexists W
  isplitr
  · ipureintro
    intro p hp
    rcases hW hp with h | ⟨w, s, h⟩
    · exact h
    · rw [h]; exact Nat.zero_le _
  iexact HO

theorem rest_Wout (c : Dev nD) :
    (Pipeline.unscopedRest spec2 c (fun b => Wout W₀ c (Proc.devRef .tc b)) : sProp 𝕄)
      = Pipeline.unscopedRest spec2 c (fun b => W₀ c (Proc.devRef .tc b)) := by
  unfold Pipeline.unscopedRest Wout
  exact bigSep_congr fun b hb => by
    try dsimp only
    rw [Pipeline.withArrays_of_ne spec2 c (W₀ c) _ b fun w e => (Finset.mem_sdiff.mp hb).2 (Finset.mem_image.mpr ⟨w, Finset.mem_univ _, e⟩)]

theorem entry_arrays (c : Dev nD) :
    (StableHlo.held (c : Thread nD τ) (Pipeline.ucRefs τ sig) (W₀ c) : sProp 𝕄)
      ⊢ iprop((pdats W₀ 0 c).arrays ((pdats W₀ 0 c).arrAt · 0) ∗ Pipeline.unscopedRest spec2 c (fun b => W₀ c (Proc.devRef .tc b))) := by
  rw [← Pipeline.unscopedBufs_held]
  exact Pipeline.arrays_of_unscopedBufs (pcfgs (F := F)) adm (pdats W₀) (p := 0) winFacts2 arr_whole2 c (share_eq W₀ c) (fun b => W₀ c (Proc.devRef .tc b)) (fun w => dat_A W₀ c w)

theorem exit_arrays (c : Dev nD) :
    iprop((pdats W₀ 0 c).arrays ((pdats W₀ 0 c).arrAt · cfg2.N) ∗ Pipeline.unscopedRest spec2 c (fun b => W₀ c (Proc.devRef .tc b)))
      ⊢ (StableHlo.held (c : Thread nD τ) (Pipeline.ucRefs τ sig) (Wout W₀ c) : sProp 𝕄) := by
  rw [← Pipeline.unscopedBufs_held, Pipeline.unscopedBufs_split (Pipeline.pin (pcfgs (F := F)) adm) 0 winFacts2.arr_unscoped winFacts2.arr_inj c,
    Pipeline.arrays_eq (Pipeline.pin (pcfgs (F := F)) adm) (pdats W₀) 0 c arr_whole2 (share_eq W₀ c), ← rest_Wout]
  refine sep_mono (Entails.of_eq (bigSep_congr fun w _ => ?_)) .rfl
  exact congrArg _ (Pipeline.withArrays_arr spec2 winFacts2.arr_inj c (W₀ c) (fun w => (dat W₀ c).arrAt w cfg2.N) w).symm

/-- The attention call, entered from every unscoped buffer held. -/
def reg : Pipeline.RegionSeg (pcfgs (F := F)) adm (pdats W₀) none defs₀ Variants.none (K (F := F)).L (K (F := F)).lev 0 where
  win := winFacts2.to₀
  block_pos := block_pos2
  stage_whole := stage_whole2
  K := PEmpty
  osem k := k.elim
  ho := Pipeline.OwnSemFacts.none _
  hbody c := (body_obligation W₀ c).loose
  hwaits := Pipeline.hwaits_of_owed_zero _ _ _ _ (K (F := F)).L (K (F := F)).lev 0 fun _ _ => rfl
  pre c := iprop(StableHlo.held (c : Thread nD τ) (Pipeline.ucRefs τ sig) (W₀ c) ∗ owesEnd c)
  post c := iprop(StableHlo.held (c : Thread nD τ) (Pipeline.ucRefs τ sig) (Wout W₀ c) ∗ owesEnd c)
  X _ := BI.emp
  Y _ := BI.emp
  Z c := Pipeline.unscopedRest spec2 c (fun b => W₀ c (Proc.devRef .tc b))
  hentry c := by
    rw [Pipeline.ownSems0_none, prefHeld_emp]
    iintro ⟨⟨Hh, HO⟩, -, -⟩
    ihave HA := (entry_arrays W₀ c) $$ [Hh]
    · iexact Hh
    icases HA with ⟨HA, HR⟩
    imodintro
    isplitl [HA]; · iexact HA
    isplitr; · iempintro
    isplitl [HO]; · iapply (owesEnd_at W₀ c 0); iexact HO
    isplitr; · iempintro
    iexact HR
  hin c := by
    rw [show (pdats W₀ 0 c).Φ 0 = BI.emp from rfl]
    iintro -
    iempintro
  hout c := by
    rw [show (pdats W₀ 0 c).Φ (Fin.last _) = BI.emp from rfl, Pipeline.ownSems0_none,
      show (Pipeline.scopedRest (Pipeline.pin (pcfgs (F := F)) adm 0).spec c : sProp 𝕄) = BI.emp from scopedRest2_eq c]
    iintro -
    isplitr; · iempintro
    isplitr <;> iempintro
  hexit c := by
    iintro ⟨HA, HO, -, HZ⟩
    ihave HH := (exit_arrays W₀ c) $$ [HA HZ]
    · isplitl [HA]; · iexact HA
      iexact HZ
    imodintro
    isplitl [HH]; · iexact HH
    iapply (at_owesEnd W₀ c (Fin.last _)); iexact HO

end Cert.Proof.Sort

end
-- ==== Proof.Scat.lean ====
/- What a scatter of one row of the positions leaves, read index by index. -/
module

public import proofs.«01_k».proof.Proof.Common
public import Idealize.ShloMosaic.Lib.ValueIdxCore

@[expose] public section

noncomputable section

namespace Cert.Proof.Sort

open Cert.KernelIdeal Cert.KernelIdeal.Gen

open Idealize.ShloMosaic
open Idealize.ShloMosaic.SparseCore (S V T rows scatterBuf scatterRowPayload namedRows scatterBuf_of_mem scatterBuf_of_not_mem namedRows_eq)

variable {F : FTy → Type} [FloatOps F]

section Read

variable {nD : Nat} {τ : Topo} {sig : RefSig} (c : Thread nD τ) {sp : Space} {s₀ : Shape} {e : EltTy} {o : ℕ}
  (v : View sig c.2.kind sp s₀ e) (ax : Fin s₀.rank) (r : Fin o → Fin (s₀.size ax))
  (w : Fin o → (s₀.rowShape ax).Idx → Elt F e) (fd : Buf (Elt F) (v.loc c))

/-- A named row reads as the payload that was written to it. -/
theorem read_scatterBuf_row (hinj : Function.Injective r) (k : Fin o) (x : (s₀.rowShape ax).Idx) :
    v.read (Elt F) (scatterBuf c v ax r w fd) ((s₀.rowRect ax (r k)).emb x) = w k x := by
  have hm : v.emb ((s₀.rowRect ax (r k)).emb x) ∈ (v.slice (s₀.rowRect ax (r k))).set :=
    Finset.mem_map.mpr ⟨x, Finset.mem_univ _, rfl⟩
  have h := congrFun (View.read_write_univ (v := v.slice (s₀.rowRect ax (r k))) (Val := Elt F) fd (w k)) x
  rw [← h, View.read_apply, scatterBuf_of_mem c v ax r hinj w fd hm]
  rfl

/-- A row that no word names reads as it did. -/
theorem read_scatterBuf_other (y : s₀.Idx) (h : ∀ k, r k ≠ y ax) :
    v.read (Elt F) (scatterBuf c v ax r w fd) y = v.read (Elt F) fd y := by
  have hm : v.emb y ∉ namedRows c v ax r := by
    rw [namedRows_eq, Finset.mem_biUnion]
    rintro ⟨k, -, hk⟩
    obtain ⟨x, -, hx⟩ := Finset.mem_map.mp hk
    have hxy : (s₀.rowRect ax (r k)).emb x = y := v.emb.injective hx
    exact h k ((Shape.rowRect_emb_axis ax (r k) x).symm.trans (congrFun hxy ax))
  rw [View.read_apply, View.read_apply, scatterBuf_of_not_mem c v ax r w fd hm]

end Read

/-! ## One row of the positions -/

section Step

variable {nD : Nat} {τ : Topo} {sig : RefSig} (c : Thread nD τ) {sp : Space}
  (src : Memref sig c.2.kind .vmem S128x128 .f32) (dst : Memref sig c.2.kind sp S262144x128 .f32)
  (hg : S262144x128.Gathers 0 S128x128)
  (idx : S128.Idx → Elt F .i32) (hn : S128.numel = S128x128.size hg.axis')
  (hin : ∀ x, (idx x).toNat < S262144x128.size hg.axis)
  (fs : Buf (Elt F) (src.view.loc c)) (fd : Buf (Elt F) (dst.view.loc c))

/-- The word that names entry `k`'s row. -/
theorem rows_val (k : Fin (S128x128.size hg.axis')) (x : S128.Idx) (h : (x 0).val = k.val) :
    (rows idx hn hin k).val = (idx x).toNat := by
  unfold SparseCore.rows
  refine congrArg (fun j => (idx j).toNat) ((Equiv.symm_apply_eq _).mpr ?_)
  apply Fin.ext
  rw [Shape.rowMajor_val_one, h]; rfl

/-- The source's row `k` lands on the row that word `k` names, column for column. -/
theorem read_scatter_row (hinj : Function.Injective (rows idx hn hin)) (x : S128.Idx) (y : S262144x128.Idx) (z : S128x128.Idx)
    (hy : (y 0).val = (idx x).toNat) (hz0 : (z 0).val = (x 0).val) (hz1 : (z 1).val = (y 1).val) :
    dst.view.read (Elt F) (scatterBuf c dst.view hg.axis (rows idx hn hin) (scatterRowPayload c src hg fs) fd) y
      = src.view.read (Elt F) fs z := by
  let k : Fin (S128x128.size hg.axis') := ⟨(x 0).val, (x 0).isLt⟩
  have hk : rows idx hn hin k = y hg.axis := Fin.ext ((rows_val hg idx hn hin k x rfl).trans hy.symm)
  have hyy : (S262144x128.rowRect hg.axis (rows idx hn hin k)).emb (S262144x128.rowProj hg.axis y) = y := by
    rw [hk]; exact Shape.rowRect_emb_rowProj hg.axis y
  have := read_scatterBuf_row c dst.view hg.axis (rows idx hn hin) (scatterRowPayload c src hg fs) fd hinj k (S262144x128.rowProj hg.axis y)
  rw [hyy] at this
  rw [this]
  show src.view.read (Elt F) fs _ = _
  congr 1
  funext b
  apply Fin.ext
  show ((S128x128.rowRect hg.axis' k).emb ((Shape.idxEquiv hg.rowShape_eq).symm (S262144x128.rowProj hg.axis y)) b).val = (z b).val
  rw [Shape.rowRect_emb_val]
  match b with
  | ⟨0, h⟩ => rw [if_pos (Fin.ext rfl)]; exact hz0.symm
  | ⟨1, h⟩ =>
    rw [if_neg (fun e => absurd (congrArg Fin.val e) (by show ¬ (1 = 0); decide))]
    refine (Shape.idxEquiv_symm_apply_val hg.rowShape_eq (S262144x128.rowProj hg.axis y) ⟨1, h⟩).trans ?_
    exact hz1.symm

/-- The rows that no word names stay. -/
theorem read_scatter_other (y : S262144x128.Idx) (h : ∀ x, (idx x).toNat ≠ (y 0).val) (w : Fin (S128x128.size hg.axis') → (S262144x128.rowShape hg.axis).Idx → Elt F .f32) :
    dst.view.read (Elt F) (scatterBuf c dst.view hg.axis (rows idx hn hin) w fd) y
      = dst.view.read (Elt F) fd y :=
  read_scatterBuf_other c dst.view hg.axis _ w fd y fun k e =>
    h (ValueIdx.ix1 (n := 128) ⟨k.val, k.isLt⟩) ((rows_val hg idx hn hin k (ValueIdx.ix1 (n := 128) ⟨k.val, k.isLt⟩) rfl).symm.trans (congrArg Fin.val e))

/-- The rows of the target that the first `r` rows of the positions name hold the source's rows, which begin at row `base`. -/
def Done (P : S64x128.Idx → BitVec 32) (base : ℕ) (G : S262144x128.Idx → Elt F .f32) (r : ℕ) (R : S262144x128.Idx → Elt F .f32) : Prop :=
  ∀ (x : S64x128.Idx) (y z : S262144x128.Idx), (x 0).val < r → (y 0).val = (P x).toNat →
    (z 0).val = base + 128 * (x 0).val + (x 1).val → (z 1).val = (y 1).val → R y = G z

theorem done_zero (P : S64x128.Idx → BitVec 32) (base : ℕ) (G R : S262144x128.Idx → Elt F .f32) : Done P base G 0 R :=
  fun _ _ _ h => absurd h (Nat.not_lt_zero _)

theorem done_step {P : S64x128.Idx → BitVec 32} {base : ℕ} {G : S262144x128.Idx → Elt F .f32} {r : ℕ}
    (hP : Function.Injective fun x => (P x).toNat)
    (hidx : ∀ (u : S128.Idx) (x : S64x128.Idx), (x 0).val = r → (x 1).val = (u 0).val → idx u = P x)
    (hr : r < 64)
    (hinj : Function.Injective (rows idx hn hin))
    (hsrc : ∀ (u : S128x128.Idx) (z : S262144x128.Idx), (z 0).val = base + 128 * r + (u 0).val → (z 1).val = (u 1).val → src.view.read (Elt F) fs u = G z)
    (h : Done P base G r (dst.view.read (Elt F) fd)) :
    Done P base G (r + 1) (dst.view.read (Elt F)
      (scatterBuf c dst.view hg.axis (rows idx hn hin) (scatterRowPayload c src hg fs) fd)) := by
  intro x y z hx hy hz0 hz1
  by_cases hxr : (x 0).val = r
  · have hi : idx (ValueIdx.ix1 (n := 128) (x 1)) = P x := hidx _ x hxr rfl
    rw [read_scatter_row c src dst hg idx hn hin fs fd hinj (ValueIdx.ix1 (n := 128) (x 1)) y (ValueIdx.ix2 (n0 := 128) (n1 := 128) (x 1) (y 1)) (by rw [hi]; exact hy) rfl rfl]
    exact hsrc _ z (by rw [hz0, hxr]) hz1
  · rw [read_scatter_other c dst hg idx hn hin fd y]
    · exact h x y z (by omega) hy hz0 hz1
    · intro u e
      rw [hidx u (ValueIdx.ix2 (n0 := 64) (n1 := 128) ⟨r, hr⟩ (u 0)) rfl rfl, hy] at e
      exact hxr (congrArg (fun w : S64x128.Idx => (w 0).val) (hP e)).symm

end Step

end Cert.Proof.Sort

end
-- ==== Proof.Trip.lean ====
/- One trip of the permuting loop: 256 rows fetched, then scattered in two halves. -/
module

public import proofs.«01_k».proof.Proof.Scat

@[expose] public section

noncomputable section

namespace Cert.Proof.Sort

open Cert.KernelIdeal Cert.KernelIdeal.Gen

open Idealize.ShloMosaic
open Idealize.ShloMosaic.SparseCore (S V T rows scatterBuf scatterRowPayload namedRows namedRows_eq rows_injective)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem k1_t1_body_eq (i : grid1.Coords) (a2 : Memref sig .scVector .hbm S262144x128 .f32) (h2 : a2.IsWhole)
    (a3 : Memref sig .scVector .hbm S32x64x128 .i32) (h3 : a3.IsWhole) (a4 : Memref sig .scVector .hbm S32x2x128 .i32) (h4 : a4.IsWhole)
    (a5 : Memref sig .scVector .hbm S262144x128 .f32) (h5 : a5.IsWhole) (a6 : Memref sig .scVector .hbm S8192x128 .f32) (h6 : a6.IsWhole)
    (a7 : Memref sig .scVector .vmem S64x128 .i32) (h7 : a7.IsWhole) (a8 : Memref sig .scVector .vmem S256x128 .f32) (h8 : a8.IsWhole)
    (a9 : Memref sig .scVector .vmem S2x128 .i32) (h9 : a9.IsWhole) (a10 : Memref sig .scVector .vmem S256x128 .f32) (h10 : a10.IsWhole)
    (a11 s0 s1 s2 s3 : DmaSems sig S_) (v : BitVec 32) :
    k1_t1_body (F := F) i a2 h2 a3 h3 a4 h4 a5 h5 a6 h6 a7 h7 a8 h8 a9 h9 a10 h10 a11 s0 s1 s2 s3 v
      = k0_t1_body (F := F) i a2 h2 a3 h3 a5 h5 a7 h7 a8 h8 a11 s0 s1 v := rfl

/-- A slice at unit stride reads the memref, its offset added. -/
theorem read_unit {sig : RefSig} {κ : Kind} {sp : Space} {s : Shape} {e : EltTy} {Val : EltTy → Type} (m : Memref sig κ sp s e)
    {off off' size : Fin s.rank → ℕ} (inb : ∀ a, off a + size a ≤ s.size a) (ho : off = off') (hs : ∀ a, (Rect.unit off size inb).stride a = 1)
    (f : m.view.ty.Contents Val) (u : (Rect.unit off size inb).shape.Idx) (z : s.Idx) (h : ∀ a, (z a).val = off' a + (u a).val) :
    (m.slice (Rect.unit off size inb) hs).view.read Val f u = m.view.read Val f z := by
  subst ho
  show m.view.read Val f ((Rect.unit off size inb).emb u) = _
  congr 1
  funext b
  apply Fin.ext
  rw [Rect.emb_apply, h b]
  show off b + 1 * _ = _
  rw [Nat.one_mul]

section Trip

variable (d : Dev nD) (L : grid0.Coords)

/-- What a tile's positions are: rows of the tile's own block, each named once. -/
structure PosOK (w : ℕ) (P : S64x128.Idx → BitVec 32) : Prop where
  lo : ∀ x, 8192 * w ≤ (P x).toNat
  hi : ∀ x, (P x).toNat < 8192 * w + 8192
  inj : Function.Injective fun x => (P x).toNat

variable (a2 : Memref sig .scVector .hbm S262144x128 .f32) (h2 : a2.IsWhole)
  (a3 : Memref sig .scVector .hbm S32x64x128 .i32) (h3 : a3.IsWhole)
  (a4 : Memref sig .scVector .hbm S262144x128 .f32) (h4 : a4.IsWhole)
  (a5 : Memref sig .scVector .vmem S64x128 .i32) (h5 : a5.IsWhole)
  (a6 : Memref sig .scVector .vmem S256x128 .f32) (h6 : a6.IsWhole) (a7 s0 s1 : DmaSems sig S_) (v : BitVec 32)

/-- The whole of the target as the kernel slices it. -/
abbrev dstAll : Memref sig .scVector .hbm S262144x128 .f32 :=
  a4.slice (Rect.unit (s := S262144x128) ![0, 0] S262144x128.size inb_S262144x128_S262144x128_0_0) (fun _ => rfl)

/-- Row `2 t + r` of the positions as the kernel slices it. -/
abbrev idxRow (t : Fin k0_t1_loop.trips) (r : Fin 2) : Memref sig .scVector .vmem S128 .i32 :=
  (a5.slice (Rect.unit (s := S64x128) (k0_off3 t (BitVec.ofNat 32 r.val)) S1x128.size (k0_off3_inb t r)) (fun _ => rfl)).squeeze S128 squeezes_S1x128_S128

theorem read_idxRow (f5 : Buf (Elt F) (a5.view.loc (thr d L))) (t : Fin k0_t1_loop.trips) (r : Fin 2)
    (u : S128.Idx) (x : S64x128.Idx) (h0 : (x 0).val = 2 * t.val + r.val) (h1 : (x 1).val = (u 0).val) :
    (idxRow a5 t r).view.read (Elt F) f5 u = a5.view.read (Elt F) f5 x := by
  show a5.view.read (Elt F) f5 ((Rect.unit (s := S64x128) (k0_off3 t (BitVec.ofNat 32 r.val)) S1x128.size (k0_off3_inb t r)).emb
    (Shape.reshapeEquiv squeezes_S1x128_S128.numel_eq u)) = _
  have hu : Shape.reshapeEquiv squeezes_S1x128_S128.numel_eq u = ValueIdx.ix2 (n0 := 1) (n1 := 128) 0 (u 0) := by
    apply Shape.reshapeEquiv_eq_of_rowMajor
    rw [Shape.rowMajor_val_one, Shape.rowMajor_val_two]
    simp
  rw [hu]
  refine read_unit a5 (k0_off3_inb t r) (k0_off3_eq t r) (fun _ => rfl) f5 (ValueIdx.ix2 (n0 := 1) (n1 := 128) 0 (u 0)) x fun a => ?_
  match a with
  | ⟨0, _⟩ => exact h0
  | ⟨1, _⟩ => exact h1.trans (Nat.zero_add _).symm

theorem read_dstAll (f : Buf (Elt F) (a4.view.loc (thr d L))) : (dstAll a4).view.read (Elt F) f = a4.view.read (Elt F) f := by
  funext y
  exact read_unit a4 inb_S262144x128_S262144x128_0_0 rfl (fun _ => rfl) f y y fun a => match a with
    | ⟨0, _⟩ => (Nat.zero_add _).symm
    | ⟨1, _⟩ => (Nat.zero_add _).symm

/-- The rows fetched at trip `t`. -/
abbrev srcRows (t : Fin k0_t1_loop.trips) : Memref sig .scVector .hbm S256x128 .f32 :=
  a2.slice (Rect.unit (s := S262144x128) (k0_off2 L t) S256x128.size (k0_off2_inb L t)) (fun _ => rfl)

theorem read_srcRows (f : Buf (Elt F) (a2.view.loc (thr d L))) (t : Fin k0_t1_loop.trips) (u : S256x128.Idx) (z : S262144x128.Idx)
    (h0 : (z 0).val = 8192 * wid L + 256 * t.val + (u 0).val) (h1 : (z 1).val = (u 1).val) :
    (srcRows L a2 t).view.read (Elt F) f u = a2.view.read (Elt F) f z := by
  refine read_unit a2 (k0_off2_inb L t) (k0_off2_eq L t) (fun _ => rfl) f u z fun a => ?_
  match a with
  | ⟨0, _⟩ => simp only [wid] at h0; show (z 0).val = 16384 * (L 1).val + 8192 * (L 0).val + 256 * t.val + (u 0).val; omega
  | ⟨1, _⟩ => exact h1.trans (Nat.zero_add _).symm

/-- Half `r` of the rows fetched. -/
abbrev half0 : Memref sig .scVector .vmem S128x128 .f32 := a6.slice (Rect.unit (s := S256x128) ![0, 0] S128x128.size inb_S256x128_S128x128_0_0) (fun _ => rfl)
abbrev half1 : Memref sig .scVector .vmem S128x128 .f32 := a6.slice (Rect.unit (s := S256x128) ![128, 0] S128x128.size inb_S256x128_S128x128_128_0) (fun _ => rfl)

theorem read_half0 (f : Buf (Elt F) (a6.view.loc (thr d L))) (u : S128x128.Idx) (z : S256x128.Idx)
    (h0 : (z 0).val = (u 0).val) (h1 : (z 1).val = (u 1).val) : (half0 a6).view.read (Elt F) f u = a6.view.read (Elt F) f z := by
  refine read_unit a6 inb_S256x128_S128x128_0_0 rfl (fun _ => rfl) f u z fun a => match a with
  | ⟨0, _⟩ => h0.trans (Nat.zero_add _).symm
  | ⟨1, _⟩ => h1.trans (Nat.zero_add _).symm

theorem read_half1 (f : Buf (Elt F) (a6.view.loc (thr d L))) (u : S128x128.Idx) (z : S256x128.Idx)
    (h0 : (z 0).val = 128 + (u 0).val) (h1 : (z 1).val = (u 1).val) : (half1 a6).view.read (Elt F) f u = a6.view.read (Elt F) f z := by
  refine read_unit a6 inb_S256x128_S128x128_128_0 rfl (fun _ => rfl) f u z fun a => match a with
  | ⟨0, _⟩ => h0
  | ⟨1, _⟩ => h1.trans (Nat.zero_add _).symm

/-- The elements of the target that the tile owns. -/
def OwnSet (w : ℕ) : Finset (Idx (a4.view.loc (thr d L))) :=
  (Finset.univ.filter fun y : S262144x128.Idx => (y 0).val / 8192 = w).map a4.view.emb

theorem namedRows_subset_own {w : ℕ} (r : Fin 128 → Fin (S262144x128.size gathers_S262144x128_S128x128.axis)) (h : ∀ k, (r k).val / 8192 = w) :
    namedRows (thr d L) (dstAll a4).view gathers_S262144x128_S128x128.axis r ⊆ OwnSet d L a4 w := by
  intro i hi
  rw [namedRows_eq, Finset.mem_biUnion] at hi
  obtain ⟨k, -, hk⟩ := hi
  obtain ⟨x, -, rfl⟩ := Finset.mem_map.mp hk
  refine Finset.mem_map.mpr ⟨(S262144x128.rowRect gathers_S262144x128_S128x128.axis (r k)).emb x, Finset.mem_filter.mpr ⟨Finset.mem_univ _, ?_⟩, ?_⟩
  · exact (congrArg (fun j : Fin 262144 => j.val / 8192) (Shape.rowRect_emb_axis gathers_S262144x128_S128x128.axis (r k) x)).trans (h k)
  · refine congrArg a4.view.emb (funext fun a => Fin.ext ?_)
    refine ((Rect.emb_apply _ _ _).trans ?_).symm
    show ![0, 0] a + 1 * _ = _
    match a with
    | ⟨0, _⟩ => exact (Nat.zero_add _).trans (Nat.one_mul _)
    | ⟨1, _⟩ => exact (Nat.zero_add _).trans (Nat.one_mul _)

theorem dst_credit (d : Dev nD) (L : grid0.Coords) (a4 : Memref sig .scVector .hbm S262144x128 .f32) (src : Memref sig .scVector .vmem S128x128 .f32) (hg : S262144x128.Gathers 0 S128x128) (r : Fin 128 → Fin (S262144x128.size hg.axis)) :
    ∑ j, ((dstAll a4).slice (S262144x128.rowRect hg.axis (r j)) (S262144x128.stride_rowRect hg.axis (r j))).view.dmaCredit
      = src.view.dmaCredit :=
  SparseCore.sum_scatterCredit_eq_srcCredit (thr d L) src (dstAll a4) hg rfl r (fun _ => rfl) (fun _ => rfl)

variable (P : S64x128.Idx → BitVec 32) (Sx : Finset (Idx (a2.view.loc (thr d L)))) (fx : Buf (Elt F) (a2.view.loc (thr d L)))
  (f5 : Buf (Elt F) (a5.view.loc (thr d L)))

/-- Before trip `n`: the rows that the first `2 n` rows of positions name are in place. -/
def inv (O : CellTallies nD τ sig (HIx 2)) (W : Waits sig (HIx 2)) (n : ℕ) (_ : BitVec 32) : sProp 𝕄 :=
  iprop(Transfers.MayWaits (thr d L) (default : HIx 2) O
    ∗ (a2.view.loc (thr d L) ↦[Sx]{fullShare} fx)
    ∗ (a5.view.loc (thr d L) ↦[a5.view.set]{fullShare} f5)
    ∗ (∃ f, a6.view.loc (thr d L) ↦[a6.view.set]{fullShare} f)
    ∗ (∃ f, ⌜Done P (8192 * wid L) (a2.view.read (Elt F) fx) (2 * n) (a4.view.read (Elt F) f)⌝ ∗ a4.view.loc (thr d L) ↦[OwnSet d L a4 (wid L)]{fullShare} f)
    ∗ semVal (thr d L, SemLoc.dma a7.sem) 0
    ∗ semVal (thr d L, SemLoc.dma s1.sem) 0
    ∗ ∃ W', ⌜∀ p ∈ W', p ∈ W ∨ p.2 = none⌝ ∗ owes (thr d L) O W')

theorem idx_lt {w : ℕ} (hw : w < 32) (hP : PosOK w P) (x : S64x128.Idx) : (P x).toNat < 262144 := by
  have := hP.hi x; omega

theorem idxRow_eq (h5P : a5.view.read (Elt F) f5 = P) (t : Fin k0_t1_loop.trips) (r : Fin 2) (u : S128.Idx) (x : S64x128.Idx)
    (h0 : (x 0).val = 2 * t.val + r.val) (h1 : (x 1).val = (u 0).val) : (idxRow a5 t r).view.read (Elt F) f5 u = P x := by
  rw [← h5P]; exact read_idxRow d L a5 f5 t r u x h0 h1

/-- The word of the positions under entry `u` of row `2 t + r`. -/
def ixOf (t : Fin k0_t1_loop.trips) (r : Fin 2) (u : S128.Idx) : S64x128.Idx :=
  ValueIdx.ix2 (n0 := 64) (n1 := 128) ⟨2 * t.val + r.val, by have : t.val < 32 := t.isLt; omega⟩ (u 0)

theorem row_in (hP : PosOK (wid L) P) (h5P : a5.view.read (Elt F) f5 = P) (t : Fin k0_t1_loop.trips) (r : Fin 2) :
    ∀ x, ((idxRow a5 t r).view.read (Elt F) f5 x).toNat < S262144x128.size gathers_S262144x128_S128x128.axis := by
  intro x
  rw [idxRow_eq d L a5 P f5 h5P t r x (ixOf t r x) rfl rfl]
  have := hP.hi (ixOf t r x)
  have := wid_lt L
  show _ < 262144
  omega

theorem row_words_inj (hP : PosOK (wid L) P) (h5P : a5.view.read (Elt F) f5 = P) (t : Fin k0_t1_loop.trips) (r : Fin 2) :
    Function.Injective fun x => ((idxRow a5 t r).view.read (Elt F) f5 x).toNat := by
  intro x y h
  dsimp only at h
  rw [idxRow_eq d L a5 P f5 h5P t r x (ixOf t r x) rfl rfl, idxRow_eq d L a5 P f5 h5P t r y (ixOf t r y) rfl rfl] at h
  have e := congrFun (hP.inj h) 1
  funext a
  match a with
  | ⟨0, _⟩ => exact e

theorem row_own (hP : PosOK (wid L) P) (h5P : a5.view.read (Elt F) f5 = P) (t : Fin k0_t1_loop.trips) (r : Fin 2)
    (hn : S128.numel = S128x128.size gathers_S262144x128_S128x128.axis') (k : Fin 128) :
    (rows ((idxRow a5 t r).view.read (Elt F) f5) hn (row_in d L a5 P f5 hP h5P t r) k).val / 8192 = wid L := by
  rw [rows_val gathers_S262144x128_S128x128 _ hn _ k (ValueIdx.ix1 k) rfl, idxRow_eq d L a5 P f5 h5P t r _ (ixOf t r (ValueIdx.ix1 k)) rfl rfl]
  have h1 := hP.hi (ixOf t r (ValueIdx.ix1 k))
  have h2 := hP.lo (ixOf t r (ValueIdx.ix1 k))
  omega

/-- The rows just scattered and the rest of the tile's block, joined: one more row of positions is done. -/
theorem rejoin (half : Memref sig .scVector .vmem S128x128 .f32) (f6 : Buf (Elt F) (half.view.loc (thr d L)))
    (hP : PosOK (wid L) P) (h5P : a5.view.read (Elt F) f5 = P) (t : Fin k0_t1_loop.trips) (r : Fin 2)
    (hn : S128.numel = S128x128.size gathers_S262144x128_S128x128.axis')
    (hin : ∀ x, ((idxRow a5 t r).view.read (Elt F) f5 x).toNat < S262144x128.size gathers_S262144x128_S128x128.axis)
    (hinj : Function.Injective (rows ((idxRow a5 t r).view.read (Elt F) f5) hn hin))
    (fd : Buf (Elt F) (a4.view.loc (thr d L)))
    (hsrc : ∀ (u : S128x128.Idx) (z : S262144x128.Idx), (z 0).val = 8192 * wid L + 128 * (2 * t.val + r.val) + (u 0).val → (z 1).val = (u 1).val →
      half.view.read (Elt F) f6 u = a2.view.read (Elt F) fx z)
    (hfd : Done P (8192 * wid L) (a2.view.read (Elt F) fx) (2 * t.val + r.val) (a4.view.read (Elt F) fd)) :
    iprop(((dstAll a4).view.loc (thr d L) ↦[namedRows (thr d L) (dstAll a4).view gathers_S262144x128_S128x128.axis (rows ((idxRow a5 t r).view.read (Elt F) f5) hn hin)]{fullShare}
        (scatterBuf (thr d L) (dstAll a4).view gathers_S262144x128_S128x128.axis (rows ((idxRow a5 t r).view.read (Elt F) f5) hn hin)
          (scatterRowPayload (thr d L) half gathers_S262144x128_S128x128 f6) fd))
      ∗ (a4.view.loc (thr d L) ↦[OwnSet d L a4 (wid L) \ namedRows (thr d L) (dstAll a4).view gathers_S262144x128_S128x128.axis (rows ((idxRow a5 t r).view.read (Elt F) f5) hn hin)]{fullShare} fd))
    ⊢ (iprop(∃ f, ⌜Done P (8192 * wid L) (a2.view.read (Elt F) fx) (2 * t.val + r.val + 1) (a4.view.read (Elt F) f)⌝
        ∗ a4.view.loc (thr d L) ↦[OwnSet d L a4 (wid L)]{fullShare} f) : sProp 𝕄) := by
  have ht : t.val < 32 := t.isLt
  have hown : namedRows (thr d L) (dstAll a4).view gathers_S262144x128_S128x128.axis
      (rows ((idxRow a5 t r).view.read (Elt F) f5) hn hin) ⊆ OwnSet d L a4 (wid L) :=
    namedRows_subset_own d L a4 _ (row_own d L a5 P f5 hP h5P t r hn)
  have hd := done_step (thr d L) half (dstAll a4) gathers_S262144x128_S128x128 _ hn hin f6 fd (r := 2 * t.val + r.val) (P := P) (base := 8192 * wid L) (G := a2.view.read (Elt F) fx)
    hP.inj (fun u x h0 h1 => idxRow_eq d L a5 P f5 h5P t r u x h0 h1) (by omega) hinj hsrc (by rw [read_dstAll d L]; exact hfd)
  rw [read_dstAll d L] at hd
  have e := SparseCore.pointsTo_rest_scatterBuf (Ix := HIx 2) (Name := ℕ) (U := UU) (Lvl := ℕ) (thr d L) (dstAll a4).view gathers_S262144x128_S128x128.axis (rows ((idxRow a5 t r).view.read (Elt F) f5) hn hin)
        (scatterRowPayload (thr d L) half gathers_S262144x128_S128x128 f6) fd (OwnSet d L a4 (wid L))
  have j := (pointsTo_split_subset (Ix := HIx 2) (Name := ℕ) (U := UU) (Lvl := ℕ) (ℓ := a4.view.loc (thr d L)) (q := fullShare) (f := (scatterBuf (thr d L) (dstAll a4).view gathers_S262144x128_S128x128.axis (rows ((idxRow a5 t r).view.read (Elt F) f5) hn hin)
          (scatterRowPayload (thr d L) half gathers_S262144x128_S128x128 f6) fd)) hown).2
  refine (sep_mono (Entails.of_eq rfl) (Entails.of_eq e)).trans (j.trans ?_)
  iintro H
  iexists _
  isplitr
  · ipureintro; exact hd
  · iexact H

set_option maxHeartbeats 4000000 in
theorem trip (hP : PosOK (wid L) P) (h5P : a5.view.read (Elt F) f5 = P) (O : CellTallies nD τ sig (HIx 2)) (W : Waits sig (HIx 2))
    (t : Fin k0_t1_loop.trips) (b : BitVec 32)
    (hSx : (srcRows L a2 t).view.set ⊆ Sx) :
    inv (F := F) d L a2 a4 a5 a6 a7 s1 P Sx fx f5 O W t.val b
      ⊢ wp frame (wpE (defs₀ (F := F)) 𝒱₀ (thr d L) none) Set.univ
          (k0_t1_body L a2 h2 a3 h3 a4 h4 a5 h5 a6 h6 a7 s0 s1 v t b)
          fun b' => inv (F := F) d L a2 a4 a5 a6 a7 s1 P Sx fx f5 O W (t.val + 1) b' := by
  have ht : t.val < 32 := t.isLt
  unfold k0_t1_body
  simp only [k0_part1_eq_skeleton]; unfold k0_part1_skel
  unfold inv
  iintro ⟨#Hmw, Hx, Hi, ⟨%f6, Hb⟩, ⟨%fd, %hfd, Hd⟩, Hs, Hs1, %W', %hW', HO⟩
  ihave Hxx := (pointsTo_split_subset (q := fullShare) (f := fx) hSx).1 $$ Hx
  icases Hxx with ⟨Hx, Hxr⟩
  sl_exec
  iapply (Transfers.wp_dmaLocal countersEmb 𝒱₀ (thr d L) none (src := srcRows L a2 t) (dst := a6) (default : HIx 2) a6.view.dmaCredit rfl
    (View.amount_pos a6.view (SemLoc.dma s1.sem) (show 0 < S256x128.numel by decide)) (subset_refl _)) $$ [Hx Hb Hs1]
  · isplitl [Hx]; · iexact Hx
    isplitl [Hb]; · iexact Hb
    iexact Hs1
  iintro Hfl
  sl_exec
  iapply (Transfers.wp_waitLocalO countersEmb 𝒱₀ (thr d L) none (default : HIx 2) (rfl : a6.view.dmaCredit = _)) $$ [Hfl HO]
  · isplitl [Hfl]; · iexact Hfl
    isplitl [HO]; · iexact HO
    iapply (Transfers.MayWaits.elim (SemLoc.dma s1.sem)) $$ Hmw
  iintro ⟨⟨Hb, Hx⟩, Hs1, HO⟩
  ihave Hx := (pointsTo_split_subset (q := fullShare) (f := fx) hSx).2 $$ [Hx Hxr]; · isplitl [Hx] <;> iassumption
  -- what the buffer reads now
  have hbuf : ∀ (u : S256x128.Idx) (z : S262144x128.Idx), (z 0).val = 8192 * wid L + 256 * t.val + (u 0).val → (z 1).val = (u 1).val →
      a6.view.read (Elt F) (a6.view.write (Elt F) f6 ((srcRows L a2 t).view.read (Elt F) fx) Finset.univ) u = a2.view.read (Elt F) fx z := by
    intro u z h0 h1
    rw [View.read_write_univ]
    exact read_srcRows d L a2 fx t u z h0 h1
  generalize hf6' : a6.view.write (Elt F) f6 ((srcRows L a2 t).view.read (Elt F) fx) Finset.univ = f6' at hbuf
  sl_exec
  -- half 0
  have hin0 := row_in d L a5 P f5 hP h5P t 0
  have hinj0 : Function.Injective (rows ((idxRow a5 t 0).view.read (Elt F) f5) (rfl : S128.numel = S128x128.size gathers_S262144x128_S128x128.axis') hin0) :=
    rows_injective (row_words_inj d L a5 P f5 hP h5P t 0)
  have hown0 : namedRows (thr d L) (dstAll a4).view gathers_S262144x128_S128x128.axis
      (rows ((idxRow a5 t 0).view.read (Elt F) f5) (rfl : S128.numel = S128x128.size gathers_S262144x128_S128x128.axis') hin0) ⊆ OwnSet d L a4 (wid L) :=
    namedRows_subset_own d L a4 _ (row_own d L a5 P f5 hP h5P t 0 rfl)
  have hbs0 : (half0 a6).view.set ⊆ a6.view.set := View.set_slice_subset _ _
  have his0 : (idxRow a5 t 0).view.set ⊆ a5.view.set := by
    show (((a5.view.slice _).reshape S128 _).set) ⊆ _
    rw [View.set_reshape]; exact View.set_slice_subset _ _
  ihave Hbx := (pointsTo_split_subset (ℓ := a6.view.loc (thr d L)) (q := fullShare) (f := f6') hbs0).1 $$ Hb
  icases Hbx with ⟨Hb, Hbr⟩
  ihave Hix := (pointsTo_split_subset (ℓ := a5.view.loc (thr d L)) (q := fullShare) (f := f5) his0).1 $$ Hi
  icases Hix with ⟨Hi, Hir⟩
  ihave Hdx := (pointsTo_split_subset (ℓ := a4.view.loc (thr d L)) (q := fullShare) (f := fd) hown0).1 $$ Hd
  icases Hdx with ⟨Hd, Hdr⟩
  iapply (SparseCore.wp_indirectScatterLocal countersEmb 𝒱₀ (thr d L) none (src := half0 a6) (dst := dstAll a4) (offs := idxRow a5 t 0) (hg := gathers_S262144x128_S128x128)
    (default : HIx 2) (half0 a6).view.dmaCredit (show 0 < S128x128.numel by decide) hin0 hinj0 (dst_credit d L a4 (half0 a6) _ _)) $$ [Hb Hd Hi Hs]
  · isplitl [Hb]; · iexact Hb
    isplitl [Hd]; · iexact Hd
    isplitl [Hi]; · iexact Hi
    iexact Hs
  iintro Hfl
  sl_exec
  iapply (Transfers.wp_waitLocalO countersEmb 𝒱₀ (thr d L) none (default : HIx 2) (rfl : (half0 a6).view.dmaCredit = _)) $$ [Hfl HO]
  · isplitl [Hfl]; · iexact Hfl
    isplitl [HO]; · iexact HO
    iapply (Transfers.MayWaits.elim (SemLoc.dma a7.sem)) $$ Hmw
  iintro ⟨⟨Hd, Hb, Hi⟩, Hs, HO⟩
  ihave Hb := (pointsTo_split_subset (ℓ := a6.view.loc (thr d L)) (q := fullShare) (f := f6') hbs0).2 $$ [Hb Hbr]; · isplitl [Hb] <;> iassumption
  ihave Hi := (pointsTo_split_subset (ℓ := a5.view.loc (thr d L)) (q := fullShare) (f := f5) his0).2 $$ [Hi Hir]; · isplitl [Hi] <;> iassumption
  ihave Hd := (rejoin d L a2 a4 a5 P fx f5 (half0 a6) f6' hP h5P t 0 rfl hin0 hinj0 fd
    (fun u z h0 h1 => by
      rw [read_half0 d L a6 f6' u (ValueIdx.ix2 (n0 := 256) (n1 := 128) ⟨0 + (u 0).val, by have : (u 0).val < 128 := (u 0).isLt; omega⟩ (u 1)) (Nat.zero_add _) rfl]
      exact hbuf _ z (by rw [h0]; show _ + 128 * (2 * t.val + 0) + _ = _ + (0 + (u 0).val); omega) h1) hfd) $$ [Hd Hdr]
  · isplitl [Hd]; · iexact Hd
    iexact Hdr
  icases Hd with ⟨%fd1, %hfd1, Hd⟩
  sl_exec
  -- half 1
  have hin1 := row_in d L a5 P f5 hP h5P t 1
  have hinj1 : Function.Injective (rows ((idxRow a5 t 1).view.read (Elt F) f5) (rfl : S128.numel = S128x128.size gathers_S262144x128_S128x128.axis') hin1) :=
    rows_injective (row_words_inj d L a5 P f5 hP h5P t 1)
  have hown1 : namedRows (thr d L) (dstAll a4).view gathers_S262144x128_S128x128.axis
      (rows ((idxRow a5 t 1).view.read (Elt F) f5) (rfl : S128.numel = S128x128.size gathers_S262144x128_S128x128.axis') hin1) ⊆ OwnSet d L a4 (wid L) :=
    namedRows_subset_own d L a4 _ (row_own d L a5 P f5 hP h5P t 1 rfl)
  have hbs1 : (half1 a6).view.set ⊆ a6.view.set := View.set_slice_subset _ _
  have his1 : (idxRow a5 t 1).view.set ⊆ a5.view.set := by
    show (((a5.view.slice _).reshape S128 _).set) ⊆ _
    rw [View.set_reshape]; exact View.set_slice_subset _ _
  ihave Hbx := (pointsTo_split_subset (ℓ := a6.view.loc (thr d L)) (q := fullShare) (f := f6') hbs1).1 $$ Hb
  icases Hbx with ⟨Hb, Hbr⟩
  ihave Hix := (pointsTo_split_subset (ℓ := a5.view.loc (thr d L)) (q := fullShare) (f := f5) his1).1 $$ Hi
  icases Hix with ⟨Hi, Hir⟩
  ihave Hdx := (pointsTo_split_subset (ℓ := a4.view.loc (thr d L)) (q := fullShare) (f := fd1) hown1).1 $$ Hd
  icases Hdx with ⟨Hd, Hdr⟩
  iapply (SparseCore.wp_indirectScatterLocal countersEmb 𝒱₀ (thr d L) none (src := half1 a6) (dst := dstAll a4) (offs := idxRow a5 t 1) (hg := gathers_S262144x128_S128x128)
    (default : HIx 2) (half1 a6).view.dmaCredit (show 0 < S128x128.numel by decide) hin1 hinj1 (dst_credit d L a4 (half1 a6) _ _)) $$ [Hb Hd Hi Hs]
  · isplitl [Hb]; · iexact Hb
    isplitl [Hd]; · iexact Hd
    isplitl [Hi]; · iexact Hi
    iexact Hs
  iintro Hfl
  sl_exec
  iapply (Transfers.wp_waitLocalO countersEmb 𝒱₀ (thr d L) none (default : HIx 2) (rfl : (half1 a6).view.dmaCredit = _)) $$ [Hfl HO]
  · isplitl [Hfl]; · iexact Hfl
    isplitl [HO]; · iexact HO
    iapply (Transfers.MayWaits.elim (SemLoc.dma a7.sem)) $$ Hmw
  iintro ⟨⟨Hd, Hb, Hi⟩, Hs, HO⟩
  ihave Hb := (pointsTo_split_subset (ℓ := a6.view.loc (thr d L)) (q := fullShare) (f := f6') hbs1).2 $$ [Hb Hbr]; · isplitl [Hb] <;> iassumption
  ihave Hi := (pointsTo_split_subset (ℓ := a5.view.loc (thr d L)) (q := fullShare) (f := f5) his1).2 $$ [Hi Hir]; · isplitl [Hi] <;> iassumption
  ihave Hd := (rejoin d L a2 a4 a5 P fx f5 (half1 a6) f6' hP h5P t 1 rfl hin1 hinj1 fd1
    (fun u z h0 h1 => by
      rw [read_half1 d L a6 f6' u (ValueIdx.ix2 (n0 := 256) (n1 := 128) ⟨128 + (u 0).val, by have : (u 0).val < 128 := (u 0).isLt; omega⟩ (u 1)) rfl rfl]
      exact hbuf _ z (by rw [h0]; show _ + 128 * (2 * t.val + 1) + _ = _ + (128 + (u 0).val); omega) h1) hfd1) $$ [Hd Hdr]
  · isplitl [Hd]; · iexact Hd
    iexact Hdr
  icases Hd with ⟨%fd2, %hfd2, Hd⟩
  sl_exec
  sl_step
  isplitr; · iexact Hmw
  isplitl [Hx]; · iexact Hx
  isplitl [Hi]; · iexact Hi
  isplitl [Hb]; · iexists _; iexact Hb
  isplitl [Hd]
  · iexists _; isplitr
    · ipureintro; exact hfd2
    · iexact Hd
  isplitl [Hs]; · iexact Hs
  isplitl [Hs1]; · iexact Hs1
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.Proof.Sort

end
-- ==== Proof.Blocks.lean ====
/- The tiles' blocks of the arrays, and what the scattered blocks hold. -/
module

public import proofs.«01_k».proof.Proof.Trip

@[expose] public section

noncomputable section

namespace Cert.Proof.Sort

open Cert.KernelIdeal Cert.KernelIdeal.Gen

open Idealize.ShloMosaic
open Idealize.ShloMosaic.SparseCore (S V T)

/-- Tile `w`'s 8192 rows, its 256 sampled rows, its row of the positions, its row of the sampled positions. -/
def blk (w : ℕ) : Finset S262144x128.Idx := Finset.univ.filter fun y => (y 0).val / 8192 = w
def sblk (w : ℕ) : Finset S8192x128.Idx := Finset.univ.filter fun y => (y 0).val / 256 = w
def prow (w : ℕ) : Finset S32x64x128.Idx := Finset.univ.filter fun x => (x 0).val = w
def srow (w : ℕ) : Finset S32x2x128.Idx := Finset.univ.filter fun x => (x 0).val = w

/-- Row `w` of the positions. -/
def posRow (p : S32x64x128.Idx → BitVec 32) (w : Fin 32) (x : S64x128.Idx) : BitVec 32 :=
  p (fun a => match a with | ⟨0, _⟩ => w | ⟨1, _⟩ => x 0 | ⟨2, _⟩ => x 1)

/-- Every row of the positions names each row of its block once. -/
def PosAll (p : S32x64x128.Idx → BitVec 32) : Prop := ∀ w : Fin 32, PosOK w.val (posRow p w)

/-- The row of the source that position word `x` sits at. -/
def flat (x : S32x64x128.Idx) : Fin 262144 :=
  ⟨8192 * (x 0).val + 128 * (x 1).val + (x 2).val, by
    have h0 : (x 0).val < 32 := (x 0).isLt
    have h1 : (x 1).val < 64 := (x 1).isLt
    have h2 : (x 2).val < 128 := (x 2).isLt
    omega⟩

open Classical in
/-- The source's rows, each at the row that its position names. -/
def scat {α : Type} (p : S32x64x128.Idx → BitVec 32) (src : S262144x128.Idx → α) : S262144x128.Idx → α := fun y =>
  if h : ∃ x : S32x64x128.Idx, (p x).toNat = (y 0).val then src (ValueIdx.ix2 (n0 := 262144) (n1 := 128) (flat h.choose) (y 1)) else src y

theorem posOK_surj {w : ℕ} {P : S64x128.Idx → BitVec 32} (h : PosOK w P) (n : ℕ) (hn : n / 8192 = w) : ∃ x, (P x).toNat = n := by
  have hc : Fintype.card S64x128.Idx = 8192 := (Fintype.card_congr S64x128.rowMajor).trans ((Fintype.card_fin _).trans (by decide))
  have himg : (Finset.univ.image fun x : S64x128.Idx => (P x).toNat) = Finset.Ico (8192 * w) (8192 * w + 8192) := by
    apply Finset.eq_of_subset_of_card_le
    · intro n hn
      obtain ⟨x, -, rfl⟩ := Finset.mem_image.mp hn
      exact Finset.mem_Ico.mpr ⟨h.lo x, h.hi x⟩
    · rw [Finset.card_image_of_injective _ h.inj, Finset.card_univ, hc, Nat.card_Ico]; omega
  have : n ∈ Finset.Ico (8192 * w) (8192 * w + 8192) := Finset.mem_Ico.mpr ⟨by omega, by omega⟩
  rw [← himg] at this
  obtain ⟨x, -, hx⟩ := Finset.mem_image.mp this
  exact ⟨x, hx⟩

/-- The index of the positions of tile `w` at `x`. -/
def upIx (w : Fin 32) (x : S64x128.Idx) : S32x64x128.Idx := fun a => match a with | ⟨0, _⟩ => w | ⟨1, _⟩ => x 0 | ⟨2, _⟩ => x 1
def downIx (x : S32x64x128.Idx) : S64x128.Idx := ValueIdx.ix2 (n0 := 64) (n1 := 128) (x 1) (x 2)
theorem up_down (x : S32x64x128.Idx) : upIx (x 0) (downIx x) = x := by
  funext a; match a with | ⟨0, _⟩ => rfl | ⟨1, _⟩ => rfl | ⟨2, _⟩ => rfl

/-- A position word's row is the word's tile's. -/
theorem posAll_block {p : S32x64x128.Idx → BitVec 32} (h : PosAll p) (x : S32x64x128.Idx) : (p x).toNat / 8192 = (x 0).val := by
  have h1 := (h (x 0)).lo (downIx x)
  have h2 := (h (x 0)).hi (downIx x)
  rw [show posRow p (x 0) (downIx x) = p x from congrArg p (up_down x)] at h1 h2
  have h0 : (x 0).val < 32 := (x 0).isLt
  omega

theorem posAll_inj {p : S32x64x128.Idx → BitVec 32} (h : PosAll p) {x x' : S32x64x128.Idx} (e : (p x).toNat = (p x').toNat) : x = x' := by
  have h0 : x 0 = x' 0 := Fin.ext (by rw [← posAll_block h x, ← posAll_block h x', e])
  have e' : (posRow p (x 0) (downIx x)).toNat = (posRow p (x 0) (downIx x')).toNat := by
    rw [show posRow p (x 0) (downIx x) = p x from congrArg p (up_down x),
      show posRow p (x 0) (downIx x') = p x' by rw [h0]; exact congrArg p (up_down x')]
    exact e
  have := (h (x 0)).inj e'
  rw [← up_down x, ← up_down x', ← h0, this]

/-- Every row is named by a position word. -/
theorem posAll_surj {p : S32x64x128.Idx → BitVec 32} (h : PosAll p) (n : ℕ) (hn : n < 262144) : ∃ x, (p x).toNat = n := by
  obtain ⟨x, hx⟩ := posOK_surj (h ⟨n / 8192, by omega⟩) n rfl
  exact ⟨_, hx⟩

/-- The scattered rows at a named row. -/
theorem scat_at {α : Type} {p : S32x64x128.Idx → BitVec 32} (h : PosAll p) (src : S262144x128.Idx → α) (x : S32x64x128.Idx) (y : S262144x128.Idx)
    (hx : (p x).toNat = (y 0).val) : scat p src y = src (ValueIdx.ix2 (n0 := 262144) (n1 := 128) (flat x) (y 1)) := by
  have hex : ∃ x : S32x64x128.Idx, (p x).toNat = (y 0).val := ⟨x, hx⟩
  unfold scat
  rw [dif_pos hex, posAll_inj h (hex.choose_spec.trans hx.symm)]

/-- When all 64 rows of a tile's positions are done, its block is the scattered rows. -/
theorem done_all {F : FTy → Type} [FloatOps F] {p : S32x64x128.Idx → BitVec 32} (h : PosAll p) (w : Fin 32) (src R : S262144x128.Idx → Elt F .f32)
    (hd : Done (posRow p w) (8192 * w.val) src 64 R) (y : S262144x128.Idx) (hy : y ∈ blk w.val) : R y = scat p src y := by
  have hyw : (y 0).val / 8192 = w.val := (Finset.mem_filter.mp hy).2
  obtain ⟨x, hx⟩ := posOK_surj (h w) (y 0).val hyw
  rw [scat_at h src (upIx w x) y hx]
  refine hd x y _ (x 0).isLt hx.symm ?_ rfl
  rfl

end Cert.Proof.Sort

end
-- ==== Proof.Core.lean ====
/- A tile's row of positions copied in, and the permuting loop: the text that both SparseCore calls share. -/
module

public import proofs.«01_k».proof.Proof.Blocks

@[expose] public section

noncomputable section

namespace Cert.Proof.Sort

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Core

variable (d : Dev nD) (L : grid0.Coords)
variable (a2 : Memref sig .scVector .hbm S262144x128 .f32) (h2 : a2.IsWhole)
  (a3 : Memref sig .scVector .hbm S32x64x128 .i32) (h3 : a3.IsWhole)
  (a4 : Memref sig .scVector .hbm S262144x128 .f32) (h4 : a4.IsWhole)
  (a5 : Memref sig .scVector .vmem S64x128 .i32) (h5 : a5.IsWhole)
  (a6 : Memref sig .scVector .vmem S256x128 .f32) (h6 : a6.IsWhole) (a7 s0 s1 : DmaSems sig S_) (v : BitVec 32)

/-- The tile's row of the positions as the kernel slices it. -/
abbrev posSlice : Memref sig .scVector .hbm S64x128 .i32 :=
  (a3.slice (Rect.unit (s := S32x64x128) (k0_off1 L) S1x64x128.size (k0_off1_inb L)) (fun _ => rfl)).squeeze S64x128 squeezes_S1x64x128_S64x128

theorem read_posSlice (f : Buf (Elt F) (a3.view.loc (thr d L))) (x : S64x128.Idx) :
    (posSlice L a3).view.read (Elt F) f x = posRow (a3.view.read (Elt F) f) ⟨wid L, wid_lt L⟩ x := by
  show a3.view.read (Elt F) f ((Rect.unit (s := S32x64x128) (k0_off1 L) S1x64x128.size (k0_off1_inb L)).emb
    (Shape.reshapeEquiv squeezes_S1x64x128_S64x128.numel_eq x)) = _
  have hu : Shape.reshapeEquiv squeezes_S1x64x128_S64x128.numel_eq x = ValueIdx.ix3 (n0 := 1) (n1 := 64) (n2 := 128) 0 (x 0) (x 1) := by
    apply Shape.reshapeEquiv_eq_of_rowMajor
    rw [Shape.rowMajor_val_two, Shape.rowMajor_val_three]
    simp
  rw [hu]
  refine read_unit a3 (k0_off1_inb L) (k0_off1_eq L) (fun _ => rfl) f (ValueIdx.ix3 (n0 := 1) (n1 := 64) (n2 := 128) 0 (x 0) (x 1)) _ fun a => ?_
  match a with
  | ⟨0, _⟩ => rfl
  | ⟨1, _⟩ => exact (Nat.zero_add _).symm
  | ⟨2, _⟩ => exact (Nat.zero_add _).symm

variable (P : S64x128.Idx → BitVec 32) (Sx : Finset (Idx (a2.view.loc (thr d L)))) (fx : Buf (Elt F) (a2.view.loc (thr d L)))
  (Sp : Finset (Idx (a3.view.loc (thr d L)))) (fp : Buf (Elt F) (a3.view.loc (thr d L)))

set_option maxHeartbeats 4000000 in
theorem core (hP : PosOK (wid L) P) (hpP : (posSlice L a3).view.read (Elt F) fp = P) (O : CellTallies nD τ sig (HIx 2)) (W : Waits sig (HIx 2))
    (hSx : ∀ t, (srcRows L a2 t).view.set ⊆ Sx) (hSp : (posSlice L a3).view.set ⊆ Sp)
    (g : Buf (Elt F) (a4.view.loc (thr d L))) (f5 : Buf (Elt F) (a5.view.loc (thr d L))) (f6 : Buf (Elt F) (a6.view.loc (thr d L)))
    {α : Type} (kk : BitVec 32 → Prog (TpuEff nD τ sig (Elt F) Λ₀ (.scVector (cV L) (jV L))) α) (Q : α → sProp 𝕄)
    (e1 e2 e3 e4 e5) :
    iprop(Transfers.MayWaits (thr d L) (default : HIx 2) O
        ∗ (a2.view.loc (thr d L) ↦[Sx]{fullShare} fx)
        ∗ (a3.view.loc (thr d L) ↦[Sp]{fullShare} fp)
        ∗ (a4.view.loc (thr d L) ↦[OwnSet d L a4 (wid L)]{fullShare} g)
        ∗ (a5.view.loc (thr d L) ↦[a5.view.set]{fullShare} f5)
        ∗ (a6.view.loc (thr d L) ↦[a6.view.set]{fullShare} f6)
        ∗ semVal (thr d L, SemLoc.dma a7.sem) 0
        ∗ semVal (thr d L, SemLoc.dma s0.sem) 0
        ∗ semVal (thr d L, SemLoc.dma s1.sem) 0
        ∗ owes (thr d L) O W)
      ⊢ iprop((∀ b : BitVec 32, iprop(inv (F := F) d L a2 a4 a5 a6 a7 s1 P Sx fx (a5.view.write (Elt F) f5 P Finset.univ) O W 32 b
            ∗ (a3.view.loc (thr d L) ↦[Sp]{fullShare} fp) ∗ semVal (thr d L, SemLoc.dma s0.sem) 0)
          -∗ wp frame (wpE (defs₀ (F := F)) 𝒱₀ (thr d L) none) Set.univ (kk b) Q)
        -∗ wp frame (wpE (defs₀ (F := F)) 𝒱₀ (thr d L) none) Set.univ
          (Prog.lift (.enqueueDma (posSlice L a3) (.here a5) (.dma s0.sem) e1 e2 e3) >>= fun _ =>
            Prog.lift (.waitDma2 s0.sem (posSlice L a3) a5 e4 e5) >>= fun _ =>
            Scf.Loop.for k0_t1_loop k0_t1_ok 0#32 (k0_t1_body L a2 h2 a3 h3 a4 h4 a5 h5 a6 h6 a7 s0 s1 v) >>= kk) Q) := by
  iintro ⟨#Hmw, Hx, Hp, Hd, Hi, Hb, Hs, Hs0, Hs1, HO⟩ HK
  ihave Hpx := (pointsTo_split_subset (ℓ := a3.view.loc (thr d L)) (q := fullShare) (f := fp) hSp).1 $$ Hp
  icases Hpx with ⟨Hp, Hpr⟩
  iapply (Transfers.wp_dmaLocal countersEmb 𝒱₀ (thr d L) none (src := posSlice L a3) (dst := a5) (default : HIx 2) a5.view.dmaCredit rfl
    (View.amount_pos a5.view (SemLoc.dma s0.sem) (show 0 < S64x128.numel by decide)) (subset_refl _)) $$ [Hp Hi Hs0]
  · isplitl [Hp]; · iexact Hp
    isplitl [Hi]; · iexact Hi
    iexact Hs0
  iintro Hfl
  iapply (Transfers.wp_waitLocalO countersEmb 𝒱₀ (thr d L) none (default : HIx 2) (rfl : a5.view.dmaCredit = _)) $$ [Hfl HO]
  · isplitl [Hfl]; · iexact Hfl
    isplitl [HO]; · iexact HO
    iapply (Transfers.MayWaits.elim (SemLoc.dma s0.sem)) $$ Hmw
  iintro ⟨⟨Hi, Hp⟩, Hs0, HO⟩
  ihave Hp := (pointsTo_split_subset (ℓ := a3.view.loc (thr d L)) (q := fullShare) (f := fp) hSp).2 $$ [Hp Hpr]
  · isplitl [Hp]; · iexact Hp
    iexact Hpr
  rw [hpP]
  have h5P : a5.view.read (Elt F) (a5.view.write (Elt F) f5 P Finset.univ) = P := View.read_write_univ _ _
  iapply (Scf.wp_for_bind frame (wpE (defs₀ (F := F)) 𝒱₀ (thr d L) none) Set.univ _ _ _ k0_t1_ok 0#32 _
    (inv (F := F) d L a2 a4 a5 a6 a7 s1 P Sx fx (a5.view.write (Elt F) f5 P Finset.univ) O W)
    (fun t b => trip d L a2 h2 a3 h3 a4 h4 a5 h5 a6 h6 a7 s0 s1 v P Sx fx _ hP h5P O W t b (hSx t))) $$ [Hx Hi Hb Hd Hs Hs1 HO]
  · unfold inv
    isplitr; · iexact Hmw
    isplitl [Hx]; · iexact Hx
    isplitl [Hi]; · iexact Hi
    isplitl [Hb]; · iexists _; iexact Hb
    isplitl [Hd]
    · iexists g; isplitr
      · ipureintro; exact done_zero _ _ _ _
      · iexact Hd
    isplitl [Hs]; · iexact Hs
    isplitl [Hs1]; · iexact Hs1
    iexists _; isplitr
    swap; · iexact HO
    ipureintro; intro p hp
    rcases Finset.mem_insert.mp hp with hp | hp; · exact .inr (hp ▸ rfl)
    exact .inl hp
  iintro %b HI
  iapply HK
  isplitl [HI]; · iexact HI
  isplitl [Hp]; · iexact Hp
  iexact Hs0

end Core

end Cert.Proof.Sort

end
-- ==== Proof.TileQ.lean ====
/- The first SparseCore call's task: the queries' rows scattered. -/
module

public import proofs.«01_k».proof.Proof.Core

@[expose] public section

noncomputable section

namespace Cert.Proof.Sort

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A slice of a memref at unit stride: an element of its set is an element of the memref, its offset added. -/
theorem mem_unit_set {sig : RefSig} {κ : Kind} {sp : Space} {s : Shape} {e : EltTy} (m : Memref sig κ sp s e)
    {off off' size : Fin s.rank → ℕ} (inb : ∀ a, off a + size a ≤ s.size a) (ho : off = off') (hs : ∀ a, (Rect.unit off size inb).stride a = 1)
    {i : m.view.ty.Idx} (h : i ∈ (m.slice (Rect.unit off size inb) hs).view.set) :
    ∃ z : s.Idx, m.view.emb z = i ∧ ∀ a, off' a ≤ (z a).val ∧ (z a).val < off' a + size a := by
  subst ho
  obtain ⟨u, -, rfl⟩ := Finset.mem_map.mp h
  refine ⟨(Rect.unit off size inb).emb u, rfl, fun a => ?_⟩
  rw [Rect.emb_apply]
  have hu : (u a).val < size a := (u a).isLt
  show off a ≤ off a + 1 * (u a).val ∧ off a + 1 * (u a).val < off a + size a
  omega

local notation "xQ" => (Memref.whole Cert.KernelIdeal.main_v3_scv : Memref Cert.KernelIdeal.sig Kind.scVector Space.hbm Cert.KernelIdeal.S262144x128 EltTy.f32)
local notation "pQ" => (Memref.whole Cert.KernelIdeal.main_v2_scv : Memref Cert.KernelIdeal.sig Kind.scVector Space.hbm Cert.KernelIdeal.S32x64x128 EltTy.i32)
local notation "oQ" => (Memref.whole Cert.KernelIdeal.main_v4_scv : Memref Cert.KernelIdeal.sig Kind.scVector Space.hbm Cert.KernelIdeal.S262144x128 EltTy.f32)
local notation "iQ" => (Memref.whole Cert.KernelIdeal.cc0_scratch0 : Memref Cert.KernelIdeal.sig Kind.scVector Space.vmem Cert.KernelIdeal.S64x128 EltTy.i32)
local notation "bQ" => (Memref.whole Cert.KernelIdeal.cc0_scratch1 : Memref Cert.KernelIdeal.sig Kind.scVector Space.vmem Cert.KernelIdeal.S256x128 EltTy.f32)

abbrev xqLoc (d : Dev nD) : Loc nD τ sig := (SparseCore.T d).loc main_v3
abbrev pqLoc (d : Dev nD) : Loc nD τ sig := (SparseCore.T d).loc main_v2
abbrev oqLoc (d : Dev nD) : Loc nD τ sig := (SparseCore.T d).loc main_v4

section Tile
variable (d : Dev nD) (L : grid0.Coords)

theorem xQ_sub (t : Fin k0_t1_loop.trips) : (srcRows L xQ t).view.set ⊆ (blk (wid L) : Finset S262144x128.Idx) := by
  intro i hi
  have ht : t.val < 32 := t.isLt
  obtain ⟨z, hz, h⟩ := mem_unit_set xQ (k0_off2_inb L t) (k0_off2_eq L t) (fun _ => rfl) hi
  have e : z = i := hz
  subst e
  have h0 : 16384 * (L 1).val + 8192 * (L 0).val + 256 * t.val ≤ (z 0).val ∧ (z 0).val < 16384 * (L 1).val + 8192 * (L 0).val + 256 * t.val + 256 := h 0
  refine Finset.mem_filter.mpr ⟨Finset.mem_univ _, ?_⟩
  show (z 0).val / 8192 = 2 * (L 1).val + (L 0).val
  omega

theorem mem_posSlice (m : Memref sig .scVector .hbm S32x64x128 .i32) {i : m.view.ty.Idx} (hi : i ∈ (posSlice L m).view.set) :
    ∃ z : S32x64x128.Idx, m.view.emb z = i ∧ (z 0).val = wid L := by
  have hi' : i ∈ (m.slice (Rect.unit (s := S32x64x128) (k0_off1 L) S1x64x128.size (k0_off1_inb L)) (fun _ => rfl)).view.set := by
    have : (posSlice L m).view.set = (m.slice (Rect.unit (s := S32x64x128) (k0_off1 L) S1x64x128.size (k0_off1_inb L)) (fun _ => rfl)).view.set := by
      show (((m.view.slice _).reshape S64x128 _).set) = _
      rw [View.set_reshape]
    rw [← this]; exact hi
  obtain ⟨z, hz, h⟩ := mem_unit_set m (k0_off1_inb L) (k0_off1_eq L) (fun _ => rfl) hi'
  refine ⟨z, hz, ?_⟩
  have h0 : 2 * (L 1).val + (L 0).val ≤ (z 0).val ∧ (z 0).val < 2 * (L 1).val + (L 0).val + 1 := h 0
  show (z 0).val = 2 * (L 1).val + (L 0).val
  omega

theorem pQ_sub : (posSlice L pQ).view.set ⊆ (prow (wid L) : Finset S32x64x128.Idx) := by
  intro i hi
  obtain ⟨z, hz, h⟩ := mem_posSlice L pQ hi
  have e : z = i := hz
  subst e
  exact Finset.mem_filter.mpr ⟨Finset.mem_univ _, h⟩

theorem oQ_own : OwnSet d L oQ (wid L) = (blk (wid L) : Finset S262144x128.Idx) := by
  show Finset.map _ _ = _
  exact Finset.map_refl

abbrev qA (d : Dev nD) (c : Fin τ.nSC) (i : Fin τ.nSub) : GSem nD τ sig := (V d c i, .dma cc0_scratch2.sem)
abbrev qB (d : Dev nD) (c : Fin τ.nSC) (i : Fin τ.nSub) : GSem nD τ sig := (V d c i, .dma cc0_scoped0.sem)
abbrev qC (d : Dev nD) (c : Fin τ.nSC) (i : Fin τ.nSub) : GSem nD τ sig := (V d c i, .dma cc0_scoped1.sem)

theorem ownSems0_Q :
    (ownSems0 (V d (cV L) (jV L)) : sProp 𝕄)
      = iprop(semVal (qA d (cV L) (jV L)) 0 ∗ semVal (qB d (cV L) (jV L)) 0 ∗ semVal (qC d (cV L) (jV L)) 0
          ∗ bigSep ((((ownCells (V d (cV L) (jV L))).erase (qA d (cV L) (jV L))).erase (qB d (cV L) (jV L))).erase (qC d (cV L) (jV L))) fun g => semVal g 0) := by
  unfold SparseCore.Cfg.ownSems0
  rw [SparseCore.bigSep_erase' ((mem_ownCells (g := qA d (cV L) (jV L))).mpr ⟨rfl, by
      show (SemLoc.dma cc0_scratch2.sem : SemLoc sig).isScoped .scVector = true; decide⟩),
    SparseCore.bigSep_erase' (Finset.mem_erase.mpr ⟨by simp [qA, qB]; decide, (mem_ownCells (g := qB d (cV L) (jV L))).mpr ⟨rfl, by
      show (SemLoc.dma cc0_scoped0.sem : SemLoc sig).isScoped .scVector = true; decide⟩⟩),
    SparseCore.bigSep_erase' (Finset.mem_erase.mpr ⟨by simp [qB, qC]; decide, Finset.mem_erase.mpr ⟨by simp [qA, qC]; decide,
      (mem_ownCells (g := qC d (cV L) (jV L))).mpr ⟨rfl, by show (SemLoc.dma cc0_scoped1.sem : SemLoc sig).isScoped .scVector = true; decide⟩⟩⟩)]

theorem ownBufs_Q :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the first call's task of tile `w` takes, and what it brings back. -/
def goQ (d : Dev nD) (X : Buf (Elt F) (xqLoc d)) (Pv : Buf (Elt F) (pqLoc d)) (g : Buf (Elt F) (oqLoc d)) (w : ℕ) : sProp 𝕄 :=
  iprop((xqLoc d ↦[(blk w : Finset S262144x128.Idx)]{fullShare} X) ∗ (pqLoc d ↦[(prow w : Finset S32x64x128.Idx)]{fullShare} Pv)
    ∗ (oqLoc d ↦[(blk w : Finset S262144x128.Idx)]{fullShare} g))

set_option maxHeartbeats 4000000 in
theorem tileQ (hF : (K (F := F)).Facts) (X : Buf (Elt F) (xqLoc d)) (Pv : Buf (Elt F) (pqLoc d)) (g : Buf (Elt F) (oqLoc d))
    (hPv : PosAll (Pv : S32x64x128.Idx → BitVec 32)) (O : CellTallies nD τ sig (HIx 2)) (W : Waits sig (HIx 2)) (hO : ∀ g, O g none = 0) :
    iprop(levAts (K (F := F)).L (K (F := F)).lev ∗ emp
        ∗ goQ d X Pv g (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_permute_q L xQ (Memref.isWhole_whole _) pQ (Memref.isWhole_whole _) oQ (Memref.isWhole_whole _)
            iQ (Memref.isWhole_whole _) bQ (Memref.isWhole_whole _) cc0_scratch2 cc0_scoped0 cc0_scoped1)
          fun _ => iprop(goQ d X Pv (scat (Pv : S32x64x128.Idx → BitVec 32) (X : S262144x128.Idx → Elt F .f32)) (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_permute_q_eq_skeleton]; unfold cc0_permute_q_skel
  rw [(K (F := F)).scopedBufs_V hF d (cV L) (jV L), SparseCore.Cfg.scopedSems0_V (Val := Elt F) d (cV L) (jV L), ownSems0_Q, ownBufs_Q]
  unfold goQ
  iintro ⟨#Hlv, -, ⟨Hx, Hp, Ho⟩, ⟨⟨%f5, Hi⟩, ⟨%f6, Hb⟩, Hbufs⟩, ⟨HsA, HsB, HsC, Hsems⟩, HO⟩
  ihave #Hmw := (show levAts (K (F := F)).L (K (F := F)).lev ⊢ Transfers.MayWaits (V d (cV L) (jV L)) (default : HIx 2) O from
    (K (F := F)).mayWaits_none (thr := V d (cV L) (jV L)) hO) $$ Hlv
  have hi5 : (iQ).view.set = Finset.univ := View.set_whole _
  have hb6 : (bQ).view.set = Finset.univ := View.set_whole _
  have hoo := oQ_own d L
  have hrow : (posSlice L pQ).view.read (Elt F) Pv = posRow (Pv : S32x64x128.Idx → BitVec 32) ⟨wid L, wid_lt L⟩ := by
    funext x; exact (read_posSlice d L pQ Pv x)
  iapply (core d L xQ (Memref.isWhole_whole _) pQ (Memref.isWhole_whole _) oQ (Memref.isWhole_whole _) iQ (Memref.isWhole_whole _) bQ (Memref.isWhole_whole _)
    cc0_scratch2 cc0_scoped0 cc0_scoped1 _ (posRow (Pv : S32x64x128.Idx → BitVec 32) ⟨wid L, wid_lt L⟩) (blk (wid L) : Finset S262144x128.Idx) X (prow (wid L) : Finset S32x64x128.Idx) Pv
    (hPv ⟨wid L, wid_lt L⟩) hrow O W (xQ_sub L) (pQ_sub L) g f5 f6 _ _ _ _ _ _ _) $$ [Hx Hp Ho Hi Hb HsA HsB HsC HO]
  · rw [hi5, hb6, hoo]
    isplitr; · iexact Hmw
    isplitl [Hx]; · iexact Hx
    isplitl [Hp]; · iexact Hp
    isplitl [Ho]; · iexact Ho
    isplitl [Hi]; · iexact Hi
    isplitl [Hb]; · iexact Hb
    isplitl [HsA]; · iexact HsA
    isplitl [HsB]; · iexact HsB
    isplitl [HsC]; · iexact HsC
    iexact HO
  unfold inv
  rw [hi5, hb6, hoo]
  iintro %b ⟨⟨-, Hx, Hi, ⟨%f6', Hb⟩, ⟨%fo, %hfo, Ho⟩, HsA, HsC, %W', %hW', HO⟩, Hp, HsB⟩
  sl_step
  isplitl [Hx Hp Ho]
  · isplitl [Hx]; · iexact Hx
    isplitl [Hp]; · iexact Hp
    iapply (Entails.of_eq (pointsTo_congr (ℓ := oqLoc d) (I := (blk (wid L) : Finset S262144x128.Idx)) (q := fullShare) (f := fo)
      (g := (scat (Pv : S32x64x128.Idx → BitVec 32) (X : S262144x128.Idx → Elt F .f32))) fun y hy => done_all hPv ⟨wid L, wid_lt L⟩ X fo hfo y hy)) $$ Ho
  isplitl [Hi Hb Hbufs]
  · isplitl [Hi]; · iexists _; iexact Hi
    isplitl [Hb]; · iexists _; iexact Hb
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; exact hW'

end Tile

end Cert.Proof.Sort

end
-- ==== Proof.SubFacts.lean ====
/- The second SparseCore call's task: the packed keys and values scattered, then the sampled rows gathered. -/
module

public import proofs.«01_k».proof.Proof.TileQ

@[expose] public section

noncomputable section

namespace Cert.Proof.Sort

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "xK" => (Memref.whole Cert.KernelIdeal.main_v6_scv : Memref Cert.KernelIdeal.sig Kind.scVector Space.hbm Cert.KernelIdeal.S262144x128 EltTy.f32)
local notation "pK" => (Memref.whole Cert.KernelIdeal.main_v5_scv : Memref Cert.KernelIdeal.sig Kind.scVector Space.hbm Cert.KernelIdeal.S32x64x128 EltTy.i32)
local notation "sK" => (Memref.whole Cert.KernelIdeal.main_v1_scv : Memref Cert.KernelIdeal.sig Kind.scVector Space.hbm Cert.KernelIdeal.S32x2x128 EltTy.i32)
local notation "oK" => (Memref.whole Cert.KernelIdeal.main_v7_0_scv : Memref Cert.KernelIdeal.sig Kind.scVector Space.hbm Cert.KernelIdeal.S262144x128 EltTy.f32)
local notation "uK" => (Memref.whole Cert.KernelIdeal.main_v7_1_scv : Memref Cert.KernelIdeal.sig Kind.scVector Space.hbm Cert.KernelIdeal.S8192x128 EltTy.f32)
local notation "iK" => (Memref.whole Cert.KernelIdeal.cc1_scratch0 : Memref Cert.KernelIdeal.sig Kind.scVector Space.vmem Cert.KernelIdeal.S64x128 EltTy.i32)
local notation "bK" => (Memref.whole Cert.KernelIdeal.cc1_scratch1 : Memref Cert.KernelIdeal.sig Kind.scVector Space.vmem Cert.KernelIdeal.S256x128 EltTy.f32)
local notation "jK" => (Memref.whole Cert.KernelIdeal.cc1_scratch2 : Memref Cert.KernelIdeal.sig Kind.scVector Space.vmem Cert.KernelIdeal.S2x128 EltTy.i32)
local notation "gK" => (Memref.whole Cert.KernelIdeal.cc1_scratch3 : Memref Cert.KernelIdeal.sig Kind.scVector Space.vmem Cert.KernelIdeal.S256x128 EltTy.f32)

abbrev xkLoc (d : Dev nD) : Loc nD τ sig := (SparseCore.T d).loc main_v6
abbrev pkLoc (d : Dev nD) : Loc nD τ sig := (SparseCore.T d).loc main_v5
abbrev skLoc (d : Dev nD) : Loc nD τ sig := (SparseCore.T d).loc main_v1
abbrev okLoc (d : Dev nD) : Loc nD τ sig := (SparseCore.T d).loc main_v7_0
abbrev ukLoc (d : Dev nD) : Loc nD τ sig := (SparseCore.T d).loc main_v7_1

/-! ## The sampled rows -/

/-- Every sampled position is a position of a row. -/
def SampOK (sp : S32x2x128.Idx → BitVec 32) : Prop := ∀ x, (sp x).toNat < 8192

/-- Where sampled row `n` is listed. -/
def sampIx (n : Fin 8192) : S32x2x128.Idx :=
  ValueIdx.ix3 (n0 := 32) (n1 := 2) (n2 := 128) ⟨n.val / 256, by omega⟩ ⟨n.val % 256 / 128, by omega⟩ ⟨n.val % 128, by omega⟩

/-- The rows that the sampled positions name, each in its own tile's block. -/
def subOf {α : Type} (sp : S32x2x128.Idx → BitVec 32) (kv : S262144x128.Idx → α) : S8192x128.Idx → α := fun y =>
  kv (ValueIdx.ix2 (n0 := 262144) (n1 := 128) ⟨(8192 * ((y 0).val / 256) + (sp (sampIx (y 0))).toNat) % 262144, Nat.mod_lt _ (by decide)⟩ (y 1))

section Tile
variable (d : Dev nD) (L : grid0.Coords)

theorem xK_sub (t : Fin k0_t1_loop.trips) : (srcRows L xK t).view.set ⊆ (blk (wid L) : Finset S262144x128.Idx) := by
  intro i hi
  have ht : t.val < 32 := t.isLt
  obtain ⟨z, hz, h⟩ := mem_unit_set xK (k0_off2_inb L t) (k0_off2_eq L t) (fun _ => rfl) hi
  have e : z = i := hz
  subst e
  have h0 : 16384 * (L 1).val + 8192 * (L 0).val + 256 * t.val ≤ (z 0).val ∧ (z 0).val < 16384 * (L 1).val + 8192 * (L 0).val + 256 * t.val + 256 := h 0
  refine Finset.mem_filter.mpr ⟨Finset.mem_univ _, ?_⟩
  show (z 0).val / 8192 = 2 * (L 1).val + (L 0).val
  omega

theorem pK_sub : (posSlice L pK).view.set ⊆ (prow (wid L) : Finset S32x64x128.Idx) := by
  intro i hi
  obtain ⟨z, hz, h⟩ := mem_posSlice L pK hi
  have e : z = i := hz
  subst e
  exact Finset.mem_filter.mpr ⟨Finset.mem_univ _, h⟩

theorem oK_own : OwnSet d L oK (wid L) = (blk (wid L) : Finset S262144x128.Idx) := by
  show Finset.map _ _ = _
  exact Finset.map_refl

/-- The tile's row of the sampled positions, its window of the scattered rows, its block of the sampled rows. -/
abbrev sampSlice : Memref sig .scVector .hbm S2x128 .i32 :=
  ((sK).slice (Rect.unit (s := S32x2x128) (k1_off4 L) S1x2x128.size (k1_off4_inb L)) (fun _ => rfl)).squeeze S2x128 squeezes_S1x2x128_S2x128
abbrev winRows : Memref sig .scVector .hbm S8192x128 .f32 :=
  (oK).slice (Rect.unit (s := S262144x128) (k1_off5 L) S8192x128.size (k1_off5_inb L)) (fun _ => rfl)
abbrev winAll : Memref sig .scVector .hbm S8192x128 .f32 :=
  (winRows L).slice (Rect.unit (s := S8192x128) ![0, 0] S8192x128.size inb_S8192x128_S8192x128_0_0) (fun _ => rfl)
abbrev subSlice : Memref sig .scVector .hbm S256x128 .f32 :=
  (uK).slice (Rect.unit (s := S8192x128) (k1_off6 L) S256x128.size (k1_off6_inb L)) (fun _ => rfl)
abbrev sList0 : Memref sig .scVector .vmem S128 .i32 :=
  ((jK).slice (Rect.unit (s := S2x128) ![0, 0] S1x128.size inb_S2x128_S1x128_0_0) (fun _ => rfl)).squeeze S128 squeezes_S1x128_S128
abbrev sList1 : Memref sig .scVector .vmem S128 .i32 :=
  ((jK).slice (Rect.unit (s := S2x128) ![1, 0] S1x128.size inb_S2x128_S1x128_1_0) (fun _ => rfl)).squeeze S128 squeezes_S1x128_S128

theorem read_sampSlice (f : Buf (Elt F) (skLoc d)) (x : S2x128.Idx) :
    (sampSlice L).view.read (Elt F) f x = (f : S32x2x128.Idx → BitVec 32) (ValueIdx.ix3 (n0 := 32) (n1 := 2) (n2 := 128) ⟨wid L, wid_lt L⟩ (x 0) (x 1)) := by
  show (sK).view.read (Elt F) f ((Rect.unit (s := S32x2x128) (k1_off4 L) S1x2x128.size (k1_off4_inb L)).emb
    (Shape.reshapeEquiv squeezes_S1x2x128_S2x128.numel_eq x)) = _
  have hu : Shape.reshapeEquiv squeezes_S1x2x128_S2x128.numel_eq x = ValueIdx.ix3 (n0 := 1) (n1 := 2) (n2 := 128) 0 (x 0) (x 1) := by
    apply Shape.reshapeEquiv_eq_of_rowMajor
    rw [Shape.rowMajor_val_two, Shape.rowMajor_val_three]
    simp
  rw [hu]
  refine read_unit sK (k1_off4_inb L) (k1_off4_eq L) (fun _ => rfl) f (ValueIdx.ix3 (n0 := 1) (n1 := 2) (n2 := 128) 0 (x 0) (x 1)) _ fun a => ?_
  match a with
  | ⟨0, _⟩ => rfl
  | ⟨1, _⟩ => exact (Nat.zero_add _).symm
  | ⟨2, _⟩ => exact (Nat.zero_add _).symm

theorem sampSlice_sub : (sampSlice L).view.set ⊆ (srow (wid L) : Finset S32x2x128.Idx) := by
  intro i hi
  have hi' : i ∈ ((sK).slice (Rect.unit (s := S32x2x128) (k1_off4 L) S1x2x128.size (k1_off4_inb L)) (fun _ => rfl)).view.set := by
    have : (sampSlice L).view.set = ((sK).slice (Rect.unit (s := S32x2x128) (k1_off4 L) S1x2x128.size (k1_off4_inb L)) (fun _ => rfl)).view.set := by
      show (((sK).view.slice _).reshape S2x128 _).set = _
      rw [View.set_reshape]
    rw [← this]; exact hi
  obtain ⟨z, hz, h⟩ := mem_unit_set sK (k1_off4_inb L) (k1_off4_eq L) (fun _ => rfl) hi'
  have e : z = i := hz
  subst e
  have h0 : 2 * (L 1).val + (L 0).val ≤ (z 0).val ∧ (z 0).val < 2 * (L 1).val + (L 0).val + 1 := h 0
  refine Finset.mem_filter.mpr ⟨Finset.mem_univ _, ?_⟩
  show (z 0).val = 2 * (L 1).val + (L 0).val
  omega

theorem winAll_sub : (winAll L).view.set ⊆ (blk (wid L) : Finset S262144x128.Idx) := by
  intro i hi
  have hi' : i ∈ (winRows L).view.set := View.set_slice_subset _ _ hi
  obtain ⟨z, hz, h⟩ := mem_unit_set oK (k1_off5_inb L) (k1_off5_eq L) (fun _ => rfl) hi'
  have e : z = i := hz
  subst e
  have h0 : 16384 * (L 1).val + 8192 * (L 0).val ≤ (z 0).val ∧ (z 0).val < 16384 * (L 1).val + 8192 * (L 0).val + 8192 := h 0
  refine Finset.mem_filter.mpr ⟨Finset.mem_univ _, ?_⟩
  show (z 0).val / 8192 = 2 * (L 1).val + (L 0).val
  omega

theorem read_winAll (f : Buf (Elt F) (okLoc d)) (u : S8192x128.Idx) (z : S262144x128.Idx)
    (h0 : (z 0).val = 8192 * wid L + (u 0).val) (h1 : (z 1).val = (u 1).val) : (winAll L).view.read (Elt F) f u = (f : S262144x128.Idx → Elt F .f32) z := by
  rw [read_unit (winRows L) inb_S8192x128_S8192x128_0_0 rfl (fun _ => rfl) f u u fun a => match a with
    | ⟨0, _⟩ => (Nat.zero_add _).symm
    | ⟨1, _⟩ => (Nat.zero_add _).symm]
  refine read_unit oK (k1_off5_inb L) (k1_off5_eq L) (fun _ => rfl) f u z fun a => ?_
  match a with
  | ⟨0, _⟩ => simp only [wid] at h0; show (z 0).val = 16384 * (L 1).val + 8192 * (L 0).val + (u 0).val; omega
  | ⟨1, _⟩ => exact h1.trans (Nat.zero_add _).symm

theorem subSlice_set : (subSlice L).view.set = (sblk (wid L) : Finset S8192x128.Idx) := by
  ext i
  constructor
  · intro hi
    obtain ⟨z, hz, h⟩ := mem_unit_set uK (k1_off6_inb L) (k1_off6_eq L) (fun _ => rfl) hi
    have e : z = i := hz
    subst e
    have h0 : 512 * (L 1).val + 256 * (L 0).val ≤ (z 0).val ∧ (z 0).val < 512 * (L 1).val + 256 * (L 0).val + 256 := h 0
    refine Finset.mem_filter.mpr ⟨Finset.mem_univ _, ?_⟩
    show (z 0).val / 256 = 2 * (L 1).val + (L 0).val
    omega
  · intro hi
    have h0 : ((i : S8192x128.Idx) 0).val / 256 = 2 * (L 1).val + (L 0).val := (Finset.mem_filter.mp hi).2
    have hlt : ((i : S8192x128.Idx) 0).val - (512 * (L 1).val + 256 * (L 0).val) < 256 := by omega
    refine Finset.mem_map.mpr ⟨ValueIdx.ix2 (n0 := 256) (n1 := 128) ⟨_, hlt⟩ ((i : S8192x128.Idx) 1), Finset.mem_univ _, ?_⟩
    refine funext fun a => Fin.ext ((Rect.emb_apply _ _ _).trans ?_)
    refine (congrArg (fun n => n + 1 * _) (congrFun (k1_off6_eq L) a)).trans ?_
    match a with
    | ⟨0, _⟩ =>
      show 512 * (L 1).val + 256 * (L 0).val + 1 * (((i : S8192x128.Idx) 0).val - (512 * (L 1).val + 256 * (L 0).val)) = ((i : S8192x128.Idx) 0).val
      omega
    | ⟨1, _⟩ => show 0 + 1 * ((i : S8192x128.Idx) 1).val = ((i : S8192x128.Idx) 1).val; omega

/-- The block of the sampled rows, written with `g`, at one of its elements. -/
theorem write_subSlice (f : Buf (Elt F) (ukLoc d)) (g : S256x128.Idx → Elt F .f32) (y : S8192x128.Idx) (hy : y ∈ sblk (wid L)) :
    ((subSlice L).view.write (Elt F) f g Finset.univ : S8192x128.Idx → Elt F .f32) y
      = g (ValueIdx.ix2 (n0 := 256) (n1 := 128) ⟨(y 0).val % 256, Nat.mod_lt _ (by decide)⟩ (y 1)) := by
  have h0 : (y 0).val / 256 = 2 * (L 1).val + (L 0).val := (Finset.mem_filter.mp hy).2
  have e : (uK).view.read (Elt F) ((subSlice L).view.write (Elt F) f g Finset.univ) y
      = (subSlice L).view.read (Elt F) ((subSlice L).view.write (Elt F) f g Finset.univ) (ValueIdx.ix2 (n0 := 256) (n1 := 128) ⟨(y 0).val % 256, Nat.mod_lt _ (by decide)⟩ (y 1)) := by
    refine (read_unit uK (k1_off6_inb L) (k1_off6_eq L) (fun _ => rfl) _ (ValueIdx.ix2 (n0 := 256) (n1 := 128) ⟨(y 0).val % 256, Nat.mod_lt _ (by decide)⟩ (y 1)) y fun a => ?_).symm
    match a with
    | ⟨0, _⟩ => show (y 0).val = 512 * (L 1).val + 256 * (L 0).val + (y 0).val % 256; omega
    | ⟨1, _⟩ => exact (Nat.zero_add _).symm
  rw [View.read_write_univ] at e
  exact e

theorem read_sList0 (f : Buf (Elt F) ((jK).view.loc (thr d L))) (u : S128.Idx) :
    (sList0).view.read (Elt F) f u = (f : S2x128.Idx → BitVec 32) (ValueIdx.ix2 (n0 := 2) (n1 := 128) 0 (u 0)) := by
  show (jK).view.read (Elt F) f ((Rect.unit (s := S2x128) ![0, 0] S1x128.size inb_S2x128_S1x128_0_0).emb
    (Shape.reshapeEquiv squeezes_S1x128_S128.numel_eq u)) = _
  have hu : Shape.reshapeEquiv squeezes_S1x128_S128.numel_eq u = ValueIdx.ix2 (n0 := 1) (n1 := 128) 0 (u 0) := by
    apply Shape.reshapeEquiv_eq_of_rowMajor
    rw [Shape.rowMajor_val_one, Shape.rowMajor_val_two]
    simp
  rw [hu]
  refine read_unit jK inb_S2x128_S1x128_0_0 rfl (fun _ => rfl) f (ValueIdx.ix2 (n0 := 1) (n1 := 128) 0 (u 0)) _ fun a => ?_
  match a with
  | ⟨0, _⟩ => rfl
  | ⟨1, _⟩ => exact (Nat.zero_add _).symm

theorem read_sList1 (f : Buf (Elt F) ((jK).view.loc (thr d L))) (u : S128.Idx) :
    (sList1).view.read (Elt F) f u = (f : S2x128.Idx → BitVec 32) (ValueIdx.ix2 (n0 := 2) (n1 := 128) 1 (u 0)) := by
  show (jK).view.read (Elt F) f ((Rect.unit (s := S2x128) ![1, 0] S1x128.size inb_S2x128_S1x128_1_0).emb
    (Shape.reshapeEquiv squeezes_S1x128_S128.numel_eq u)) = _
  have hu : Shape.reshapeEquiv squeezes_S1x128_S128.numel_eq u = ValueIdx.ix2 (n0 := 1) (n1 := 128) 0 (u 0) := by
    apply Shape.reshapeEquiv_eq_of_rowMajor
    rw [Shape.rowMajor_val_one, Shape.rowMajor_val_two]
    simp
  rw [hu]
  refine read_unit jK inb_S2x128_S1x128_1_0 rfl (fun _ => rfl) f (ValueIdx.ix2 (n0 := 1) (n1 := 128) 0 (u 0)) _ fun a => ?_
  match a with
  | ⟨0, _⟩ => rfl
  | ⟨1, _⟩ => exact (Nat.zero_add _).symm

/-- A gather's payload from the window: row `k` is the row of the tile's block that word `k` names. -/
theorem gather_win (f : Buf (Elt F) (okLoc d)) (idx : S128.Idx → BitVec 32) (hn : S128.numel = S128x128.size gathers_S8192x128_S128x128.axis')
    (hin : ∀ x, (idx x).toNat < S8192x128.size gathers_S8192x128_S128x128.axis) (u : S128x128.Idx) (z : S262144x128.Idx)
    (h0 : (z 0).val = 8192 * wid L + (idx (ValueIdx.ix1 (n := 128) (u 0))).toNat) (h1 : (z 1).val = (u 1).val) :
    gatherPayload (F := F) (e := .f32) gathers_S8192x128_S128x128 ((winAll L).view.read (Elt F) f) (rows (F := F) idx hn hin) u = (f : S262144x128.Idx → Elt F .f32) z := by
  unfold SparseCore.gatherPayload
  refine read_winAll d L f _ z ?_ ?_
  · rw [h0]
    have e := Shape.Gathers.idx_axis gathers_S8192x128_S128x128 (rows (F := F) idx hn hin) u
    have e' : ((gathers_S8192x128_S128x128.idx (rows (F := F) idx hn hin) u) 0).val = (rows (F := F) idx hn hin (u 0)).val := congrArg Fin.val e
    rw [e', SparseCore.rows]
    congr 1
    refine congrArg (fun j => (idx j).toNat) (Eq.symm ((Equiv.symm_apply_eq _).mpr ?_))
    apply Fin.ext
    rw [Shape.rowMajor_val_one]; rfl
  · rw [h1]
    exact (Shape.Gathers.idx_of_ne gathers_S8192x128_S128x128 (rows (F := F) idx hn hin) u 1 (by decide)).symm

end Tile

end Cert.Proof.Sort

end
-- ==== Proof.TileKV.lean ====
/- The second SparseCore call's task: the packed keys and values scattered, then the sampled rows gathered. -/
module

public import proofs.«01_k».proof.Proof.SubFacts

@[expose] public section

noncomputable section

namespace Cert.Proof.Sort

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "xK" => (Memref.whole Cert.KernelIdeal.main_v6_scv : Memref Cert.KernelIdeal.sig Kind.scVector Space.hbm Cert.KernelIdeal.S262144x128 EltTy.f32)
local notation "pK" => (Memref.whole Cert.KernelIdeal.main_v5_scv : Memref Cert.KernelIdeal.sig Kind.scVector Space.hbm Cert.KernelIdeal.S32x64x128 EltTy.i32)
local notation "sK" => (Memref.whole Cert.KernelIdeal.main_v1_scv : Memref Cert.KernelIdeal.sig Kind.scVector Space.hbm Cert.KernelIdeal.S32x2x128 EltTy.i32)
local notation "oK" => (Memref.whole Cert.KernelIdeal.main_v7_0_scv : Memref Cert.KernelIdeal.sig Kind.scVector Space.hbm Cert.KernelIdeal.S262144x128 EltTy.f32)
local notation "uK" => (Memref.whole Cert.KernelIdeal.main_v7_1_scv : Memref Cert.KernelIdeal.sig Kind.scVector Space.hbm Cert.KernelIdeal.S8192x128 EltTy.f32)
local notation "iK" => (Memref.whole Cert.KernelIdeal.cc1_scratch0 : Memref Cert.KernelIdeal.sig Kind.scVector Space.vmem Cert.KernelIdeal.S64x128 EltTy.i32)
local notation "bK" => (Memref.whole Cert.KernelIdeal.cc1_scratch1 : Memref Cert.KernelIdeal.sig Kind.scVector Space.vmem Cert.KernelIdeal.S256x128 EltTy.f32)
local notation "jK" => (Memref.whole Cert.KernelIdeal.cc1_scratch2 : Memref Cert.KernelIdeal.sig Kind.scVector Space.vmem Cert.KernelIdeal.S2x128 EltTy.i32)
local notation "gK" => (Memref.whole Cert.KernelIdeal.cc1_scratch3 : Memref Cert.KernelIdeal.sig Kind.scVector Space.vmem Cert.KernelIdeal.S256x128 EltTy.f32)

section Tile
variable (d : Dev nD) (L : grid0.Coords)

abbrev kCell (s : DmaSem sig) (d : Dev nD) (c : Fin τ.nSC) (i : Fin τ.nSub) : GSem nD τ sig := (V d c i, .dma s)

theorem kCell_ne {s s' : DmaSem sig} (h : (SemLoc.dma s : SemLoc sig) ≠ SemLoc.dma s') (d : Dev nD) (c : Fin τ.nSC) (i : Fin τ.nSub) : kCell s d c i ≠ kCell s' d c i :=
  fun e => h (congrArg Prod.snd e)

theorem kCell_mem (s : DmaSem sig) (h : (SemLoc.dma s : SemLoc sig).isScoped .scVector = true) (d : Dev nD) (c : Fin τ.nSC) (i : Fin τ.nSub) :
    kCell s d c i ∈ ownCells (V d c i) := mem_ownCells.mpr ⟨rfl, h⟩

theorem ownSems0_KV :
    (ownSems0 (V d (cV L) (jV L)) : sProp 𝕄)
      = iprop(semVal (kCell cc1_scratch4.sem d (cV L) (jV L)) 0 ∗ semVal (kCell cc1_scoped0.sem d (cV L) (jV L)) 0 ∗ semVal (kCell cc1_scoped1.sem d (cV L) (jV L)) 0
          ∗ semVal (kCell cc1_scoped2.sem d (cV L) (jV L)) 0 ∗ semVal (kCell cc1_scoped3.sem d (cV L) (jV L)) 0
          ∗ bigSep ((((((ownCells (V d (cV L) (jV L))).erase (kCell cc1_scratch4.sem d (cV L) (jV L))).erase (kCell cc1_scoped0.sem d (cV L) (jV L))).erase
              (kCell cc1_scoped1.sem d (cV L) (jV L))).erase (kCell cc1_scoped2.sem d (cV L) (jV L))).erase (kCell cc1_scoped3.sem d (cV L) (jV L))) fun g => semVal g 0) := by
  unfold SparseCore.Cfg.ownSems0
  rw [SparseCore.bigSep_erase' (kCell_mem cc1_scratch4.sem (by decide) d (cV L) (jV L)),
    SparseCore.bigSep_erase' (Finset.mem_erase.mpr ⟨kCell_ne (s := cc1_scoped0.sem) (s' := cc1_scratch4.sem) (by decide) d (cV L) (jV L), kCell_mem cc1_scoped0.sem (by decide) d (cV L) (jV L)⟩),
    SparseCore.bigSep_erase' (Finset.mem_erase.mpr ⟨kCell_ne (s := cc1_scoped1.sem) (s' := cc1_scoped0.sem) (by decide) d (cV L) (jV L),
      Finset.mem_erase.mpr ⟨kCell_ne (s := cc1_scoped1.sem) (s' := cc1_scratch4.sem) (by decide) d (cV L) (jV L), kCell_mem cc1_scoped1.sem (by decide) d (cV L) (jV L)⟩⟩),
    SparseCore.bigSep_erase' (Finset.mem_erase.mpr ⟨kCell_ne (s := cc1_scoped2.sem) (s' := cc1_scoped1.sem) (by decide) d (cV L) (jV L),
      Finset.mem_erase.mpr ⟨kCell_ne (s := cc1_scoped2.sem) (s' := cc1_scoped0.sem) (by decide) d (cV L) (jV L),
      Finset.mem_erase.mpr ⟨kCell_ne (s := cc1_scoped2.sem) (s' := cc1_scratch4.sem) (by decide) d (cV L) (jV L), kCell_mem cc1_scoped2.sem (by decide) d (cV L) (jV L)⟩⟩⟩),
    SparseCore.bigSep_erase' (Finset.mem_erase.mpr ⟨kCell_ne (s := cc1_scoped3.sem) (s' := cc1_scoped2.sem) (by decide) d (cV L) (jV L),
      Finset.mem_erase.mpr ⟨kCell_ne (s := cc1_scoped3.sem) (s' := cc1_scoped1.sem) (by decide) d (cV L) (jV L),
      Finset.mem_erase.mpr ⟨kCell_ne (s := cc1_scoped3.sem) (s' := cc1_scoped0.sem) (by decide) d (cV L) (jV L),
      Finset.mem_erase.mpr ⟨kCell_ne (s := cc1_scoped3.sem) (s' := cc1_scratch4.sem) (by decide) d (cV L) (jV L), kCell_mem cc1_scoped3.sem (by decide) d (cV L) (jV L)⟩⟩⟩⟩)]

abbrev kRef (L : grid0.Coords) (b : Ref sig .scVector) : DevRef τ sig := (Proc.scVector (cV L) (jV L)).devRef b

theorem kRef_ne {b b' : Ref sig .scVector} (h : b ≠ b') : kRef L b ≠ kRef L b' := fun e => absurd (Proc.devRef_injective _ e) h

theorem ownBufs_KV :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase (kRef L cc1_scratch0)).erase (kRef L cc1_scratch1)).erase (kRef L cc1_scratch2)).erase (kRef L cc1_scratch3))
              fun b => iprop(∃ f, ((d, b) : Loc nD τ sig) ↦{fullShare} f)) := by
  unfold SparseCore.Cfg.ownBufs
  have m0 := SparseCore.Cfg.mem_ownRefs_of_owner (p := Proc.scVector (cV L) (jV L)) (b := kRef L cc1_scratch0) rfl
  have m1 := SparseCore.Cfg.mem_ownRefs_of_owner (p := Proc.scVector (cV L) (jV L)) (b := kRef L cc1_scratch1) rfl
  have m2 := SparseCore.Cfg.mem_ownRefs_of_owner (p := Proc.scVector (cV L) (jV L)) (b := kRef L cc1_scratch2) rfl
  have m3 := SparseCore.Cfg.mem_ownRefs_of_owner (p := Proc.scVector (cV L) (jV L)) (b := kRef L cc1_scratch3) rfl
  refine (SparseCore.bigSep_erase' m0).trans ?_
  rw [SparseCore.bigSep_erase' (Finset.mem_erase.mpr ⟨kRef_ne L (b := cc1_scratch1) (b' := cc1_scratch0) (by decide), m1⟩),
    SparseCore.bigSep_erase' (Finset.mem_erase.mpr ⟨kRef_ne L (b := cc1_scratch2) (b' := cc1_scratch1) (by decide),
      Finset.mem_erase.mpr ⟨kRef_ne L (b := cc1_scratch2) (b' := cc1_scratch0) (by decide), m2⟩⟩),
    SparseCore.bigSep_erase' (Finset.mem_erase.mpr ⟨kRef_ne L (b := cc1_scratch3) (b' := cc1_scratch2) (by decide),
      Finset.mem_erase.mpr ⟨kRef_ne L (b := cc1_scratch3) (b' := cc1_scratch1) (by decide),
      Finset.mem_erase.mpr ⟨kRef_ne L (b := cc1_scratch3) (b' := cc1_scratch0) (by decide), m3⟩⟩⟩)]

/-- What the second call's task of tile `w` takes, and what it brings back. -/
def goKV (d : Dev nD) (X : Buf (Elt F) (xkLoc d)) (Pv : Buf (Elt F) (pkLoc d)) (Sv : Buf (Elt F) (skLoc d)) (g : Buf (Elt F) (okLoc d)) (h : Buf (Elt F) (ukLoc d)) (w : ℕ) : sProp 𝕄 :=
  iprop((xkLoc d ↦[(blk w : Finset S262144x128.Idx)]{fullShare} X) ∗ (pkLoc d ↦[(prow w : Finset S32x64x128.Idx)]{fullShare} Pv)
    ∗ (skLoc d ↦[(srow w : Finset S32x2x128.Idx)]{fullShare} Sv)
    ∗ (okLoc d ↦[(blk w : Finset S262144x128.Idx)]{fullShare} g) ∗ (ukLoc d ↦[(sblk w : Finset S8192x128.Idx)]{fullShare} h))

/-- The gathered rows as the two gathers leave them, at one element. -/
theorem gathered (R : Buf (Elt F) (okLoc d)) (Sv : Buf (Elt F) (skLoc d)) (hS : SampOK (Sv : S32x2x128.Idx → BitVec 32))
    (f9 : Buf (Elt F) ((jK).view.loc (thr d L))) (f10 : Buf (Elt F) ((gK).view.loc (thr d L)))
    (h9 : ∀ x : S2x128.Idx, (f9 : S2x128.Idx → BitVec 32) x = (Sv : S32x2x128.Idx → BitVec 32) (ValueIdx.ix3 (n0 := 32) (n1 := 2) (n2 := 128) ⟨wid L, wid_lt L⟩ (x 0) (x 1)))
    (hn0 : S128.numel = S128x128.size gathers_S8192x128_S128x128.axis') (hn1 : S128.numel = S128x128.size gathers_S8192x128_S128x128.axis')
    (hin0 : ∀ x, ((sList0).view.read (Elt F) f9 x).toNat < S8192x128.size gathers_S8192x128_S128x128.axis)
    (hin1 : ∀ x, ((sList1).view.read (Elt F) f9 x).toNat < S8192x128.size gathers_S8192x128_S128x128.axis)
    (y : S8192x128.Idx) (hy : y ∈ sblk (wid L)) :
    (gK).view.read (Elt F) ((half1 gK).view.write (Elt F) ((half0 gK).view.write (Elt F) f10
        (gatherPayload gathers_S8192x128_S128x128 ((winAll L).view.read (Elt F) R) (rows ((sList0).view.read (Elt F) f9) hn0 hin0)) Finset.univ)
        (gatherPayload gathers_S8192x128_S128x128 ((winAll L).view.read (Elt F) R) (rows ((sList1).view.read (Elt F) f9) hn1 hin1)) Finset.univ)
      (ValueIdx.ix2 (n0 := 256) (n1 := 128) ⟨(y 0).val % 256, Nat.mod_lt _ (by decide)⟩ (y 1))
      = subOf (Sv : S32x2x128.Idx → BitVec 32) (R : S262144x128.Idx → Elt F .f32) y := by
  have hw : (y 0).val / 256 = wid L := (Finset.mem_filter.mp hy).2
  have hwl := wid_lt L
  have hrow : ∀ (r : Fin 2) (k : ℕ) (hk : k < 128), (y 0).val % 256 = 128 * r.val + k →
      (f9 : S2x128.Idx → BitVec 32) (ValueIdx.ix2 (n0 := 2) (n1 := 128) r ⟨k, hk⟩) = (Sv : S32x2x128.Idx → BitVec 32) (sampIx (y 0)) := by
    intro r k hk h
    rw [h9]
    congr 1
    have hr := r.isLt
    funext a
    match a with
    | ⟨0, _⟩ => exact Fin.ext hw.symm
    | ⟨1, _⟩ => exact Fin.ext (show r.val = (y 0).val % 256 / 128 by omega)
    | ⟨2, _⟩ => exact Fin.ext (show k = (y 0).val % 128 by omega)
  have hidx : ∀ v : BitVec 32, v = (Sv : S32x2x128.Idx → BitVec 32) (sampIx (y 0)) →
      (8192 * ((y 0).val / 256) + ((Sv : S32x2x128.Idx → BitVec 32) (sampIx (y 0))).toNat) % 262144 = 8192 * wid L + v.toNat := by
    intro v hv
    have := hS (sampIx (y 0))
    rw [hv, hw]; exact Nat.mod_eq_of_lt (by omega)
  unfold subOf
  by_cases hlt : (y 0).val % 256 < 128
  · rw [View.read_apply, View.write_of_not_mem]
    · have e := read_half0 d L gK ((half0 gK).view.write (Elt F) f10
        (gatherPayload gathers_S8192x128_S128x128 ((winAll L).view.read (Elt F) R) (rows ((sList0).view.read (Elt F) f9) hn0 hin0)) Finset.univ)
        (ValueIdx.ix2 (n0 := 128) (n1 := 128) ⟨(y 0).val % 256, hlt⟩ (y 1)) (ValueIdx.ix2 (n0 := 256) (n1 := 128) ⟨(y 0).val % 256, Nat.mod_lt _ (by decide)⟩ (y 1)) rfl rfl
      rw [View.read_write_univ] at e
      refine (View.read_apply _ _).symm.trans (e.symm.trans ?_)
      refine gather_win d L R _ hn0 hin0 _ _ ?_ rfl
      rw [read_sList0]
      exact hidx _ (hrow 0 _ hlt (by show _ = 128 * 0 + _; omega))
    · intro hm
      rw [View.setOn_univ] at hm
      obtain ⟨z, hz, h⟩ := mem_unit_set gK inb_S256x128_S128x128_128_0 rfl (fun _ => rfl) hm
      have h0 : 128 ≤ (z 0).val := (h 0).1
      have e : z = ValueIdx.ix2 (n0 := 256) (n1 := 128) ⟨(y 0).val % 256, Nat.mod_lt _ (by decide)⟩ (y 1) := hz
      rw [e] at h0
      exact absurd (show 128 ≤ (y 0).val % 256 from h0) (by omega)
  · have h256 : (y 0).val % 256 < 256 := Nat.mod_lt _ (by decide)
    have hk : (y 0).val % 256 - 128 < 128 := by omega
    have e := read_half1 d L gK ((half1 gK).view.write (Elt F) ((half0 gK).view.write (Elt F) f10
        (gatherPayload gathers_S8192x128_S128x128 ((winAll L).view.read (Elt F) R) (rows ((sList0).view.read (Elt F) f9) hn0 hin0)) Finset.univ)
        (gatherPayload gathers_S8192x128_S128x128 ((winAll L).view.read (Elt F) R) (rows ((sList1).view.read (Elt F) f9) hn1 hin1)) Finset.univ)
        (ValueIdx.ix2 (n0 := 128) (n1 := 128) ⟨(y 0).val % 256 - 128, hk⟩ (y 1)) (ValueIdx.ix2 (n0 := 256) (n1 := 128) ⟨(y 0).val % 256, Nat.mod_lt _ (by decide)⟩ (y 1))
        (show (y 0).val % 256 = 128 + ((y 0).val % 256 - 128) by omega) rfl
    rw [View.read_write_univ] at e
    refine e.symm.trans ?_
    refine gather_win d L R _ hn1 hin1 _ _ ?_ rfl
    rw [read_sList1]
    exact hidx _ (hrow 1 _ hk (by show _ = 128 * 1 + _; omega))

set_option maxHeartbeats 8000000 in
theorem tileKV (hF : (K (F := F)).Facts) (X : Buf (Elt F) (xkLoc d)) (Pv : Buf (Elt F) (pkLoc d)) (Sv : Buf (Elt F) (skLoc d)) (g : Buf (Elt F) (okLoc d)) (h : Buf (Elt F) (ukLoc d))
    (hPv : PosAll (Pv : S32x64x128.Idx → BitVec 32)) (hS : SampOK (Sv : S32x2x128.Idx → BitVec 32))
    (O : CellTallies nD τ sig (HIx 2)) (W : Waits sig (HIx 2)) (hO : ∀ g, O g none = 0) :
    iprop(levAts (K (F := F)).L (K (F := F)).lev ∗ emp
        ∗ goKV d X Pv Sv g h (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_permute_kv L xK (Memref.isWhole_whole _) pK (Memref.isWhole_whole _) sK (Memref.isWhole_whole _) oK (Memref.isWhole_whole _) uK (Memref.isWhole_whole _)
            iK (Memref.isWhole_whole _) bK (Memref.isWhole_whole _) jK (Memref.isWhole_whole _) gK (Memref.isWhole_whole _) cc1_scratch4 cc1_scoped0 cc1_scoped1 cc1_scoped2 cc1_scoped3)
          fun _ => iprop(goKV d X Pv Sv (scat (Pv : S32x64x128.Idx → BitVec 32) (X : S262144x128.Idx → Elt F .f32))
              (subOf (Sv : S32x2x128.Idx → BitVec 32) (scat (Pv : S32x64x128.Idx → BitVec 32) (X : S262144x128.Idx → Elt F .f32))) (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_permute_kv_eq_skeleton]; unfold cc1_permute_kv_skel
  simp only [k1_part2_eq_skeleton]; unfold k1_part2_skel
  rw [wp_bind]
  rw [(K (F := F)).scopedBufs_V hF d (cV L) (jV L), SparseCore.Cfg.scopedSems0_V (Val := Elt F) d (cV L) (jV L), ownSems0_KV, ownBufs_KV]
  unfold goKV
  iintro ⟨#Hlv, -, ⟨Hx, Hp, Hsv, Ho, Hu⟩, ⟨⟨%f7, Hi⟩, ⟨%f8, Hb⟩, ⟨%f9, Hj⟩, ⟨%f10, Hg⟩, Hbufs⟩, ⟨HsA, HsB, HsC, HsD, HsE, Hsems⟩, HO⟩
  ihave #Hmw := (show levAts (K (F := F)).L (K (F := F)).lev ⊢ Transfers.MayWaits (V d (cV L) (jV L)) (default : HIx 2) O from
    (K (F := F)).mayWaits_none (thr := V d (cV L) (jV L)) hO) $$ Hlv
  have hi5 : (iK).view.set = Finset.univ := View.set_whole _
  have hb6 : (bK).view.set = Finset.univ := View.set_whole _
  have hj9 : (jK).view.set = Finset.univ := View.set_whole _
  have hg10 : (gK).view.set = Finset.univ := View.set_whole _
  have hoo := oK_own d L
  have hrow : (posSlice L pK).view.read (Elt F) Pv = posRow (Pv : S32x64x128.Idx → BitVec 32) ⟨wid L, wid_lt L⟩ := by
    funext x; exact (read_posSlice d L pK Pv x)
  iapply (core d L xK (Memref.isWhole_whole _) pK (Memref.isWhole_whole _) oK (Memref.isWhole_whole _) iK (Memref.isWhole_whole _) bK (Memref.isWhole_whole _)
    cc1_scratch4 cc1_scoped0 cc1_scoped1 0#32 (posRow (Pv : S32x64x128.Idx → BitVec 32) ⟨wid L, wid_lt L⟩) (blk (wid L) : Finset S262144x128.Idx) X (prow (wid L) : Finset S32x64x128.Idx) Pv
    (hPv ⟨wid L, wid_lt L⟩) hrow O W (xK_sub L) (pK_sub L) g f7 f8 _ _ _ _ _ _ _) $$ [Hx Hp Ho Hi Hb HsA HsB HsC HO]
  · rw [hi5, hb6, hoo]
    isplitr; · iexact Hmw
    isplitl [Hx]; · iexact Hx
    isplitl [Hp]; · iexact Hp
    isplitl [Ho]; · iexact Ho
    isplitl [Hi]; · iexact Hi
    isplitl [Hb]; · iexact Hb
    isplitl [HsA]; · iexact HsA
    isplitl [HsB]; · iexact HsB
    isplitl [HsC]; · iexact HsC
    iexact HO
  unfold inv
  rw [hi5, hb6, hoo]
  iintro %b ⟨⟨-, Hx, Hi, ⟨%f8', Hb⟩, ⟨%fo, %hfo, Ho⟩, HsA, HsC, %W', %hW', HO⟩, Hp, HsB⟩
  ihave Ho := (Entails.of_eq (pointsTo_congr (ℓ := okLoc d) (I := (blk (wid L) : Finset S262144x128.Idx)) (q := fullShare) (f := fo)
      (g := (scat (Pv : S32x64x128.Idx → BitVec 32) (X : S262144x128.Idx → Elt F .f32))) fun y hy => done_all hPv ⟨wid L, wid_lt L⟩ X fo hfo y hy)) $$ Ho
  generalize hR : (scat (Pv : S32x64x128.Idx → BitVec 32) (X : S262144x128.Idx → Elt F .f32)) = R
  -- the sampled positions
  ihave Hsx := (pointsTo_split_subset (ℓ := skLoc d) (q := fullShare) (f := Sv) (sampSlice_sub L)).1 $$ Hsv
  icases Hsx with ⟨Hsv, Hsr⟩
  sl_exec
  iapply (Transfers.wp_dmaLocal countersEmb 𝒱₀ (thr d L) none (src := sampSlice L) (dst := jK) (default : HIx 2) (jK).view.dmaCredit rfl
    (View.amount_pos (jK).view (SemLoc.dma cc1_scoped2.sem) (show 0 < S2x128.numel by decide)) (subset_refl _)) $$ [Hsv Hj HsD]
  · rw [hj9]
    isplitl [Hsv]; · iexact Hsv
    isplitl [Hj]; · iexact Hj
    iexact HsD
  iintro Hfl
  sl_exec
  iapply (Transfers.wp_waitLocalO countersEmb 𝒱₀ (thr d L) none (default : HIx 2) (rfl : (jK).view.dmaCredit = _)) $$ [Hfl HO]
  · isplitl [Hfl]; · iexact Hfl
    isplitl [HO]; · iexact HO
    iapply (Transfers.MayWaits.elim (SemLoc.dma cc1_scoped2.sem)) $$ Hmw
  iintro ⟨⟨Hj, Hsv⟩, HsD, HO⟩
  ihave Hsv := (pointsTo_split_subset (ℓ := skLoc d) (q := fullShare) (f := Sv) (sampSlice_sub L)).2 $$ [Hsv Hsr]
  · isplitl [Hsv]; · iexact Hsv
    iexact Hsr
  have h9 : ∀ x : S2x128.Idx, ((jK).view.write (Elt F) f9 ((sampSlice L).view.read (Elt F) Sv) Finset.univ : S2x128.Idx → BitVec 32) x
      = (Sv : S32x2x128.Idx → BitVec 32) (ValueIdx.ix3 (n0 := 32) (n1 := 2) (n2 := 128) ⟨wid L, wid_lt L⟩ (x 0) (x 1)) := by
    intro x; rw [View.write_whole_univ]; exact read_sampSlice d L Sv x
  generalize hf9' : (jK).view.write (Elt F) f9 ((sampSlice L).view.read (Elt F) Sv) Finset.univ = f9' at h9
  have hin0 : ∀ x, ((sList0).view.read (Elt F) f9' x).toNat < S8192x128.size gathers_S8192x128_S128x128.axis := by
    intro x; rw [read_sList0 d L, h9]; exact hS _
  have hin1 : ∀ x, ((sList1).view.read (Elt F) f9' x).toNat < S8192x128.size gathers_S8192x128_S128x128.axis := by
    intro x; rw [read_sList1 d L, h9]; exact hS _
  have hl0 : (sList0).view.set ⊆ (jK).view.set := by
    show (((jK).view.slice _).reshape S128 _).set ⊆ _
    rw [View.set_reshape]; exact View.set_slice_subset _ _
  have hl1 : (sList1).view.set ⊆ (jK).view.set := by
    show (((jK).view.slice _).reshape S128 _).set ⊆ _
    rw [View.set_reshape]; exact View.set_slice_subset _ _
  have hb0 : (half0 gK).view.set ⊆ (gK).view.set := View.set_slice_subset _ _
  have hb1 : (half1 gK).view.set ⊆ (gK).view.set := View.set_slice_subset _ _
  ihave Hg := (Entails.of_eq (show ((gK).view.loc (thr d L) ↦{fullShare} f10 : sProp 𝕄) = (gK).view.loc (thr d L) ↦[(gK).view.set]{fullShare} f10 by rw [hg10])) $$ Hg
  -- the first gather
  ihave Hox := (pointsTo_split_subset (ℓ := okLoc d) (q := fullShare) (f := R) (winAll_sub L)).1 $$ Ho
  icases Hox with ⟨Ho, Hor⟩
  ihave Hjx := (pointsTo_split_subset (ℓ := (jK).view.loc (thr d L)) (q := fullShare) (f := f9') hl0).1 $$ Hj
  icases Hjx with ⟨Hj, Hjr⟩
  ihave Hgx := (pointsTo_split_subset (ℓ := (gK).view.loc (thr d L)) (q := fullShare) (f := f10) hb0).1 $$ Hg
  icases Hgx with ⟨Hg, Hgr⟩
  have hN0 : ∀ h : S8192x128.Gathers 0 S128x128, ∑ j, ((half0 gK).slice (S128x128.rowRect h.axis' j) (S128x128.stride_rowRect h.axis' j)).view.dmaCredit
      = (half0 gK).view.dmaCredit := fun h => SparseCore.sum_rowCredit_eq_dmaCredit (half0 gK) h.axis' (fun _ => rfl)
  have hN1 : ∀ h : S8192x128.Gathers 0 S128x128, ∑ j, ((half1 gK).slice (S128x128.rowRect h.axis' j) (S128x128.stride_rowRect h.axis' j)).view.dmaCredit
      = (half1 gK).view.dmaCredit := fun h => SparseCore.sum_rowCredit_eq_dmaCredit (half1 gK) h.axis' (fun _ => rfl)
  sl_exec
  iapply (SparseCore.wp_indirectGatherLocal countersEmb 𝒱₀ (thr d L) none (src := winAll L) (dst := half0 gK) (offs := sList0) (hg := gathers_S8192x128_S128x128) (default : HIx 2)
      (half0 gK).view.dmaCredit (hN0 _) (show 0 < S128x128.numel by decide) hin0) $$ [Ho Hg Hj HsA]
  · isplitl [Ho]; · iexact Ho
    isplitl [Hg]; · iexact Hg
    isplitl [Hj]; · iexact Hj
    iexact HsA
  iintro Hfl
  sl_exec
  iapply (Transfers.wp_waitLocalO countersEmb 𝒱₀ (thr d L) none (default : HIx 2) (rfl : (half0 gK).view.dmaCredit = _)) $$ [Hfl HO]
  · isplitl [Hfl]; · iexact Hfl
    isplitl [HO]; · iexact HO
    iapply (Transfers.MayWaits.elim (SemLoc.dma cc1_scratch4.sem)) $$ Hmw
  iintro ⟨⟨Hg, Ho, Hj⟩, HsA, HO⟩
  generalize hp0 : gatherPayload gathers_S8192x128_S128x128 ((winAll L).view.read (Elt F) R) (rows ((sList0).view.read (Elt F) f9') (rfl : S128.numel = S128x128.size gathers_S8192x128_S128x128.axis') hin0) = pay0
  ihave Hgr := (Entails.of_eq (SparseCore.pointsTo_rest_write (Ix := HIx 2) (Name := ℕ) (U := UU) (Lvl := ℕ) (thr d L) (v := (half0 gK).view) (S := (gK).view.set) f10 pay0)) $$ Hgr
  ihave Hg := (pointsTo_split_subset (ℓ := (gK).view.loc (thr d L)) (q := fullShare) (f := (half0 gK).view.write (Elt F) f10 pay0 Finset.univ) hb0).2 $$ [Hg Hgr]
  · isplitl [Hg]; · iexact Hg
    iexact Hgr
  ihave Hj := (pointsTo_split_subset (ℓ := (jK).view.loc (thr d L)) (q := fullShare) (f := f9') hl0).2 $$ [Hj Hjr]
  · isplitl [Hj]; · iexact Hj
    iexact Hjr
  -- the second gather
  ihave Hjx := (pointsTo_split_subset (ℓ := (jK).view.loc (thr d L)) (q := fullShare) (f := f9') hl1).1 $$ Hj
  icases Hjx with ⟨Hj, Hjr⟩
  ihave Hgx := (pointsTo_split_subset (ℓ := (gK).view.loc (thr d L)) (q := fullShare) (f := (half0 gK).view.write (Elt F) f10 pay0 Finset.univ) hb1).1 $$ Hg
  icases Hgx with ⟨Hg, Hgr⟩
  sl_exec
  iapply (SparseCore.wp_indirectGatherLocal countersEmb 𝒱₀ (thr d L) none (src := winAll L) (dst := half1 gK) (offs := sList1) (hg := gathers_S8192x128_S128x128) (default : HIx 2)
      (half1 gK).view.dmaCredit (hN1 _) (show 0 < S128x128.numel by decide) hin1) $$ [Ho Hg Hj HsA]
  · isplitl [Ho]; · iexact Ho
    isplitl [Hg]; · iexact Hg
    isplitl [Hj]; · iexact Hj
    iexact HsA
  iintro Hfl
  sl_exec
  iapply (Transfers.wp_waitLocalO countersEmb 𝒱₀ (thr d L) none (default : HIx 2) (rfl : (half1 gK).view.dmaCredit = _)) $$ [Hfl HO]
  · isplitl [Hfl]; · iexact Hfl
    isplitl [HO]; · iexact HO
    iapply (Transfers.MayWaits.elim (SemLoc.dma cc1_scratch4.sem)) $$ Hmw
  iintro ⟨⟨Hg, Ho, Hj⟩, HsA, HO⟩
  generalize hp1 : gatherPayload gathers_S8192x128_S128x128 ((winAll L).view.read (Elt F) R) (rows ((sList1).view.read (Elt F) f9') (rfl : S128.numel = S128x128.size gathers_S8192x128_S128x128.axis') hin1) = pay1
  ihave Hgr := (Entails.of_eq (SparseCore.pointsTo_rest_write (Ix := HIx 2) (Name := ℕ) (U := UU) (Lvl := ℕ) (thr d L) (v := (half1 gK).view) (S := (gK).view.set) _ pay1)) $$ Hgr
  ihave Hg := (pointsTo_split_subset (ℓ := (gK).view.loc (thr d L)) (q := fullShare) (f := (half1 gK).view.write (Elt F) ((half0 gK).view.write (Elt F) f10 pay0 Finset.univ) pay1 Finset.univ) hb1).2 $$ [Hg Hgr]
  · isplitl [Hg]; · iexact Hg
    iexact Hgr
  ihave Hj := (pointsTo_split_subset (ℓ := (jK).view.loc (thr d L)) (q := fullShare) (f := f9') hl1).2 $$ [Hj Hjr]
  · isplitl [Hj]; · iexact Hj
    iexact Hjr
  ihave Ho := (pointsTo_split_subset (ℓ := okLoc d) (q := fullShare) (f := R) (winAll_sub L)).2 $$ [Ho Hor]
  · isplitl [Ho]; · iexact Ho
    iexact Hor
  -- the copy out
  ihave Hu := (Entails.of_eq (show (ukLoc d ↦[(sblk (wid L) : Finset S8192x128.Idx)]{fullShare} h : sProp 𝕄) = (subSlice L).view.loc (thr d L) ↦[(subSlice L).view.set]{fullShare} h by rw [subSlice_set])) $$ Hu
  rw [wp_ret]
  imodintro
  beta_reduce
  iapply (Transfers.wp_dmaLocal countersEmb 𝒱₀ (thr d L) none (src := gK) (dst := subSlice L) (default : HIx 2) (subSlice L).view.dmaCredit rfl
    (View.amount_pos (subSlice L).view (SemLoc.dma cc1_scoped3.sem) (show 0 < S256x128.numel by decide)) (subset_refl _)) $$ [Hg Hu HsE]
  · isplitl [Hg]; · iexact Hg
    isplitl [Hu]; · iexact Hu
    iexact HsE
  iintro Hfl
  iapply (Transfers.wp_waitLocalO countersEmb 𝒱₀ (thr d L) none (default : HIx 2) (rfl : (subSlice L).view.dmaCredit = _)) $$ [Hfl HO]
  · isplitl [Hfl]; · iexact Hfl
    isplitl [HO]; · iexact HO
    iapply (Transfers.MayWaits.elim (SemLoc.dma cc1_scoped3.sem)) $$ Hmw
  iintro ⟨⟨Hu, Hg⟩, HsE, HO⟩
  ihave Hu := (Entails.of_eq (show ((subSlice L).view.loc (thr d L) ↦[(subSlice L).view.set]{fullShare} ((subSlice L).view.write (Elt F) h
        ((gK).view.read (Elt F) ((half1 gK).view.write (Elt F) ((half0 gK).view.write (Elt F) f10 pay0 Finset.univ) pay1 Finset.univ)) Finset.univ) : sProp 𝕄)
      = ukLoc d ↦[(sblk (wid L) : Finset S8192x128.Idx)]{fullShare} (subOf (Sv : S32x2x128.Idx → BitVec 32) (R : S262144x128.Idx → Elt F .f32)) by
    rw [subSlice_set]
    refine pointsTo_congr fun y hy => ?_
    refine (write_subSlice d L h _ y hy).trans ?_
    rw [← hp0, ← hp1]
    exact gathered d L R Sv hS f9' f10 h9 _ _ hin0 hin1 y hy)) $$ Hu
  erw [wp_ret]
  imodintro
  isplitl [Hx Hp Hsv Ho Hu]
  · isplitl [Hx]; · iexact Hx
    isplitl [Hp]; · iexact Hp
    isplitl [Hsv]; · iexact Hsv
    isplitl [Ho]; · iexact Ho
    iexact Hu
  isplitl [Hi Hb Hj Hg Hbufs]
  · isplitl [Hi]; · iexists _; iexact Hi
    isplitl [Hb]; · iexists _; iexact Hb
    isplitl [Hj]
    · iexists f9'
      iapply (Entails.of_eq (show ((jK).view.loc (thr d L) ↦[(jK).view.set]{fullShare} f9' : sProp 𝕄) = (V d (cV L) (jV L)).loc cc1_scratch2 ↦{fullShare} f9' by rw [hj9])) $$ Hj
    isplitl [Hg]
    · iexists ((half1 gK).view.write (Elt F) ((half0 gK).view.write (Elt F) f10 pay0 Finset.univ) pay1 Finset.univ)
      iapply (Entails.of_eq (show ((gK).view.loc (thr d L) ↦[(gK).view.set]{fullShare} _ : sProp 𝕄) = (V d (cV L) (jV L)).loc cc1_scratch3 ↦{fullShare} _ by rw [hg10])) $$ Hg
    iexact Hbufs
  isplitl [HsA HsB HsC HsD HsE Hsems]
  · isplitl [HsA]; · iexact HsA
    isplitl [HsB]; · iexact HsB
    isplitl [HsC]; · iexact HsC
    isplitl [HsD]; · iexact HsD
    isplitl [HsE]; · iexact HsE
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile

end Cert.Proof.Sort

end
-- ==== Proof.Deal.lean ====
/- What the handshakes of the two SparseCore calls carry, and the tiles' obligations. -/
module

public import proofs.«01_k».proof.Proof.Region
public import proofs.«01_k».proof.Proof.TileQ
public import proofs.«01_k».proof.Proof.TileKV

@[expose] public section

noncomputable section

namespace Cert.Proof.Sort

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "xQ" => (Memref.whole Cert.KernelIdeal.main_v3_scv : Memref Cert.KernelIdeal.sig Kind.scVector Space.hbm Cert.KernelIdeal.S262144x128 EltTy.f32)
local notation "pQ" => (Memref.whole Cert.KernelIdeal.main_v2_scv : Memref Cert.KernelIdeal.sig Kind.scVector Space.hbm Cert.KernelIdeal.S32x64x128 EltTy.i32)
local notation "oQ" => (Memref.whole Cert.KernelIdeal.main_v4_scv : Memref Cert.KernelIdeal.sig Kind.scVector Space.hbm Cert.KernelIdeal.S262144x128 EltTy.f32)
local notation "iQ" => (Memref.whole Cert.KernelIdeal.cc0_scratch0 : Memref Cert.KernelIdeal.sig Kind.scVector Space.vmem Cert.KernelIdeal.S64x128 EltTy.i32)
local notation "bQ" => (Memref.whole Cert.KernelIdeal.cc0_scratch1 : Memref Cert.KernelIdeal.sig Kind.scVector Space.vmem Cert.KernelIdeal.S256x128 EltTy.f32)
local notation "xK" => (Memref.whole Cert.KernelIdeal.main_v6_scv : Memref Cert.KernelIdeal.sig Kind.scVector Space.hbm Cert.KernelIdeal.S262144x128 EltTy.f32)
local notation "pK" => (Memref.whole Cert.KernelIdeal.main_v5_scv : Memref Cert.KernelIdeal.sig Kind.scVector Space.hbm Cert.KernelIdeal.S32x64x128 EltTy.i32)
local notation "sK" => (Memref.whole Cert.KernelIdeal.main_v1_scv : Memref Cert.KernelIdeal.sig Kind.scVector Space.hbm Cert.KernelIdeal.S32x2x128 EltTy.i32)
local notation "oK" => (Memref.whole Cert.KernelIdeal.main_v7_0_scv : Memref Cert.KernelIdeal.sig Kind.scVector Space.hbm Cert.KernelIdeal.S262144x128 EltTy.f32)
local notation "uK" => (Memref.whole Cert.KernelIdeal.main_v7_1_scv : Memref Cert.KernelIdeal.sig Kind.scVector Space.hbm Cert.KernelIdeal.S8192x128 EltTy.f32)
local notation "iK" => (Memref.whole Cert.KernelIdeal.cc1_scratch0 : Memref Cert.KernelIdeal.sig Kind.scVector Space.vmem Cert.KernelIdeal.S64x128 EltTy.i32)
local notation "bK" => (Memref.whole Cert.KernelIdeal.cc1_scratch1 : Memref Cert.KernelIdeal.sig Kind.scVector Space.vmem Cert.KernelIdeal.S256x128 EltTy.f32)
local notation "jK" => (Memref.whole Cert.KernelIdeal.cc1_scratch2 : Memref Cert.KernelIdeal.sig Kind.scVector Space.vmem Cert.KernelIdeal.S2x128 EltTy.i32)
local notation "gK" => (Memref.whole Cert.KernelIdeal.cc1_scratch3 : Memref Cert.KernelIdeal.sig Kind.scVector Space.vmem Cert.KernelIdeal.S256x128 EltTy.f32)

/-! ## The arrays' contents around the calls -/

abbrev xqA (V : Valuation τ sig (Elt F)) : S262144x128.Idx → Elt F .f32 := V (Proc.devRef .tc main_v3)
abbrev pqA (V : Valuation τ sig (Elt F)) : S32x64x128.Idx → BitVec 32 := V (Proc.devRef .tc main_v2)
abbrev oqA (V : Valuation τ sig (Elt F)) : S262144x128.Idx → Elt F .f32 := V (Proc.devRef .tc main_v4)
abbrev xkA (V : Valuation τ sig (Elt F)) : S262144x128.Idx → Elt F .f32 := V (Proc.devRef .tc main_v6)
abbrev pkA (V : Valuation τ sig (Elt F)) : S32x64x128.Idx → BitVec 32 := V (Proc.devRef .tc main_v5)
abbrev skA (V : Valuation τ sig (Elt F)) : S32x2x128.Idx → BitVec 32 := V (Proc.devRef .tc main_v1)
abbrev okA (V : Valuation τ sig (Elt F)) : S262144x128.Idx → Elt F .f32 := V (Proc.devRef .tc main_v7_0)
abbrev ukA (V : Valuation τ sig (Elt F)) : S8192x128.Idx → Elt F .f32 := V (Proc.devRef .tc main_v7_1)

/-- The queries' rows as the first call leaves them; the keys' and values' and the sampled ones, as the second does. -/
def sq (V : Valuation τ sig (Elt F)) : S262144x128.Idx → Elt F .f32 := scat (pqA V) (xqA V)
def skv (V : Valuation τ sig (Elt F)) : S262144x128.Idx → Elt F .f32 := scat (pkA V) (xkA V)
def ssub (V : Valuation τ sig (Elt F)) : S8192x128.Idx → Elt F .f32 := subOf (skA V) (skv V)

/-- Tile `w`'s hand at the first call, before and after; and at the second. -/
def inQ (V : Valuation τ sig (Elt F)) (d : Dev nD) (w : ℕ) : sProp 𝕄 := goQ d (xqA V) (pqA V) (oqA V) w
def outQ (V : Valuation τ sig (Elt F)) (d : Dev nD) (w : ℕ) : sProp 𝕄 := goQ d (xqA V) (pqA V) (sq V) w
def inK (V : Valuation τ sig (Elt F)) (d : Dev nD) (w : ℕ) : sProp 𝕄 := goKV d (xkA V) (pkA V) (skA V) (okA V) (ukA V) w
def outK (V : Valuation τ sig (Elt F)) (d : Dev nD) (w : ℕ) : sProp 𝕄 := goKV d (xkA V) (pkA V) (skA V) (skv V) (ssub V) w

instance inQ_storable (V : Valuation τ sig (Elt F)) (d : Dev nD) (w : ℕ) : BI.Storable (upEmb : UEmb _ 𝕄) (inQ V d w) := by unfold inQ goQ; infer_instance
instance outQ_storable (V : Valuation τ sig (Elt F)) (d : Dev nD) (w : ℕ) : BI.Storable (upEmb : UEmb _ 𝕄) (outQ V d w) := by unfold outQ goQ; infer_instance
instance inK_storable (V : Valuation τ sig (Elt F)) (d : Dev nD) (w : ℕ) : BI.Storable (upEmb : UEmb _ 𝕄) (inK V d w) := by unfold inK goKV; infer_instance
instance outK_storable (V : Valuation τ sig (Elt F)) (d : Dev nD) (w : ℕ) : BI.Storable (upEmb : UEmb _ 𝕄) (outK V d w) := by unfold outK goKV; infer_instance

variable (A B : Vals F)

/-- What the handshakes carry: each tile's share of the arrays, at the contents `A` of the first call and `B` of the second. -/
def P : (K (F := F)).Pay (nD := nD) (Val := Elt F) (Name := ℕ) (U := UU) where
  st := fun q d c => match q with
    | 0 => bigSep Finset.univ fun i : Fin ((K (F := F)).nSub 0) => inQ (A d) d (2 * i.val + c.val)
    | 1 => bigSep Finset.univ fun i : Fin ((K (F := F)).nSub 1) => inK (B d) d (2 * i.val + c.val)
  dn := fun q d c => match q with
    | 0 => bigSep Finset.univ fun i : Fin ((K (F := F)).nSub 0) => outQ (A d) d (2 * i.val + c.val)
    | 1 => bigSep Finset.univ fun i : Fin ((K (F := F)).nSub 1) => outK (B d) d (2 * i.val + c.val)
  go := fun q d c i => match q with
    | 0 => inQ (A d) d (2 * i.val + c.val)
    | 1 => inK (B d) d (2 * i.val + c.val)
  td := fun q d c i => match q with
    | 0 => outQ (A d) d (2 * i.val + c.val)
    | 1 => outK (B d) d (2 * i.val + c.val)
  x := fun _ _ => iprop(emp)

instance P_storable : (P A B).IsStorable where
  st q d c := match q with
    | 0 => (inferInstance : BI.Storable (upEmb : UEmb _ 𝕄) (bigSep Finset.univ fun i : Fin ((K (F := F)).nSub 0) => inQ (A d) d (2 * i.val + c.val)))
    | 1 => (inferInstance : BI.Storable (upEmb : UEmb _ 𝕄) (bigSep Finset.univ fun i : Fin ((K (F := F)).nSub 1) => inK (B d) d (2 * i.val + c.val)))
  dn q d c := match q with
    | 0 => (inferInstance : BI.Storable (upEmb : UEmb _ 𝕄) (bigSep Finset.univ fun i : Fin ((K (F := F)).nSub 0) => outQ (A d) d (2 * i.val + c.val)))
    | 1 => (inferInstance : BI.Storable (upEmb : UEmb _ 𝕄) (bigSep Finset.univ fun i : Fin ((K (F := F)).nSub 1) => outK (B d) d (2 * i.val + c.val)))
  go q d c i := match q with
    | 0 => inQ_storable (A d) d (2 * i.val + c.val)
    | 1 => inK_storable (B d) d (2 * i.val + c.val)
  td q d c i := match q with
    | 0 => outQ_storable (A d) d (2 * i.val + c.val)
    | 1 => outK_storable (B d) d (2 * i.val + c.val)

theorem vecSplit0 : (K (F := F)).VecSplit' (P A B) 0 := by
  intro d c
  show (bigSep Finset.univ fun i : Fin ((K (F := F)).nSub 0) => inQ (A d) d (2 * i.val + c.val)) ⊢ |={Set.univ}=> iprop(
      (bigSep Finset.univ fun i : Fin ((K (F := F)).nSub 0) => inQ (A d) d (2 * i.val + c.val))
      ∗ ((bigSep Finset.univ fun i : Fin ((K (F := F)).nSub 0) => outQ (A d) d (2 * i.val + c.val))
        -∗ bigSep Finset.univ fun i : Fin ((K (F := F)).nSub 0) => outQ (A d) d (2 * i.val + c.val)))
  iintro H; imodintro
  isplitl [H]; · iexact H
  iintro H; iexact H

theorem vecSplit1 : (K (F := F)).VecSplit' (P A B) 1 := by
  intro d c
  show (bigSep Finset.univ fun i : Fin ((K (F := F)).nSub 1) => inK (B d) d (2 * i.val + c.val)) ⊢ |={Set.univ}=> iprop(
      (bigSep Finset.univ fun i : Fin ((K (F := F)).nSub 1) => inK (B d) d (2 * i.val + c.val))
      ∗ ((bigSep Finset.univ fun i : Fin ((K (F := F)).nSub 1) => outK (B d) d (2 * i.val + c.val))
        -∗ bigSep Finset.univ fun i : Fin ((K (F := F)).nSub 1) => outK (B d) d (2 * i.val + c.val)))
  iintro H; imodintro
  isplitl [H]; · iexact H
  iintro H; iexact H

/-! ## The tiles' obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_permute_q (coordsV c s) xQ (Memref.isWhole_whole _) pQ (Memref.isWhole_whole _) oQ (Memref.isWhole_whole _)
            iQ (Memref.isWhole_whole _) bQ (Memref.isWhole_whole _) cc0_scratch2 cc0_scoped0 cc0_scoped1) ⟨⟩ c s := rfl
theorem defs₀_vector1 (c : Fin τ.nSC) (s : Fin τ.nSub) :
    defs₀ (F := F) (.scVector c s) 1 ()
      = SparseCore.onTile hcore1 hsub1 (fun c s => cc1_permute_kv (coordsV c s) xK (Memref.isWhole_whole _) pK (Memref.isWhole_whole _) sK (Memref.isWhole_whole _) oK (Memref.isWhole_whole _) uK (Memref.isWhole_whole _)
            iK (Memref.isWhole_whole _) bK (Memref.isWhole_whole _) jK (Memref.isWhole_whole _) gK (Memref.isWhole_whole _) cc1_scratch4 cc1_scoped0 cc1_scoped1 cc1_scoped2 cc1_scoped3) ⟨⟩ c s := rfl

theorem obl_post {thr : Thread nD τ} {X Y Z : sProp 𝕄} {O : CellTallies nD τ sig (HIx 2)} {W : Waits sig (HIx 2)} {q : Fin 2} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hA : ∀ d, PosAll (pqA (A d))) : (K (F := F)).TileObl (D (F := F)) 𝒱 (P A B) v₀ 0 := by
  intro d c i O W hO _ _
  simp only [show (P A B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tileQ d (coordsV ⟨_, hci.1⟩ ⟨_, hci.2⟩) facts (xqA (A d)) (pqA (A d)) (oqA (A d)) (hA d) O W hO).trans (wp_mono frame _ _ fun _ => obl_post)

set_option maxRecDepth 16384 in
theorem tileObl1 (hB : ∀ d, PosAll (pkA (B d))) (hS : ∀ d, SampOK (skA (B d))) : (K (F := F)).TileObl (D (F := F)) 𝒱 (P A B) v₀ 1 := by
  intro d c i O W hO _ _
  simp only [show (P A B).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tileKV d (coordsV ⟨_, hci.1⟩ ⟨_, hci.2⟩) facts (xkA (B d)) (pkA (B d)) (skA (B d)) (okA (B d)) (ukA (B d)) (hB d) (hS d) O W hO).trans (wp_mono frame _ _ fun _ => obl_post)

/-! ## The arrays split among the tiles -/

theorem bigSep_tiles (Φ : ℕ → sProp 𝕄) :
    (bigSep Finset.univ fun w : Fin 32 => Φ w.val)
      = bigSep Finset.univ fun c : Fin 2 => bigSep Finset.univ fun i : Fin 16 => Φ (2 * i.val + c.val) := by
  rw [bigSep_univ_comm, ← bigSep_univ_prod (fun x : Fin 16 × Fin 2 => Φ (2 * x.1.val + x.2.val)),
    bigSep_univ_equiv (finProdFinEquiv : Fin 16 × Fin 2 ≃ Fin 32)]
  refine bigSep_congr fun x _ => congrArg Φ ?_
  rw [finProdFinEquiv_apply_val]; omega

theorem fiber_split {ℓ : Loc nD τ sig} (g : Idx ℓ → ℕ) (hg : ∀ i, g i < 32) (f : Buf (Elt F) ℓ) (S : ℕ → Finset (Idx ℓ))
    (hS : ∀ w i, i ∈ S w ↔ g i = w) :
    (ℓ ↦{fullShare} f : sProp 𝕄) = bigSep Finset.univ fun w : Fin 32 => ℓ ↦[S w.val]{fullShare} f := by
  rw [← pointsTo_biUnion Finset.univ (ℓ := ℓ) (fun w : Fin 32 => S w.val)]
  · rw [show (Finset.univ : Finset (Fin 32)).biUnion (fun w => S w.val) = Finset.univ from
      Finset.eq_univ_of_forall fun i => Finset.mem_biUnion.mpr ⟨⟨g i, hg i⟩, Finset.mem_univ _, (hS _ _).mpr rfl⟩]
  · intro w _ w' _ hne
    rw [Finset.disjoint_left]
    intro i hi hi'
    exact hne (Fin.ext (((hS _ _).mp hi).symm.trans ((hS _ _).mp hi')))

theorem blk_lt (y : S262144x128.Idx) : (y 0).val / 8192 < 32 := by
  have : (y 0).val < 262144 := (y 0).isLt
  omega
theorem sblk_lt (y : S8192x128.Idx) : (y 0).val / 256 < 32 := by
  have : (y 0).val < 8192 := (y 0).isLt
  omega

/-- The first call's arrays are the tiles' shares of them. -/
theorem dealQ (d : Dev nD) (X : Buf (Elt F) (xqLoc d)) (Pv : Buf (Elt F) (pqLoc d)) (g : Buf (Elt F) (oqLoc d)) :
    (iprop((xqLoc d ↦{fullShare} X) ∗ (pqLoc d ↦{fullShare} Pv) ∗ (oqLoc d ↦{fullShare} g)) : sProp 𝕄)
      = bigSep Finset.univ fun c : Fin 2 => bigSep Finset.univ fun i : Fin 16 => goQ d X Pv g (2 * i.val + c.val) := by
  rw [← bigSep_tiles (fun w => goQ d X Pv g w)]
  unfold goQ
  rw [bigSep_sep', bigSep_sep',
    fiber_split (ℓ := xqLoc d) (fun y : S262144x128.Idx => (y 0).val / 8192) blk_lt X blk (fun w i => by simp [blk]),
    fiber_split (ℓ := pqLoc d) (fun y : S32x64x128.Idx => (y 0).val) (fun y => (y 0).isLt) Pv prow (fun w i => by simp [prow]),
    fiber_split (ℓ := oqLoc d) (fun y : S262144x128.Idx => (y 0).val / 8192) blk_lt g blk (fun w i => by simp [blk])]

/-- The second call's arrays are the tiles' shares of them. -/
theorem dealKV (d : Dev nD) (X : Buf (Elt F) (xkLoc d)) (Pv : Buf (Elt F) (pkLoc d)) (Sv : Buf (Elt F) (skLoc d)) (g : Buf (Elt F) (okLoc d)) (h : Buf (Elt F) (ukLoc d)) :
    (iprop((xkLoc d ↦{fullShare} X) ∗ (pkLoc d ↦{fullShare} Pv) ∗ (skLoc d ↦{fullShare} Sv) ∗ (okLoc d ↦{fullShare} g) ∗ (ukLoc d ↦{fullShare} h)) : sProp 𝕄)
      = bigSep Finset.univ fun c : Fin 2 => bigSep Finset.univ fun i : Fin 16 => goKV d X Pv Sv g h (2 * i.val + c.val) := by
  rw [← bigSep_tiles (fun w => goKV d X Pv Sv g h w)]
  unfold goKV
  rw [bigSep_sep', bigSep_sep', bigSep_sep', bigSep_sep',
    fiber_split (ℓ := xkLoc d) (fun y : S262144x128.Idx => (y 0).val / 8192) blk_lt X blk (fun w i => by simp [blk]),
    fiber_split (ℓ := pkLoc d) (fun y : S32x64x128.Idx => (y 0).val) (fun y => (y 0).isLt) Pv prow (fun w i => by simp [prow]),
    fiber_split (ℓ := skLoc d) (fun y : S32x2x128.Idx => (y 0).val) (fun y => (y 0).isLt) Sv srow (fun w i => by simp [srow]),
    fiber_split (ℓ := okLoc d) (fun y : S262144x128.Idx => (y 0).val / 8192) blk_lt g blk (fun w i => by simp [blk]),
    fiber_split (ℓ := ukLoc d) (fun y : S8192x128.Idx => (y 0).val / 256) sblk_lt h sblk (fun w i => by simp [sblk])]

end Cert.Proof.Sort

end
-- ==== Proof.Host.lean ====
/- @main's host lines, and what the TensorCore holds between them. -/
module

public import proofs.«01_k».proof.Proof.Deal

@[expose] public section

noncomputable section

namespace Cert.Proof.Sort

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The host lines -/

def opsA : List (HloOp τ sig (Elt F)) :=
  [StableHlo.reshape main_arg4 main_v0 (rfl : (.i32 : EltTy) = .i32) shapeCasts_S2x16x256_S32x256,
   StableHlo.reshape main_v0 main_v1 (rfl : (.i32 : EltTy) = .i32) shapeCasts_S32x256_S32x2x128,
   StableHlo.reshape main_arg2 main_v2 (rfl : (.i32 : EltTy) = .i32) shapeCasts_S32x8192_S32x64x128,
   StableHlo.reshape main_arg0 main_v3 (rfl : (.f32 : EltTy) = .f32) shapeCasts_S32x8192x128_S262144x128]

def opsB : List (HloOp τ sig (Elt F)) :=
  [StableHlo.reshape main_arg3 main_v5 (rfl : (.i32 : EltTy) = .i32) shapeCasts_S32x8192_S32x64x128,
   StableHlo.reshape main_arg1 main_v6 (rfl : (.f32 : EltTy) = .f32) shapeCasts_S32x8192x128_S262144x128]

def opsC : List (HloOp τ sig (Elt F)) :=
  [StableHlo.reshape main_v4 main_v8 (rfl : (.f32 : EltTy) = .f32) shapeCasts_S262144x128_S32x8192x128,
   StableHlo.reshape main_v7_0 main_v9 (rfl : (.f32 : EltTy) = .f32) shapeCasts_S262144x128_S32x8192x128,
   StableHlo.reshape main_v7_1 main_v10 (rfl : (.f32 : EltTy) = .f32) shapeCasts_S8192x128_S32x256x128,
   StableHlo.reshape main_v0 main_v11 (rfl : (.i32 : EltTy) = .i32) shapeCasts_S32x256_S32x1x256,
   StableHlo.reshape main_v8 main_v12 (rfl : (.f32 : EltTy) = .f32) shapeCasts_S32x8192x128_S32x32x256x128,
   StableHlo.reshape main_v9 main_v13 (rfl : (.f32 : EltTy) = .f32) shapeCasts_S32x8192x128_S32x32x256x128]

def opsD : List (HloOp τ sig (Elt F)) :=
  [StableHlo.reshape main_v14 main_v15 (rfl : (.f32 : EltTy) = .f32) shapeCasts_S32x32x256x64_S32x8192x64,
   StableHlo.reshape main_v15 main_v16 (rfl : (.f32 : EltTy) = .f32) shapeCasts_S32x8192x64_S262144x64,
   StableHlo.reshape main_arg2 main_v17 (rfl : (.i32 : EltTy) = .i32) shapeCasts_S32x8192_S262144]

def opsT : List (HloOp τ sig (Elt F)) :=
  [StableHlo.TRef.nullary main_call0.c (constantI S_ 32 0#32),
   StableHlo.TRef.unary main_call0.c main_call0.v0 (broadcastInDim S262144 ![] bcast_S_S262144),
   StableHlo.TRef.binary (.of main_v17) main_call0.v0 main_call0.v1 (cmpi .slt),
   StableHlo.TRef.nullary main_call0.c_0 (constantI S_ 32 262144#32),
   StableHlo.TRef.unary main_call0.c_0 main_call0.v2 (broadcastInDim S262144 ![] bcast_S_S262144),
   StableHlo.TRef.binary (.of main_v17) main_call0.v2 main_call0.v3 addi,
   StableHlo.TRef.ternary main_call0.v1 main_call0.v3 (.of main_v17) main_call0.call0.v0 select,
   StableHlo.TRef.unary main_call0.call0.v0 main_call0.v5 (broadcastInDim S262144x1 ![0] bcast_S262144_S262144x1_0),
   StableHlo.TRef.nullary main_call0.c_1 (constantI S1 32 262143#32),
   StableHlo.TRef.nullary main_call0.c_2 (constantI S_ 32 0#32),
   StableHlo.TRef.unary main_call0.c_2 main_call0.v6 (broadcastInDim S262144x1 ![] bcast_S_S262144x1),
   StableHlo.TRef.binary main_call0.v5 main_call0.v6 main_call0.v7 (cmpi .sge),
   StableHlo.TRef.unary main_call0.c_1 main_call0.v8 (broadcastInDim S1x1 ![1] bcast_S1_S1x1_1),
   StableHlo.TRef.unary main_call0.v8 main_call0.v9 (broadcastInDim S262144x1 ![0, 1] bcast_S1x1_S262144x1_0_1),
   StableHlo.TRef.binary main_call0.v5 main_call0.v9 main_call0.v10 (cmpi .sle),
   StableHlo.TRef.binary main_call0.v7 main_call0.v10 main_call0.v11 andi,
   StableHlo.TRef.nullary main_call0.c_3 (constantI S_ 1 1#1),
   StableHlo.TRef.binary main_call0.v11 main_call0.c_3 main_call0.v12 (fun x v => Host.reduce IntOp.andi x v reducesTo_S262144x1_S262144_d1 h_S_),
   StableHlo.TRef.binary (.of main_v16) main_call0.v5 main_call0.v13 (fun x i => Host.gather gather_S262144x64_S262144x1_S262144x64_1_0_n_n_0_1_164 x i),
   StableHlo.TRef.unary main_call0.v12 main_call0.v14 (broadcastInDim S262144x64 ![0] bcast_S262144_S262144x64_0),
   StableHlo.TRef.nullary main_call0.cst (constant S_ .f32 0x7FC00000#32),
   StableHlo.TRef.unary main_call0.cst main_call0.v15 (broadcastInDim S262144x64 ![] bcast_S_S262144x64),
   StableHlo.TRef.ternary main_call0.v14 main_call0.v13 main_call0.v15 main_call0.v16 select]

def opsE : List (HloOp τ sig (Elt F)) :=
  [StableHlo.reshape main_v18 main_v19 (rfl : (.f32 : EltTy) = .f32) shapeCasts_S262144x64_S2x16x8192x64]

theorem take_eq : (fn_take.body (F := F) (.of main_v16) (.of main_v17) main_call0) = StableHlo.seq opsT := by
  simp only [fn_take.body, fn_where.body, opsT, StableHlo.seq, bind_assoc, pure_bind]

theorem main_eq (d : Dev nD) : main (F := F) d = (StableHlo.seq opsA >>= fun _ => (sc (F := F)).run d 0 >>= fun _ => StableHlo.seq opsB
    >>= fun _ => (sc (F := F)).run d 1 >>= fun _ => StableHlo.seq opsC
    >>= fun _ => (Prog.lift (.customCall (SparseCore.inner (Pipeline.entry 0)) ())) >>= fun _ => StableHlo.seq opsD
    >>= fun _ => StableHlo.seq opsT >>= fun _ => StableHlo.seq opsE >>= fun _ => pure ⟨⟩) := by
  simp only [main, take_eq]
  simp only [opsA, opsB, opsC, opsD, opsE, StableHlo.seq, bind_assoc, pure_bind]

theorem opsA_sub : (opsA (F := F)).Forall fun op => op.bufs ⊆ StableHlo.tcRefs τ sig :=
  ⟨StableHlo.reshape_bufs_sub .., StableHlo.reshape_bufs_sub .., StableHlo.reshape_bufs_sub .., StableHlo.reshape_bufs_sub ..⟩
theorem opsB_sub : (opsB (F := F)).Forall fun op => op.bufs ⊆ StableHlo.tcRefs τ sig :=
  ⟨StableHlo.reshape_bufs_sub .., StableHlo.reshape_bufs_sub ..⟩
theorem opsC_sub : (opsC (F := F)).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub ..⟩
theorem opsD_sub : (opsD (F := F)).Forall fun op => op.bufs ⊆ StableHlo.tcRefs τ sig :=
  ⟨StableHlo.reshape_bufs_sub .., StableHlo.reshape_bufs_sub .., StableHlo.reshape_bufs_sub ..⟩
theorem opsE_sub : (opsE (F := F)).Forall fun op => op.bufs ⊆ StableHlo.tcRefs τ sig := StableHlo.reshape_bufs_sub ..
theorem opsT_sub : (opsT (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.nullary_bufs_sub .., StableHlo.nullary_bufs_sub .., StableHlo.unary_bufs_sub .., StableHlo.binary_bufs_sub ..,
    StableHlo.unary_bufs_sub .., StableHlo.unary_bufs_sub .., StableHlo.binary_bufs_sub .., StableHlo.binary_bufs_sub .., StableHlo.nullary_bufs_sub .., StableHlo.binary_bufs_sub ..,
    StableHlo.binary_bufs_sub .., StableHlo.unary_bufs_sub .., StableHlo.nullary_bufs_sub .., StableHlo.unary_bufs_sub .., StableHlo.ternary_bufs_sub ..⟩

theorem opsA_fresh : (opsA (F := F)).Forall fun op => op.fresh = ∅ := ⟨rfl, rfl, rfl, rfl⟩
theorem opsB_fresh : (opsB (F := F)).Forall fun op => op.fresh = ∅ := ⟨rfl, rfl⟩
theorem opsC_fresh : (opsC (F := F)).Forall fun op => op.fresh = ∅ := ⟨rfl, rfl, rfl, rfl, rfl, rfl⟩
theorem opsD_fresh : (opsD (F := F)).Forall fun op => op.fresh = ∅ := ⟨rfl, rfl, rfl⟩
theorem opsE_fresh : (opsE (F := F)).Forall fun op => op.fresh = ∅ := rfl
theorem opsT_fresh : (opsT (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

theorem sub_of {ops : List (HloOp τ sig (Elt F))} (h : ops.Forall fun op => op.bufs ⊆ StableHlo.tcRefs τ sig) :
    ∀ op ∈ ops, op.bufs ⊆ Pipeline.ucRefs τ sig := fun op hop => Pipeline.sub_ucRefs op ((List.forall_iff_forall_mem.mp h) op hop)

/-! ## The contents between the lines -/

open Classical in
def putQ (V : Valuation τ sig (Elt F)) : Valuation τ sig (Elt F) := Function.update V (Proc.devRef .tc main_v4) (sq V)
open Classical in
def putK (V : Valuation τ sig (Elt F)) : Valuation τ sig (Elt F) :=
  Function.update (Function.update V (Proc.devRef .tc main_v7_0) (skv V)) (Proc.devRef .tc main_v7_1) (ssub V)

theorem putQ_v4 (V : Valuation τ sig (Elt F)) : putQ V (Proc.devRef .tc main_v4) = sq V := by unfold putQ; exact Function.update_self ..
theorem putQ_ne (V : Valuation τ sig (Elt F)) {b : DevRef τ sig} (h : b ≠ Proc.devRef .tc main_v4) : putQ V b = V b := by
  unfold putQ; exact Function.update_of_ne h ..
theorem putK_v71 (V : Valuation τ sig (Elt F)) : putK V (Proc.devRef .tc main_v7_1) = ssub V := by unfold putK; exact Function.update_self ..
theorem putK_v70 (V : Valuation τ sig (Elt F)) : putK V (Proc.devRef .tc main_v7_0) = skv V := by
  unfold putK; rw [Function.update_of_ne (StableHlo.devRef_ne_of_ne (by decide))]; exact Function.update_self ..
theorem putK_ne (V : Valuation τ sig (Elt F)) {b : DevRef τ sig} (h : b ≠ Proc.devRef .tc main_v7_0) (h' : b ≠ Proc.devRef .tc main_v7_1) : putK V b = V b := by
  unfold putK; rw [Function.update_of_ne h', Function.update_of_ne h]

open Classical in
def qSet : Finset (DevRef τ sig) := {Proc.devRef .tc main_v3, Proc.devRef .tc main_v2, Proc.devRef .tc main_v4}
open Classical in
def kSet : Finset (DevRef τ sig) := {Proc.devRef .tc main_v6, Proc.devRef .tc main_v5, Proc.devRef .tc main_v1, Proc.devRef .tc main_v7_0, Proc.devRef .tc main_v7_1}

theorem mem_uc (r : Ref sig .tc) (h : r.isScoped = false) : (Proc.devRef .tc r : DevRef τ sig) ∈ Pipeline.ucRefs τ sig := by
  unfold Pipeline.ucRefs StableHlo.tcRefs
  exact Finset.mem_filter.mpr ⟨Finset.mem_map.mpr ⟨r, Finset.mem_univ _, rfl⟩, by rw [show (Proc.devRef .tc r : DevRef τ sig).isScoped = r.isScoped from rfl, h]; decide⟩

theorem qSet_sub : qSet ⊆ Pipeline.ucRefs τ sig := by
  intro b hb
  simp only [qSet, Finset.mem_insert, Finset.mem_singleton] at hb
  rcases hb with rfl | rfl | rfl <;> exact mem_uc _ (by decide)
theorem kSet_sub : kSet ⊆ Pipeline.ucRefs τ sig := by
  intro b hb
  simp only [kSet, Finset.mem_insert, Finset.mem_singleton] at hb
  rcases hb with rfl | rfl | rfl | rfl | rfl <;> exact mem_uc _ (by decide)

theorem held_qSet (d : Dev nD) (V : Valuation τ sig (Elt F)) :
    (StableHlo.held (SparseCore.T d) qSet V : sProp 𝕄)
      = iprop((xqLoc d ↦{fullShare} xqA V) ∗ (pqLoc d ↦{fullShare} pqA V) ∗ (oqLoc d ↦{fullShare} oqA V)) := by
  classical
  unfold StableHlo.held qSet
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

theorem held_kSet (d : Dev nD) (V : Valuation τ sig (Elt F)) :
    (StableHlo.held (SparseCore.T d) kSet V : sProp 𝕄)
      = iprop((xkLoc d ↦{fullShare} xkA V) ∗ (pkLoc d ↦{fullShare} pkA V) ∗ (skLoc d ↦{fullShare} skA V) ∗ (okLoc d ↦{fullShare} okA V) ∗ (ukLoc d ↦{fullShare} ukA V)) := by
  classical
  unfold StableHlo.held kSet
  rw [SparseCore.bigSep_insert' (by
      simp only [Finset.mem_insert, Finset.mem_singleton, not_or]
      exact ⟨StableHlo.devRef_ne_of_ne (by decide), StableHlo.devRef_ne_of_ne (by decide), StableHlo.devRef_ne_of_ne (by decide), StableHlo.devRef_ne_of_ne (by decide)⟩),
    SparseCore.bigSep_insert' (by
      simp only [Finset.mem_insert, Finset.mem_singleton, not_or]
      exact ⟨StableHlo.devRef_ne_of_ne (by decide), StableHlo.devRef_ne_of_ne (by decide), StableHlo.devRef_ne_of_ne (by decide)⟩),
    SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

/-- Before the first call: the tiles' hands and the rest. -/
theorem split_q (d : Dev nD) (V : Valuation τ sig (Elt F)) :
    (StableHlo.held (SparseCore.T d) (Pipeline.ucRefs τ sig) V : sProp 𝕄)
      = iprop((bigSep Finset.univ fun c : Fin 2 => bigSep Finset.univ fun i : Fin 16 => inQ V d (2 * i.val + c.val))
          ∗ StableHlo.held (SparseCore.T d) (Pipeline.ucRefs τ sig \ qSet) V) := by
  rw [StableHlo.held_sub_split _ qSet_sub V, held_qSet]
  unfold inQ
  rw [dealQ]

/-- After it. -/
theorem join_q (d : Dev nD) (V : Valuation τ sig (Elt F)) :
    (StableHlo.held (SparseCore.T d) (Pipeline.ucRefs τ sig) (putQ V) : sProp 𝕄)
      = iprop((bigSep Finset.univ fun c : Fin 2 => bigSep Finset.univ fun i : Fin 16 => outQ V d (2 * i.val + c.val))
          ∗ StableHlo.held (SparseCore.T d) (Pipeline.ucRefs τ sig \ qSet) V) := by
  rw [StableHlo.held_sub_split _ qSet_sub (putQ V), held_qSet,
    StableHlo.held_congr _ (S := Pipeline.ucRefs τ sig \ qSet) (V := putQ V) (V' := V) (fun b hb => putQ_ne V (by
      rintro rfl
      exact (Finset.mem_sdiff.mp hb).2 (by simp [qSet]))),
    show xqA (putQ V) = xqA V from putQ_ne V (StableHlo.devRef_ne_of_ne (by decide)),
    show pqA (putQ V) = pqA V from putQ_ne V (StableHlo.devRef_ne_of_ne (by decide)),
    show oqA (putQ V) = sq V from putQ_v4 V]
  unfold outQ
  rw [dealQ]

theorem split_k (d : Dev nD) (V : Valuation τ sig (Elt F)) :
    (StableHlo.held (SparseCore.T d) (Pipeline.ucRefs τ sig) V : sProp 𝕄)
      = iprop((bigSep Finset.univ fun c : Fin 2 => bigSep Finset.univ fun i : Fin 16 => inK V d (2 * i.val + c.val))
          ∗ StableHlo.held (SparseCore.T d) (Pipeline.ucRefs τ sig \ kSet) V) := by
  rw [StableHlo.held_sub_split _ kSet_sub V, held_kSet]
  unfold inK
  rw [dealKV]

theorem join_k (d : Dev nD) (V : Valuation τ sig (Elt F)) :
    (StableHlo.held (SparseCore.T d) (Pipeline.ucRefs τ sig) (putK V) : sProp 𝕄)
      = iprop((bigSep Finset.univ fun c : Fin 2 => bigSep Finset.univ fun i : Fin 16 => outK V d (2 * i.val + c.val))
          ∗ StableHlo.held (SparseCore.T d) (Pipeline.ucRefs τ sig \ kSet) V) := by
  rw [StableHlo.held_sub_split _ kSet_sub (putK V), held_kSet,
    StableHlo.held_congr _ (S := Pipeline.ucRefs τ sig \ kSet) (V := putK V) (V' := V) (fun b hb => putK_ne V
      (by rintro rfl; exact (Finset.mem_sdiff.mp hb).2 (by simp [kSet])) (by rintro rfl; exact (Finset.mem_sdiff.mp hb).2 (by simp [kSet]))),
    show xkA (putK V) = xkA V from putK_ne V (StableHlo.devRef_ne_of_ne (by decide)) (StableHlo.devRef_ne_of_ne (by decide)),
    show pkA (putK V) = pkA V from putK_ne V (StableHlo.devRef_ne_of_ne (by decide)) (StableHlo.devRef_ne_of_ne (by decide)),
    show skA (putK V) = skA V from putK_ne V (StableHlo.devRef_ne_of_ne (by decide)) (StableHlo.devRef_ne_of_ne (by decide)),
    show okA (putK V) = skv V from putK_v70 V, show ukA (putK V) = ssub V from putK_v71 V]
  unfold outK
  rw [dealKV]

end Cert.Proof.Sort

end
-- ==== Proof.Main.lean ====
/- The run of the whole program. -/
module

public import proofs.«01_k».proof.Proof.Host

@[expose] public section

noncomputable section

namespace Cert.Proof.Sort

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The contents at each line -/

def V0 : Vals F := fun d b => m (d, b)
def V1 : Vals F := fun d => StableHlo.after opsA (V0 m d)
def V2 : Vals F := fun d => putQ (V1 m d)
def V3 : Vals F := fun d => StableHlo.after opsB (V2 m d)
def V4 : Vals F := fun d => putK (V3 m d)
def V5 : Vals F := fun d => StableHlo.after opsC (V4 m d)
def V6 : Vals F := Wout (V5 m)
def V7 : Vals F := fun d => StableHlo.after opsD (V6 m d)
def V8 : Vals F := fun d => StableHlo.after opsT (V7 m d)
def V9 : Vals F := fun d => StableHlo.after opsE (V8 m d)

abbrev PP : (K (F := F)).Pay (nD := nD) (Val := Elt F) (Name := ℕ) (U := UU) := P (V1 m) (V3 m)

/-- What the proof asks of the launch memory: the positions name each row of a tile's block once, the sampled
    positions are below the tile's count. -/
structure PreOK : Prop where
  q : ∀ d, PosAll (pqA (V1 m d))
  k : ∀ d, PosAll (pkA (V3 m d))
  s : ∀ d, SampOK (skA (V3 m d))

/-! ## The ghost state of the launch -/

abbrev pinned := Pipeline.pin (pcfgs (F := F)) adm

/-- The attention call's ghost state on device `d`. -/
def G (d : Dev nD) : sProp 𝕄 := iprop(Pipeline.cellsGhost (pinned (F := F)) EP 0 d ∗ Pipeline.toksInit (pinned (F := F)) EP 0 d)

def u₀ : UU := (initOf (K (F := F)).hsCells (K (F := F)).hsToks,
  (initOf (Pipeline.cells (pinned (F := F)) cellOf_inj) (Pipeline.launchToks (pinned (F := F)) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (PP m).x q thr) := by
  unfold u₀
  iintro Hu
  ihave H := (ownU_pair (initOf (K (F := F)).hsCells (K (F := F)).hsToks) _) $$ Hu
  icases H with ⟨HH, HR⟩
  ihave H := (own_pair_emb (embR : Emb (UP × Counters) (MT nD τ sig (HIx 2) (Elt F) ℕ UU ℕ)) _ _) $$ HR
  icases H with ⟨HP, -⟩
  ihave HP' := (Pipeline.fund_ghost (pinned (F := F)) (EP (F := F)) cellOf_inj) $$ HP
  imod HP' with ⟨Hc, Ht⟩
  imodintro
  isplitl [HH]; · iexact HH
  isplitl [Hc Ht]
  · unfold G
    rw [bigSep_sep']
    isplitl [Hc]
    · iapply (Entails.of_eq (show (bigSep Finset.univ fun d : Dev nD => bigSep Finset.univ fun p : Fin 1 => (Pipeline.cellsGhost (pinned (F := F)) EP p d : sProp 𝕄))
        = bigSep Finset.univ fun d : Dev nD => Pipeline.cellsGhost (pinned (F := F)) EP 0 d from bigSep_congr fun d _ => bigSep_univ_of_subsingleton (0 : Fin 1)))
      iexact Hc
    · iapply (Entails.of_eq (show (bigSep Finset.univ fun d : Dev nD => bigSep Finset.univ fun p : Fin 1 => (Pipeline.toksInit (pinned (F := F)) EP p d : sProp 𝕄))
        = bigSep Finset.univ fun d : Dev nD => Pipeline.toksInit (pinned (F := F)) EP 0 d from bigSep_congr fun d _ => bigSep_univ_of_subsingleton (0 : Fin 1)))
      iexact Ht
  rw [show (bigSep Finset.univ fun thr : Thread nD τ => bigSep Finset.univ fun q : Fin 2 => (PP (F := F) m).x q thr) = bigSep Finset.univ fun _ => iprop(emp) from
    bigSep_congr fun _ _ => bigSep_emp' _, bigSep_emp']
  iempintro

/-! ## The calls' payloads -/

theorem st0_eq (d : Dev nD) : (bigSep Finset.univ fun c : Fin ((K (F := F)).nCore 0) => (PP m).st 0 d c)
    = bigSep Finset.univ fun c : Fin 2 => bigSep Finset.univ fun i : Fin 16 => inQ (V1 m d) d (2 * i.val + c.val) := rfl
theorem dn0_eq (d : Dev nD) : (bigSep Finset.univ fun c : Fin ((K (F := F)).nCore 0) => (PP m).dn 0 d c)
    = bigSep Finset.univ fun c : Fin 2 => bigSep Finset.univ fun i : Fin 16 => outQ (V1 m d) d (2 * i.val + c.val) := rfl
theorem st1_eq (d : Dev nD) : (bigSep Finset.univ fun c : Fin ((K (F := F)).nCore 1) => (PP m).st 1 d c)
    = bigSep Finset.univ fun c : Fin 2 => bigSep Finset.univ fun i : Fin 16 => inK (V3 m d) d (2 * i.val + c.val) := rfl
theorem dn1_eq (d : Dev nD) : (bigSep Finset.univ fun c : Fin ((K (F := F)).nCore 1) => (PP m).dn 1 d c)
    = bigSep Finset.univ fun c : Fin 2 => bigSep Finset.univ fun i : Fin 16 => outK (V3 m d) d (2 * i.val + c.val) := rfl

/-! ## @main on the TensorCore -/

abbrev FIN (d : Dev nD) : sProp 𝕄 := StableHlo.held (SparseCore.T d) (Pipeline.ucRefs τ sig) (V9 m d)

theorem entry_lift : (Prog.lift (.customCall (SparseCore.inner (Pipeline.entry 0)) ()) :
      Prog (TpuEff nD τ sig (Elt F) (SparseCore.Sig (ΛP (F := F)) 2) .tc) PUnit)
    = SparseCore.liftProg (Q := 2) (Prog.lift (.customCall (Pipeline.entry 0) ()) : Prog (TpuEff nD τ sig (Elt F) (ΛP (F := F)) .tc) PUnit) := rfl

set_option maxHeartbeats 4000000 in
theorem attn_region [∀ e, Nonempty (Elt F e)] (W₀ : Vals F) (d : Dev nD) (Q : PUnit → sProp 𝕄) :
    iprop((iprop(boundary (d.tc : Thread nD τ) ∗ (reg W₀).post d) -∗ wp frame (wpE (D (F := F)) 𝒱 (d.tc : Thread nD τ) none) Set.univ (.ret ⟨⟩) Q)
        ∗ boundary (d.tc : Thread nD τ) ∗ (reg W₀).pre d ∗ levAts (K (F := F)).L (K (F := F)).lev
        ∗ Pipeline.cellsGhost (pinned (F := F)) EP 0 d ∗ Pipeline.toksInit (pinned (F := F)) EP 0 d)
      ⊢ wp frame (wpE (D (F := F)) 𝒱 (d.tc : Thread nD τ) none) Set.univ (.op (.customCall (Pipeline.entry 0) ()) fun _ => .ret ⟨⟩) Q :=
  Pipeline.RegionSeg.wp (pcs := pcfgs (F := F)) (a := adm) (pdats := pdats W₀) (ι := none) (phinj := cellOf_inj) (EP := EP (F := F)) (defs₀ := defs₀) (𝒱₀ := 𝒱₀)
    (L := (K (F := F)).L) (lv := (K (F := F)).lev) (R := reg W₀) (c := d) (bd := none) (hv := fun u hu => absurd hu (by simp)) (k := fun _ => .ret ⟨⟩) (Q := Q)

theorem reg_pre (W₀ : Vals F) (d : Dev nD) : (reg W₀).pre d
    = (iprop(StableHlo.held (SparseCore.T d) (Pipeline.ucRefs τ sig) (W₀ d) ∗ owesEnd d) : sProp 𝕄) := rfl
theorem reg_post (W₀ : Vals F) (d : Dev nD) : (reg W₀).post d
    = (iprop(StableHlo.held (SparseCore.T d) (Pipeline.ucRefs τ sig) (Wout W₀ d) ∗ owesEnd d) : sProp 𝕄) := rfl

/-- The attention call: from the buffers at the contents it is entered with to the buffers at its results. -/
theorem attn_call [∀ e, Nonempty (Elt F e)] (W₀ : Vals F) (d : Dev nD) (Q : PUnit → sProp 𝕄) :
    iprop((iprop(boundary (SparseCore.T d) ∗ StableHlo.held (SparseCore.T d) (Pipeline.ucRefs τ sig) (Wout W₀ d) ∗ owesEnd d) -∗ Q ⟨⟩)
        ∗ boundary (SparseCore.T d) ∗ (StableHlo.held (SparseCore.T d) (Pipeline.ucRefs τ sig) (W₀ d) ∗ owesEnd d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  rw [entry_lift]
  refine BIBase.Entails.trans ?_ ((K (F := F)).wp_liftProg (D (F := F)) 𝒱 (SparseCore.T d) Set.univ none (Prog.lift (.customCall (Pipeline.entry 0) ())) Q)
  refine BIBase.Entails.trans ?_ (attn_region W₀ d Q)
  unfold G
  iintro ⟨Hk, Hb, Hpre, Hlv, Hc, Ht⟩
  isplitl [Hk]
  · iintro H
    rw [wp_ret]
    imodintro
    iapply Hk
    ihave H := (Entails.of_eq (congrArg (fun X => (iprop(boundary (SparseCore.T d) ∗ X) : sProp 𝕄)) (reg_post W₀ d))) $$ H
    iexact H
  isplitl [Hb]; · iexact Hb
  isplitl [Hpre]
  · iapply (Entails.of_eq (reg_pre W₀ d).symm); iexact Hpre
  isplitl [Hlv]; · iexact Hlv
  isplitl [Hc]; · iexact Hc
  iexact Ht

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (SparseCore.T d) (Pipeline.ucRefs τ sig) (V0 m d)
    from Pipeline.unscopedBufs_held d (V0 m d)]
  iintro ⟨#Hctx, Hst, ⟨Hb, Hh, Hts, -⟩, HG⟩
  iapply (StableHlo.wp_seq 𝒱 none Set.univ d (Pipeline.ucRefs τ sig) _ opsA (sub_of opsA_sub) (List.forall_iff_forall_mem.mp opsA_fresh) (V0 m d)) $$ [Hb Hh]
  · isplitl [Hb]; · iexact Hb
    iexact Hh
  iintro ⟨Hb, Hh⟩
  ihave Hh := (Entails.of_eq (show (StableHlo.held (d.tc : Thread nD τ) (Pipeline.ucRefs τ sig) (StableHlo.after opsA (V0 m d)) : sProp 𝕄) = _ from split_q d (V1 m d))) $$ Hh
  icases Hh with ⟨Hq, Hr⟩
  rw [wp_bind]
  iapply ((K (F := F)).wp_run (D (F := F)) 𝒱 (EH := EH) (P := PP m) κ d 0)
  isplitr; · iexact Hctx
  isplitl [Hst]; · iexact Hst
  isplitl [Hq]
  · rw [st0_eq]; iexact Hq
  iintro ⟨Hst, Hdn⟩
  ihave Hdn := (Entails.of_eq (dn0_eq m d)) $$ Hdn
  ihave Hh := (Entails.of_eq (join_q d (V1 m d)).symm) $$ [Hdn Hr]
  · isplitl [Hdn] <;> iassumption
  iapply (StableHlo.wp_seq 𝒱 none Set.univ d (Pipeline.ucRefs τ sig) _ opsB (sub_of opsB_sub) (List.forall_iff_forall_mem.mp opsB_fresh) (V2 m d)) $$ [Hb Hh]
  · isplitl [Hb]; · iexact Hb
    iexact Hh
  iintro ⟨Hb, Hh⟩
  ihave Hh := (Entails.of_eq (show (StableHlo.held (d.tc : Thread nD τ) (Pipeline.ucRefs τ sig) (StableHlo.after opsB (V2 m d)) : sProp 𝕄) = _ from split_k d (V3 m d))) $$ Hh
  icases Hh with ⟨Hq, Hr⟩
  rw [wp_bind]
  iapply ((K (F := F)).wp_run (D (F := F)) 𝒱 (EH := EH) (P := PP m) κ d 1)
  isplitr; · iexact Hctx
  isplitl [Hst]; · iexact Hst
  isplitl [Hq]
  · rw [st1_eq]; iexact Hq
  iintro ⟨Hst, Hdn⟩
  ihave Hdn := (Entails.of_eq (dn1_eq m d)) $$ Hdn
  ihave Hh := (Entails.of_eq (join_k d (V3 m d)).symm) $$ [Hdn Hr]
  · isplitl [Hdn] <;> iassumption
  iapply (StableHlo.wp_seq 𝒱 none Set.univ d (Pipeline.ucRefs τ sig) _ opsC (sub_of opsC_sub) (List.forall_iff_forall_mem.mp opsC_fresh) (V4 m d)) $$ [Hb Hh]
  · isplitl [Hb]; · iexact Hb
    iexact Hh
  iintro ⟨Hb, Hh⟩
  rw [wp_bind]
  unfold SparseCore.Cfg.tcSt
  icases Hst with ⟨⟨%W, %hW, HO⟩, Hst⟩
  iapply (attn_call (V5 m) d)
  isplitl [Hst Hts]
  · iintro ⟨Hb, Hh, HO⟩
    iapply (StableHlo.wp_seq 𝒱 none Set.univ d (Pipeline.ucRefs τ sig) _ opsD (sub_of opsD_sub) (List.forall_iff_forall_mem.mp opsD_fresh) (V6 m d)) $$ [Hb Hh]
    · isplitl [Hb]; · iexact Hb
      iexact Hh
    iintro ⟨Hb, Hh⟩
    iapply (StableHlo.wp_seq 𝒱 none Set.univ d (Pipeline.ucRefs τ sig) _ opsT (sub_of opsT_sub) (List.forall_iff_forall_mem.mp opsT_fresh) (V7 m d)) $$ [Hb Hh]
    · isplitl [Hb]; · iexact Hb
      iexact Hh
    iintro ⟨Hb, Hh⟩
    iapply (StableHlo.wp_seq 𝒱 none Set.univ d (Pipeline.ucRefs τ sig) _ opsE (sub_of opsE_sub) (List.forall_iff_forall_mem.mp opsE_fresh) (V8 m d)) $$ [Hb Hh]
    · isplitl [Hb]; · iexact Hb
      iexact Hh
    iintro ⟨Hb, Hh⟩
    erw [wp_ret]
    imodintro
    unfold owesEnd
    icases HO with ⟨%W', %hW', HO⟩
    isplitl [Hst HO]
    · isplitl [HO]
      · iexists W'
        isplitr; · ipureintro; exact hW'
        rw [(K (F := F)).Otc_end d (le_refl 2)]
        iexact HO
      · iexact Hst
    isplitl [Hh]; · iexact Hh
    isplitl [Hb] <;> iassumption
  isplitl [Hb]; · iexact Hb
  isplitl [Hh HO]
  · isplitl [Hh]; · iexact Hh
    unfold owesEnd
    iexists W
    isplitr; · ipureintro; exact hW
    ihave HO := (Entails.of_eq (congrArg (fun O => (owes (SparseCore.T d) O W : sProp 𝕄)) ((K (F := F)).Otc_end d (show 2 ≤ (1 : Fin 2).val + 1 from le_refl 2)))) $$ HO
    iexact HO
  isplitr; · iapply ((K (F := F)).ctx_levAts κ); iexact Hctx
  iexact HG

/-! ## What the final memory holds -/

def fq (d : Dev nD) (s' : Phys nD τ sig (Elt F)) : Prop := ∀ b ∈ Pipeline.ucRefs τ sig, s'.mem.mem (d, b) = V9 m d b

theorem hfin (d : Dev nD) (s' : Phys nD τ sig (Elt F)) : iprop(FIN m d ∗ SI s') ⊢ (⌜fq m d s'⌝ : sProp 𝕄) := by
  classical
  refine (forall_intro fun b => ?_).trans pure_forall.2
  refine (forall_intro fun hb => ?_).trans pure_forall.2
  rw [show (FIN m d : sProp 𝕄) = _ from StableHlo.held_sub_split _ (Finset.singleton_subset_iff.mpr hb) (V9 m d)]
  iintro ⟨⟨Hb, -⟩, HSI⟩
  ihave Hb := (Entails.of_eq (show (StableHlo.held (SparseCore.T d) {b} (V9 m d) : sProp 𝕄) = (((d, b) : Loc nD τ sig) ↦{fullShare} V9 m d b) from bigSep_singleton)) $$ Hb
  ihave H := (SI_pointsTo_agree (st := s') (ℓ := ((d, b) : Loc nD τ sig)) (I := Finset.univ) (q := fullShare) (f := V9 m d b)) $$ [HSI Hb]
  · isplitl [HSI] <;> iassumption
  icases H with %h
  ipureintro; exact funext fun i => h i (Finset.mem_univ i)

def QC : PUnit × MemSt nD τ sig (Elt F) → Prop := fun r => (∀ d : Dev nD, ∀ b ∈ Pipeline.ucRefs τ sig, r.2.mem (d, b) = V9 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tileObl0 (V1 m) (V3 m) hpre.q | 1 => tileObl1 (V1 m) (V3 m) hpre.k hpre.s)
    (fun q _ => match q with
      | 0 => SparseCore.Cfg.VecSplit.of_plain (vecSplit0 (V1 m) (V3 m))
      | 1 => SparseCore.Cfg.VecSplit.of_plain (vecSplit1 (V1 m) (V3 m)))
    m ρ main (fun d => G d) (FIN m) (u₀ (F := F)) (sep_elim_left.trans (hu₀ m)) (hmain m ρ) (fq m) (hfin m) (QC m) (fun _ h hz => ⟨h, hz⟩)

end Cert.Proof.Sort

end
-- ==== Proof.PreFacts.lean ====
/- What the preconditions say of the positions, the sampled positions and the rows. -/
module

public import proofs.«01_k».proof.Proof.Main
public import proofs.«01_k».proof.Proof.Gen.Pre_sorted_positions
public import Idealize.ShloMosaic.Lib.ReduceAll
public import Idealize.ShloMosaic.Lib.SortFacts
public import Idealize.ShloMosaic.Lib.Pipeline.Value

@[expose] public section

noncomputable section

namespace Cert.Proof.Sort

open Cert.KernelIdeal Cert.KernelIdeal.Gen

open Idealize.ShloMosaic

variable {F : FTy → Type} [FloatOps F]

/-- Every row of the positions, in its order, counts its block's rows up. -/
def RowsOK (p : S32x8192.Idx → BitVec 32) : Prop :=
  ∀ w : Fin 32, ∃ σ : Fin 8192 ≃ Fin 8192, ∀ k : Fin 8192, (p (ValueIdx.ix2 w (σ k))).toNat = 8192 * w.val + k.val

/-- Every sampled position is below the count of a row. -/
def SampledOK (s : S2x16x256.Idx → BitVec 32) : Prop := ∀ x, (s x).toNat < 8192

theorem andi_one {a b : BitVec 1} : IntOp.andi a b = 1#1 ↔ a = 1#1 ∧ b = 1#1 := by
  revert a b; decide

instance : Subsingleton Cert.Pre_sorted_positions.S_.Idx := ⟨fun a b => funext fun i => i.elim0⟩

theorem along_ix2 {a n : ℕ} (w : Fin a) (k k' : Fin n) :
    (ValueIdx.ix2 w k : (⟨2, ![a, n]⟩ : Shape).Idx).along (1 : Fin 2) k' = ValueIdx.ix2 w k' := by
  funext i
  match i with
  | ⟨0, _⟩ => rfl
  | ⟨1, _⟩ => rfl

/-- Sorting only moves a row's words about. -/
theorem sort_row {a n : ℕ} (cmp : BitVec 32 → BitVec 32 → BitVec 1) (p : (⟨2, ![a, n]⟩ : Shape).Idx → BitVec 32) (w : Fin a) :
    ∃ σ : Fin n ≃ Fin n, ∀ k : Fin n, Host.sort (⟨2, ![a, n]⟩ : Shape) 1 cmp p (ValueIdx.ix2 w k) = p (ValueIdx.ix2 w (σ k)) := by
  let b : Fin n → Fin n → Bool := fun k k' => cmp (p (ValueIdx.ix2 w k)) (p (ValueIdx.ix2 w k')) == 1#1
  have hb : Function.Bijective (sortedFrom b) := ⟨sortedFrom_injective b, sortedFrom_surjective b⟩
  refine ⟨Equiv.ofBijective (sortedFrom b) hb, fun k => ?_⟩
  rw [Equiv.ofBijective_apply]
  unfold Host.sort
  rw [dif_pos (show 1 < (⟨2, ![a, n]⟩ : Shape).rank from Nat.lt_succ_self 1)]
  exact congrArg p ((along_ix2 w k _).trans (congrArg (ValueIdx.ix2 w) (congrArg (fun g : Fin n → Fin n → Bool => sortedFrom g k)
    (funext fun k₁ => funext fun k₂ => congrArg₂ (fun a c => cmp (p a) (p c) == 1#1) (along_ix2 w k k₁) (along_ix2 w k k₂)))))

theorem rowsOK_of_sorted (cmp : BitVec 32 → BitVec 32 → BitVec 1) (p : S32x8192.Idx → BitVec 32) (h : (⟨1, ![262144]⟩ : Shape).ShapeCasts S32x8192)
    (e : ∀ i : S32x8192.Idx, IntOp.cmpi .eq (Host.sort S32x8192 1 cmp p i) (shapeCast S32x8192 (iotaInDim (⟨1, ![262144]⟩ : Shape) 32 0) h i) = 1#1) :
    RowsOK p := by
  intro w
  obtain ⟨σ, hσ⟩ := sort_row cmp p w
  refine ⟨σ, fun k => ?_⟩
  have e1 := IntOp.cmpi_eq.1 (e (ValueIdx.ix2 w k))
  rw [hσ k] at e1
  have hw : w.val < 32 := w.isLt
  have hk : k.val < 8192 := k.isLt
  rw [e1, shapeCast_apply _ h _ (ValueIdx.ix1 ⟨8192 * w.val + k.val, by omega⟩) (by
    rw [Shape.rowMajor_val_one, Shape.rowMajor_val_two]
    show 8192 * w.val + k.val = w.val * 8192 + k.val
    omega)]
  show (BitVec.ofNat 32 (8192 * w.val + k.val)).toNat = _
  rw [BitVec.toNat_ofNat]
  omega

theorem sampledOK_of_range (s : S2x16x256.Idx → BitVec 32)
    (e : ∀ i, IntOp.andi (IntOp.cmpi .sge (s i) 0#32) (IntOp.cmpi .slt (s i) 8192#32) = 1#1) : SampledOK s := by
  intro x
  obtain ⟨h1, h2⟩ := andi_one.1 (e x)
  have h1 := IntOp.cmpi_sge.1 h1
  have h2 := IntOp.cmpi_slt.1 h2
  have := (s x).isLt
  rw [BitVec.toInt_eq_toNat_cond] at h1 h2
  simp only [BitVec.toInt_eq_toNat_cond, BitVec.toNat_ofNat] at h1 h2
  split at h1 <;> split at h2 <;> simp at h1 h2 <;> omega

theorem sorted_facts (a0 a1 : S32x8192x128.Idx → F .f32) (pq pk : S32x8192.Idx → BitVec 32) (s : S2x16x256.Idx → BitVec 32)
    (e : Cert.Pre_sorted_positions.fn (F := F) a0 a1 pq pk s = fun _ => 1#1) : RowsOK pq ∧ RowsOK pk ∧ SampledOK s := by
  have e := congrFun e (fun i => i.elim0)
  simp only [Cert.Pre_sorted_positions.fn, Cert.Pre_sorted_positions.fn_sort] at e
  obtain ⟨h12, h3⟩ := andi_one.1 e
  obtain ⟨h1, h2⟩ := andi_one.1 h12
  exact ⟨rowsOK_of_sorted _ _ _ fun i => Host.reduce_andi_all _ _ _ _ _ h1 i,
    rowsOK_of_sorted _ _ _ fun i => Host.reduce_andi_all _ _ _ _ _ h2 i,
    sampledOK_of_range _ fun i => Host.reduce_andi_all _ _ _ _ _ h3 i⟩

/-- The first 64 words of every row are real numbers. -/
def RowsFinite (a : S32x8192x128.Idx → Ideal .f32) : Prop :=
  ∀ (w : Fin 32) (n : Fin 8192) (d : Fin 128), d.val < 64 → (a (ValueIdx.ix3 w n d) : EReal) ≠ ⊤ ∧ (a (ValueIdx.ix3 w n d) : EReal) ≠ ⊥

/-! ## The contents the calls find -/

variable (m : (ℓ : Loc nD τ sig) → Buf (Elt F) ℓ) (d : Dev nD)

theorem V1_v2 : pqA (V1 m d) = shapeCast S32x64x128 (m (d, Proc.devRef .tc main_arg2)) shapeCasts_S32x8192_S32x64x128 := by
  unfold pqA V1 opsA
  simp only [StableHlo.after_cons, StableHlo.after_nil]
  rw [StableHlo.reshape_result_ne' (h := by decide), StableHlo.reshape_result', StableHlo.reshape_result_ne' (h := by decide),
    StableHlo.reshape_result_ne' (h := by decide)]
  rfl

theorem posAll_of_rows (p : S32x8192.Idx → BitVec 32) (h : RowsOK p) :
    PosAll (shapeCast S32x64x128 p shapeCasts_S32x8192_S32x64x128) := by
  intro w
  obtain ⟨σ, hσ⟩ := h w
  have hx : ∀ x : S64x128.Idx, posRow (shapeCast S32x64x128 p shapeCasts_S32x8192_S32x64x128) w x
      = p (ValueIdx.ix2 w ⟨128 * (x 0).val + (x 1).val, by have h0 : (x 0).val < 64 := (x 0).isLt; have h1 : (x 1).val < 128 := (x 1).isLt; omega⟩) := by
    intro x
    unfold posRow
    refine shapeCast_apply p _ _ _ ?_
    rw [Shape.rowMajor_val_two, Shape.rowMajor_val_three]
    show w.val * 8192 + (128 * (x 0).val + (x 1).val) = (w.val * 64 + (x 0).val) * 128 + (x 1).val
    omega
  have hp : ∀ j : Fin 8192, (p (ValueIdx.ix2 w j)).toNat = 8192 * w.val + (σ.symm j).val := by
    intro j
    rw [← hσ, Equiv.apply_symm_apply]
  refine ⟨fun x => ?_, fun x => ?_, fun x y e => ?_⟩
  · rw [hx, hp]; omega
  · rw [hx, hp]; have := (σ.symm ⟨128 * (x 0).val + (x 1).val, by have h0 : (x 0).val < 64 := (x 0).isLt; have h1 : (x 1).val < 128 := (x 1).isLt; omega⟩).isLt; omega
  · simp only [hx, hp] at e
    have e1 := congrArg Fin.val (σ.symm.injective (Fin.ext (Nat.add_left_cancel e)))
    simp only at e1
    have h1 : (x 1).val < 128 := (x 1).isLt
    have h2 : (y 1).val < 128 := (y 1).isLt
    funext i
    match i with
    | ⟨0, _⟩ => exact Fin.ext (show (x 0).val = (y 0).val by omega)
    | ⟨1, _⟩ => exact Fin.ext (show (x 1).val = (y 1).val by omega)

/-! ## What each line leaves alone -/

theorem opsA_keep (V : Valuation τ sig (Elt F)) {r : Ref sig .tc} (h : r ∉ [main_v0, main_v1, main_v2, main_v3]) :
    StableHlo.after opsA V (Proc.devRef .tc r) = V (Proc.devRef .tc r) :=
  StableHlo.after_of_writes_sub opsA V (StableHlo.forall_writes_sub_of_map rfl) h
theorem opsB_keep (V : Valuation τ sig (Elt F)) {r : Ref sig .tc} (h : r ∉ [main_v5, main_v6]) :
    StableHlo.after opsB V (Proc.devRef .tc r) = V (Proc.devRef .tc r) :=
  StableHlo.after_of_writes_sub opsB V (StableHlo.forall_writes_sub_of_map rfl) h
theorem opsC_keep (V : Valuation τ sig (Elt F)) {r : Ref sig .tc} (h : r ∉ [main_v8, main_v9, main_v10, main_v11, main_v12, main_v13]) :
    StableHlo.after opsC V (Proc.devRef .tc r) = V (Proc.devRef .tc r) :=
  StableHlo.after_of_writes_sub opsC V (StableHlo.forall_writes_sub_of_map rfl) h
theorem opsD_keep (V : Valuation τ sig (Elt F)) {r : Ref sig .tc} (h : r ∉ [main_v15, main_v16, main_v17]) :
    StableHlo.after opsD V (Proc.devRef .tc r) = V (Proc.devRef .tc r) :=
  StableHlo.after_of_writes_sub opsD V (StableHlo.forall_writes_sub_of_map rfl) h
theorem opsE_keep (V : Valuation τ sig (Elt F)) {r : Ref sig .tc} (h : r ∉ [main_v19]) :
    StableHlo.after opsE V (Proc.devRef .tc r) = V (Proc.devRef .tc r) :=
  StableHlo.after_of_writes_sub opsE V (StableHlo.forall_writes_sub_of_map rfl) h
theorem opsT_keep (V : Valuation τ sig (Elt F)) {r : Ref sig .tc}
    (h : r ∉ [main_call0_c, main_call0_v0, main_call0_v1, main_call0_c_0, main_call0_v2, main_call0_v3, main_call0_v4, main_call0_v5, main_call0_c_1,
      main_call0_c_2, main_call0_v6, main_call0_v7, main_call0_v8, main_call0_v9, main_call0_v10, main_call0_v11, main_call0_c_3, main_call0_v12, main_call0_v13,
      main_call0_v14, main_call0_cst, main_call0_v15, main_v18]) :
    StableHlo.after opsT V (Proc.devRef .tc r) = V (Proc.devRef .tc r) :=
  StableHlo.after_of_writes_sub opsT V (StableHlo.forall_writes_sub_of_map rfl) h

theorem putQ_keep (V : Valuation τ sig (Elt F)) {r : Ref sig .tc} (h : r ∉ [main_v4]) :
    putQ V (Proc.devRef .tc r) = V (Proc.devRef .tc r) :=
  putQ_ne V (StableHlo.devRef_ne_of_ne fun e => h (List.mem_singleton.mpr e))
theorem putK_keep (V : Valuation τ sig (Elt F)) {r : Ref sig .tc} (h : r ∉ [main_v7_0, main_v7_1]) :
    putK V (Proc.devRef .tc r) = V (Proc.devRef .tc r) :=
  putK_ne V (StableHlo.devRef_ne_of_ne fun e => h (by rw [e]; exact List.mem_cons_self))
    (StableHlo.devRef_ne_of_ne fun e => h (by rw [e]; exact List.mem_cons_of_mem _ (List.mem_singleton.mpr rfl)))
theorem Wout_keep (V : Vals F) {r : Ref sig .tc} (h : ∀ w, Pipeline.arrRef spec2 w ≠ r) : Wout V d (Proc.devRef .tc r) = V d (Proc.devRef .tc r) := by
  unfold Wout
  exact Pipeline.withArrays_of_ne spec2 d (V d) _ r h

theorem arr_ne (r : Ref sig .tc) (h : r ∉ [main_v10, main_v11, main_v12, main_v13, main_v14]) : ∀ w, Pipeline.arrRef spec2 w ≠ r := by
  intro w e
  have hw : ∀ w : Fin 5, Pipeline.arrRef spec2 w ∈ [main_v10, main_v11, main_v12, main_v13, main_v14] := by decide
  exact h (e ▸ hw w)

theorem V9_arg {r : Ref sig .tc} (h : r ∈ [main_arg0, main_arg1, main_arg2, main_arg3, main_arg4]) :
    V9 m d (Proc.devRef .tc r) = m (d, Proc.devRef .tc r) := by
  simp only [List.mem_cons, List.not_mem_nil, or_false] at h
  unfold V9 V8 V7 V6
  rcases h with rfl | rfl | rfl | rfl | rfl <;>
  · rw [opsE_keep _ (by decide), opsT_keep _ (by decide), opsD_keep _ (by decide), Wout_keep _ _ (arr_ne _ (by decide))]
    unfold V5 V4 V3 V2 V1 V0
    rw [opsC_keep _ (by decide), putK_keep _ (by decide), opsB_keep _ (by decide), putQ_keep _ (by decide), opsA_keep _ (by decide)]

theorem V3_keep {r : Ref sig .tc} (h : r ∉ [main_v5, main_v6]) (h' : r ∉ [main_v4]) : V3 m d (Proc.devRef .tc r) = V1 m d (Proc.devRef .tc r) := by
  unfold V3 V2
  rw [opsB_keep _ h, putQ_keep _ h']

theorem V3_v5 : pkA (V3 m d) = shapeCast S32x64x128 (m (d, Proc.devRef .tc main_arg3)) shapeCasts_S32x8192_S32x64x128 := by
  unfold pkA V3 opsB
  simp only [StableHlo.after_cons, StableHlo.after_nil]
  rw [StableHlo.reshape_result_ne' (h := by decide), StableHlo.reshape_result']
  unfold V2 V1 V0
  rw [putQ_keep _ (by decide), opsA_keep _ (by decide)]
  rfl

theorem V1_v0 : V1 m d (Proc.devRef .tc main_v0) = shapeCast S32x256 (m (d, Proc.devRef .tc main_arg4)) shapeCasts_S2x16x256_S32x256 := by
  unfold V1 opsA
  simp only [StableHlo.after_cons, StableHlo.after_nil]
  rw [StableHlo.reshape_result_ne' (h := by decide), StableHlo.reshape_result_ne' (h := by decide), StableHlo.reshape_result_ne' (h := by decide),
    StableHlo.reshape_result']
  rfl

theorem V1_v1 : skA (V1 m d) = shapeCast S32x2x128 (shapeCast S32x256 (m (d, Proc.devRef .tc main_arg4)) shapeCasts_S2x16x256_S32x256) shapeCasts_S32x256_S32x2x128 := by
  unfold skA V1 opsA
  simp only [StableHlo.after_cons, StableHlo.after_nil]
  rw [StableHlo.reshape_result_ne' (h := by decide), StableHlo.reshape_result_ne' (h := by decide), StableHlo.reshape_result', StableHlo.reshape_result']
  rfl

theorem preOK_of (hq : ∀ d : Dev nD, RowsOK (m (d, Proc.devRef .tc main_arg2))) (hk : ∀ d : Dev nD, RowsOK (m (d, Proc.devRef .tc main_arg3)))
    (hs : ∀ d : Dev nD, SampledOK (m (d, Proc.devRef .tc main_arg4))) : PreOK m where
  q d := by rw [V1_v2]; exact posAll_of_rows _ (hq d)
  k d := by rw [V3_v5]; exact posAll_of_rows _ (hk d)
  s d := by
    have e : skA (V3 m d) = skA (V1 m d) := V3_keep m d (by decide) (by decide)
    rw [e, V1_v1]
    exact fun x => hs d _

end Cert.Proof.Sort
-- ==== Proof.Same.lean ====
/- The printed kernel and its reading over the extended reals are one text: their body tables and threads are equal. -/
module

public import proofs.«01_k».proof.Proof.Gen.Kernel
public import proofs.«01_k».proof.Proof.Gen.KernelIdeal

@[expose] public section

set_option maxRecDepth 16384
set_option maxHeartbeats 1000000

namespace Cert.Proof.Same

open Idealize.ShloMosaic Idealize.SL.Sem

variable {F : FTy → Type} [FloatOps F]

theorem defs₀_eq : Cert.Kernel.defs₀ (F := F) = Cert.KernelIdeal.defs₀ (F := F) := by
  funext p ℓ a
  match p, ℓ, a with
  | .tc, ⟨0, _⟩, _ => rfl
  | .tc, ⟨1, _⟩, _ => rfl
  | .tc, ⟨2, _⟩, (t, s) => rfl
  | .scScalar _, ⟨0, _⟩, _ => rfl
  | .scScalar _, ⟨1, _⟩, _ => rfl
  | .scScalar _, ⟨2, _⟩, _ => rfl
  | .scVector c s, ⟨0, _⟩, _ => rfl
  | .scVector c s, ⟨1, _⟩, _ => rfl
  | .scVector c s, ⟨2, _⟩, _ => rfl

theorem defs_eq : Cert.Kernel.defs (F := F) = Cert.KernelIdeal.defs (F := F) :=
  congrArg (fun d => Cert.KernelIdeal.sc.defs (Pipeline.defs Cert.KernelIdeal.pcfgs d)) (defs₀_eq (F := F))

theorem main_eq : Cert.Kernel.main (F := F) = Cert.KernelIdeal.main (F := F) := rfl

theorem threads_eq : Cert.Kernel.threads (F := F) = Cert.KernelIdeal.threads (F := F) :=
  congrArg (fun d => Cert.KernelIdeal.sc.threads d) (main_eq (F := F))

end Cert.Proof.Same
-- ==== Proof.Frames.lean ====
/- The programs run, leave their arguments, and end with every semaphore at zero. -/
module

public import proofs.«01_k».proof.Proof.PreFacts
public import proofs.«01_k».proof.Proof.Same
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof.Sort

open Cert.KernelIdeal Cert.KernelIdeal.Gen

open Idealize.ShloMosaic Idealize.ShloMosaic.TcCoe Idealize.SL.Sem

variable {F : FTy → Type} [FloatOps F]

/-- At the end every argument is as it was, and every semaphore is zero. -/
def Kept (m : (ℓ : Loc nD τ sig) → Buf (Elt F) ℓ) (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
  ∧ r.2.sem = fun _ => 0

theorem kept_of (m : (ℓ : Loc nD τ sig) → Buf (Elt F) ℓ) {r} (h : QC m r) : Kept m r :=
  ⟨fun c => ⟨(h.1 c _ (mem_uc main_arg0 (by decide))).trans (V9_arg m c (by decide)),
    (h.1 c _ (mem_uc main_arg1 (by decide))).trans (V9_arg m c (by decide)),
    (h.1 c _ (mem_uc main_arg2 (by decide))).trans (V9_arg m c (by decide)),
    (h.1 c _ (mem_uc main_arg3 (by decide))).trans (V9_arg m c (by decide)),
    (h.1 c _ (mem_uc main_arg4 (by decide))).trans (V9_arg m c (by decide))⟩, h.2⟩

/-- The run, from an initial memory whose positions and sampled positions are as the precondition says. -/
theorem run_kept [∀ e, Nonempty (Elt F e)] (m : (ℓ : Loc nD τ sig) → Buf (Elt F) ℓ) (ρ : Dev nD → PrngReg)
    (h : ∀ c : Dev nD, Cert.Pre_sorted_positions.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    θ_run (Cert.KernelIdeal.defs (F := F)) (Cert.KernelIdeal.threads (F := F)) ⟨m, fun _ => 0, ρ⟩ (Kept m) :=
  (θ_run _ _ _).mono (fun _ => kept_of m)
    (run_main m ρ (preOK_of m (fun d => (sorted_facts _ _ _ _ _ (h d)).1) (fun d => (sorted_facts _ _ _ _ _ (h d)).2.1)
      (fun d => (sorted_facts _ _ _ _ _ (h d)).2.2)))

theorem frame_kernel : Cert.quiescent_Kernel := fun m ρ h =>
  Eq.mpr (congrArg₂ (fun d t => θ_run d t ⟨m, fun _ => 0, ρ⟩ (Kept m)) (Same.defs_eq (F := Bits)) (Same.threads_eq (F := Bits)))
    (run_kept (F := Bits) m ρ h)

theorem frame_ideal : Cert.quiescent_KernelIdeal := fun m ρ h =>
  (θ_run Cert.KernelIdeal.defs _ _).mono (fun _ h => h) (run_kept (F := Ideal) m ρ h)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Sort
-- ==== Proof.Finite.lean ====
/- The frames under the precondition that the rows of the query and the key are real numbers. -/
module

public import proofs.«01_k».proof.Proof.Frames
public import proofs.«01_k».proof.Proof.Gen.Pre_sorted_positions_of_finite_rows

@[expose] public section

noncomputable section

namespace Cert.Proof.Sort

open Cert.KernelIdeal Cert.KernelIdeal.Gen

open Idealize.ShloMosaic Idealize.ShloMosaic.TcCoe Idealize.SL.Sem

instance : Subsingleton Cert.Pre_sorted_positions_of_finite_rows.S_.Idx := ⟨fun a b => funext fun i => i.elim0⟩

theorem finite_of_olt (x : Ideal .f32) (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  have h : Ideal.cmp .olt (max (x : EReal) (-(x : EReal))) (Ideal.ofBits .f32 0x7F800000#32) = 1#1 := h
  rw [htop] at h
  constructor <;> rintro rfl <;> simp [Ideal.cmp] at h

theorem rowsFinite_of (a : S32x8192x128.Idx → Ideal .f32) (hs : S32x8192x128.Slices ![0, 0, 0] Cert.Pre_sorted_positions_of_finite_rows.S32x8192x64)
    (e : ∀ i, FloatOps.cmpf .olt (FloatOps.hostAbsf (extractStridedSlice Cert.Pre_sorted_positions_of_finite_rows.S32x8192x64 ![0, 0, 0] a hs i))
      (FloatOps.ofBits (F := Ideal) .f32 0x7F800000#32) = 1#1) : RowsFinite a := by
  intro w n d hd
  have h := finite_of_olt _ (e (ValueIdx.ix3 w n ⟨d.val, hd⟩))
  rw [extractStridedSlice_apply _ a hs _ (ValueIdx.ix3 w n d) (by
    intro i
    match i with
    | ⟨0, _⟩ => exact (Nat.zero_add _).symm
    | ⟨1, _⟩ => exact (Nat.zero_add _).symm
    | ⟨2, _⟩ => exact (Nat.zero_add _).symm)] at h
  exact h

theorem finite_facts (a0 a1 : S32x8192x128.Idx → Ideal .f32) (pq pk : S32x8192.Idx → BitVec 32) (s : S2x16x256.Idx → BitVec 32)
    (e : Cert.Pre_sorted_positions_of_finite_rows.fn (F := Ideal) a0 a1 pq pk s = fun _ => 1#1) :
    RowsOK pq ∧ RowsOK pk ∧ SampledOK s ∧ RowsFinite a0 ∧ RowsFinite a1 := by
  have e := congrFun e (fun i => i.elim0)
  simp only [Cert.Pre_sorted_positions_of_finite_rows.fn, Cert.Pre_sorted_positions_of_finite_rows.fn_part1, Cert.Pre_sorted_positions_of_finite_rows.fn_sort] at e
  obtain ⟨h123, h45⟩ := andi_one.1 e
  obtain ⟨h12, h3⟩ := andi_one.1 h123
  obtain ⟨h1, h2⟩ := andi_one.1 h12
  obtain ⟨h4, h5⟩ := andi_one.1 h45
  exact ⟨rowsOK_of_sorted _ _ _ fun i => Host.reduce_andi_all _ _ _ _ _ h1 i,
    rowsOK_of_sorted _ _ _ fun i => Host.reduce_andi_all _ _ _ _ _ h2 i,
    sampledOK_of_range _ fun i => Host.reduce_andi_all _ _ _ _ _ h3 i,
    rowsFinite_of _ _ fun i => Host.reduce_andi_all _ _ _ _ _ h4 i,
    rowsFinite_of _ _ fun i => Host.reduce_andi_all _ _ _ _ _ h5 i⟩

theorem preOK_finite (m : (ℓ : Loc nD τ sig) → Buf (Elt Ideal) ℓ) (h : Cert.Pre_KernelIdeal_sorted_positions_of_finite_rows m) : PreOK m :=
  preOK_of m (fun d => (finite_facts _ _ _ _ _ (h d)).1) (fun d => (finite_facts _ _ _ _ _ (h d)).2.1)
    (fun d => (finite_facts _ _ _ _ _ (h d)).2.2.1)

theorem frame_ideal_finite : Cert.quiescent_KernelIdeal_pre_sorted_positions_of_finite_rows := fun m ρ h =>
  (θ_run Cert.KernelIdeal.defs _ _).mono (fun _ h => kept_of m h) (run_main (F := Ideal) m ρ (preOK_finite m h))

theorem frame_reference_finite : Cert.quiescent_ReferenceIdeal_pre_sorted_positions_of_finite_rows := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Sort
-- ==== Proof.Take.lean ====
/- An argsort of a row that holds a permutation, and a gather along the third axis, read at an index. -/
module

public import Idealize.ShloMosaic.Lib.SortFacts
public import Idealize.ShloMosaic.Lib.ValueIdx
public import Idealize.ShloMosaic.Lib.ReduceAll
public import Idealize.ShloMosaic.Lib.Pipeline.Value

@[expose] public section

noncomputable section

namespace Cert.Proof.Take

open Idealize.ShloMosaic

/-! ## The argsort of a row that holds a permutation -/

/-- A bijection of `Fin n` that keeps the order is the identity. -/
theorem mono_id {n : ℕ} (g : Fin n → Fin n) (hg : Function.Bijective g) (h : ∀ i j, i < j → ¬ g j < g i) (k : Fin n) : g k = k := by
  have hm : StrictMono g := fun i j hij => lt_of_le_of_ne (not_lt.1 (h i j hij)) fun e => (ne_of_lt hij) (hg.1 e)
  have hle : ∀ k, k ≤ g k := fun k => hm.le_apply
  let e := Equiv.ofBijective g hg
  have he : StrictMono e.symm := fun i j hij => by
    have h1 : g (e.symm i) = i := e.apply_symm_apply i
    have h2 : g (e.symm j) = j := e.apply_symm_apply j
    exact hm.lt_iff_lt.1 (by rw [h1, h2]; exact hij)
  have h3 : g k ≤ e.symm (g k) := he.le_apply
  have h4 : e.symm (g k) = k := e.symm_apply_apply k
  rw [h4] at h3
  exact le_antisymm h3 (hle k)

/-- Where the words are a permutation's inverse, the sorting permutation is the permutation. -/
theorem sortedFrom_perm {n : ℕ} (σ : Fin n ≃ Fin n) (R : Fin n → Fin n → Bool) (hR : ∀ k k', R k k' = decide (σ.symm k < σ.symm k')) (k : Fin n) :
    sortedFrom R k = σ k := by
  have hb : Function.Bijective (fun k => σ.symm (sortedFrom R k)) :=
    σ.symm.bijective.comp ⟨sortedFrom_injective R, sortedFrom_surjective R⟩
  have := mono_id (fun k => σ.symm (sortedFrom R k)) hb (fun i j hij hlt => by
    have hn := sortedFrom_noInversion R R (fun a b h => by
        rw [hR] at h ⊢
        exact decide_eq_false (not_lt.2 (le_of_lt (of_decide_eq_true h)))) (fun a b h => h)
      (fun a b c h1 h2 => by
        rw [hR] at h1 h2 ⊢
        exact decide_eq_false (not_lt.2 (le_trans (not_lt.1 (of_decide_eq_false h2)) (not_lt.1 (of_decide_eq_false h1))))) i j hij
    rw [hR] at hn
    exact (of_decide_eq_false hn) hlt) k
  have this : σ.symm (sortedFrom R k) = k := this
  exact (Equiv.symm_apply_eq σ).1 this

theorem slt_small {m m' : ℕ} (h : m < 2 ^ 31) (h' : m' < 2 ^ 31) :
    (IntOp.cmpi .slt (BitVec.ofNat 32 m) (BitVec.ofNat 32 m') == 1#1) = decide (m < m') := by
  rw [Bool.eq_iff_iff, beq_iff_eq, decide_eq_true_iff, IntOp.cmpi_slt]
  simp only [BitVec.toInt_eq_toNat_cond, BitVec.toNat_ofNat]
  omega

theorem along_ix3 {a b n : ℕ} (i : Fin a) (j : Fin b) (k k' : Fin n) :
    (ValueIdx.ix3 i j k : (⟨3, ![a, b, n]⟩ : Shape).Idx).along (2 : Fin 3) k' = ValueIdx.ix3 i j k' := by
  funext c
  match c with
  | ⟨0, _⟩ => rfl
  | ⟨1, _⟩ => rfl
  | ⟨2, _⟩ => rfl

theorem argsort_at {a b n : ℕ} (hn : n ≤ 2 ^ 31) (cmp : BitVec 32 × BitVec 32 → BitVec 32 × BitVec 32 → BitVec 1)
    (hc : ∀ l r, cmp l r = IntOp.cmpi .slt l.1 r.1) (p y : (⟨3, ![a, b, n]⟩ : Shape).Idx → BitVec 32) (i : Fin a) (j : Fin b)
    (σ : Fin n ≃ Fin n) (hp : ∀ k, p (ValueIdx.ix3 i j k) = BitVec.ofNat 32 (σ.symm k).val) (k : Fin n) :
    (Host.sort2 (⟨3, ![a, b, n]⟩ : Shape) 2 cmp p y).2 (ValueIdx.ix3 i j k) = y (ValueIdx.ix3 i j (σ k)) := by
  unfold Host.sort2
  rw [dif_pos (show 2 < (⟨3, ![a, b, n]⟩ : Shape).rank from Nat.lt_succ_self 2)]
  refine congrArg y ((along_ix3 i j k _).trans (congrArg (ValueIdx.ix3 i j) ?_))
  refine sortedFrom_perm σ _ (fun k₁ k₂ => ?_) k
  have e1 := along_ix3 i j k k₁
  have e2 := along_ix3 i j k k₂
  have h1 : p ((ValueIdx.ix3 i j k : (⟨3, ![a, b, n]⟩ : Shape).Idx).along (2 : Fin 3) k₁) = _ := (congrArg p e1).trans (hp k₁)
  have h2 : p ((ValueIdx.ix3 i j k : (⟨3, ![a, b, n]⟩ : Shape).Idx).along (2 : Fin 3) k₂) = _ := (congrArg p e2).trans (hp k₂)
  refine (congrArg (· == 1#1) ((hc _ _).trans (congrArg₂ (IntOp.cmpi .slt) h1 h2))).trans ?_
  rw [slt_small (lt_of_lt_of_le (σ.symm k₁).isLt hn) (lt_of_lt_of_le (σ.symm k₂).isLt hn)]
  rfl

/-! ## A gather along the third of four axes -/

/-- The dimension numbers of a take along the third axis of `[A, B, N, C]` at indices `[A, B, M, 1]`. -/
abbrev alongDims (A B N C M : Nat)
    (wf : GatherDims.WF ⟨4, ![A, B, N, C]⟩ ⟨4, ![A, B, M, 1]⟩ ⟨4, ![A, B, M, C]⟩ [3] [2] [0, 1] [2] [0, 1] 3 ![1, 1, 1, C]) :
    GatherDims ⟨4, ![A, B, N, C]⟩ ⟨4, ![A, B, M, 1]⟩ ⟨4, ![A, B, M, C]⟩ where
  offsetDims := [3]
  collapsedSliceDims := [2]
  operandBatchingDims := [0, 1]
  startIndicesBatchingDims := [0, 1]
  startIndexMap := [2]
  indexVectorDim := 3
  sliceSizes := ![1, 1, 1, C]
  wf := wf

theorem two_not : (2 : Fin 4) ∉ [0, 1] := by decide
theorem three_not : (3 : Fin 4) ∉ [0, 1] := by decide
theorem three_not' : (3 : Fin 4) ∉ [2] := by decide
theorem andi_bits : ∀ a b : BitVec 1, IntOp.andi a b = 1#1 → a = 1#1 ∧ b = 1#1 := by decide

theorem toInt_small {m : ℕ} (h : m < 2 ^ 31) : (BitVec.ofNat 32 m).toInt = m := by
  rw [BitVec.toInt_eq_toNat_cond, BitVec.toNat_ofNat]
  omega

theorem gather_along {α : Type} {A B N C M : Nat} (hN : N ≤ 2 ^ 31)
    (wf : GatherDims.WF ⟨4, ![A, B, N, C]⟩ ⟨4, ![A, B, M, 1]⟩ ⟨4, ![A, B, M, C]⟩ [3] [2] [0, 1] [2] [0, 1] 3 ![1, 1, 1, C])
    (x : (⟨4, ![A, B, N, C]⟩ : Shape).Idx → α) (idx : IVec ⟨4, ![A, B, M, 1]⟩ 32) (a : Fin A) (b : Fin B) (m : Fin M) (c : Fin C) (n : Fin N)
    (hi : idx (ValueIdx.ix4 a b m 0) = BitVec.ofNat 32 n.val) :
    Host.gather (alongDims A B N C M wf) x idx (ValueIdx.ix4 a b m c) = x (ValueIdx.ix4 a b n c) := by
  unfold Host.gather
  refine congrArg x (funext fun ax => Fin.ext ?_)
  match ax with
  | ⟨0, _⟩ =>
    show (alongDims A B N C M wf).start (ValueIdx.ix4 a b m c) idx 0 + (alongDims A B N C M wf).batchCoord (ValueIdx.ix4 a b m c) 0
      + (alongDims A B N C M wf).offCoord (ValueIdx.ix4 a b m c) 0 = a.val
    have h0 : (0 : Fin 4) ∈ (alongDims A B N C M wf).operandBatchingDims := List.mem_cons_self
    rw [GatherDims.start_batching _ _ _ _ h0, GatherDims.offCoord_eq_zero _ _ _ (fun h => ((GatherDims.mem_sKept _ _).mp h).2 h0)]
    simp only [Nat.zero_add, Nat.add_zero]
    unfold GatherDims.batchCoord
    rw [dif_pos h0]
    rfl
  | ⟨1, _⟩ =>
    show (alongDims A B N C M wf).start (ValueIdx.ix4 a b m c) idx 1 + (alongDims A B N C M wf).batchCoord (ValueIdx.ix4 a b m c) 1
      + (alongDims A B N C M wf).offCoord (ValueIdx.ix4 a b m c) 1 = b.val
    have h0 : (1 : Fin 4) ∈ (alongDims A B N C M wf).operandBatchingDims := List.mem_cons_of_mem _ List.mem_cons_self
    rw [GatherDims.start_batching _ _ _ _ h0, GatherDims.offCoord_eq_zero _ _ _ (fun h => ((GatherDims.mem_sKept _ _).mp h).2 h0)]
    simp only [Nat.zero_add, Nat.add_zero]
    unfold GatherDims.batchCoord
    rw [dif_pos h0]
    rfl
  | ⟨2, _⟩ =>
    show (alongDims A B N C M wf).start (ValueIdx.ix4 a b m c) idx 2 + (alongDims A B N C M wf).batchCoord (ValueIdx.ix4 a b m c) 2
      + (alongDims A B N C M wf).offCoord (ValueIdx.ix4 a b m c) 2 = n.val
    have hm : (2 : Fin 4) ∈ (alongDims A B N C M wf).startIndexMap := List.mem_cons_self
    have hc : (2 : Fin 4) ∈ (alongDims A B N C M wf).collapsedSliceDims := List.mem_cons_self
    have hb : (2 : Fin 4) ∉ (alongDims A B N C M wf).operandBatchingDims := two_not
    rw [GatherDims.batchCoord_eq_zero _ _ _ hb, GatherDims.offCoord_eq_zero _ _ _ (fun h => ((GatherDims.mem_sKept _ _).mp h).1 hc)]
    simp only [Nat.add_zero]
    unfold GatherDims.start
    rw [dif_pos hm]
    have hsi : (alongDims A B N C M wf).siIdx (ValueIdx.ix4 a b m c) ⟨List.idxOf (2 : Fin 4) (alongDims A B N C M wf).startIndexMap,
        List.idxOf_lt_length_iff.2 hm⟩ = ValueIdx.ix4 a b m 0 := by
      funext d; refine Fin.ext ?_
      match d with
      | ⟨0, _⟩ => rfl
      | ⟨1, _⟩ => rfl
      | ⟨2, _⟩ => rfl
      | ⟨3, _⟩ => rfl
    have hn := n.isLt
    rw [hsi, hi, toInt_small (by omega)]
    show min ((n.val : ℤ)).toNat (N - 1) = n.val
    omega
  | ⟨3, _⟩ =>
    show (alongDims A B N C M wf).start (ValueIdx.ix4 a b m c) idx 3 + (alongDims A B N C M wf).batchCoord (ValueIdx.ix4 a b m c) 3
      + (alongDims A B N C M wf).offCoord (ValueIdx.ix4 a b m c) 3 = c.val
    have hb : (3 : Fin 4) ∉ (alongDims A B N C M wf).operandBatchingDims := three_not
    have hm : (3 : Fin 4) ∉ (alongDims A B N C M wf).startIndexMap := three_not'
    have hc : (3 : Fin 4) ∉ (alongDims A B N C M wf).collapsedSliceDims := three_not'
    rw [GatherDims.batchCoord_eq_zero _ _ _ hb, Nat.add_zero]
    unfold GatherDims.start GatherDims.offCoord
    rw [dif_neg hm, dif_pos ((GatherDims.mem_sKept _ _).mpr ⟨hc, hb⟩), Nat.zero_add]
    rfl

/-! ## The words around a take -/

/-- A word below the length of an axis passes the wrap of negative words and the range test. -/
theorem wrap_small {m : ℕ} (h : m < 2 ^ 31) (y : BitVec 32) :
    Scalar.select (IntOp.cmpi .slt (BitVec.ofNat 32 m) 0#32) y (BitVec.ofNat 32 m) = BitVec.ofNat 32 m := by
  have : IntOp.cmpi .slt (BitVec.ofNat 32 m) 0#32 = 0#1 := ValueIdx.eq_zero_of_ne_one fun e => by
    have := IntOp.cmpi_slt.1 e
    rw [toInt_small h] at this
    simp at this
    omega
  rw [this]
  rfl

theorem inside_small {m : ℕ} (h : m < 8192) :
    IntOp.andi (IntOp.cmpi .sge (BitVec.ofNat 32 m) 0#32) (IntOp.cmpi .sle (BitVec.ofNat 32 m) 8191#32) = 1#1 := by
  have h1 : IntOp.cmpi .sge (BitVec.ofNat 32 m) 0#32 = 1#1 := IntOp.cmpi_sge.2 (by
    rw [toInt_small (m := m) (by omega)]; exact Int.natCast_nonneg m)
  have h2 : IntOp.cmpi .sle (BitVec.ofNat 32 m) 8191#32 = 1#1 := IntOp.cmpi_sle.2 (by
    rw [toInt_small (by omega), show (8191#32 : BitVec 32).toInt = 8191 from rfl]; omega)
  rw [h1, h2]
  rfl

/-- The floor division by 256 that truncates and corrects, at a word that is not negative. -/
theorem floor256 {m : ℕ} (h : m < 8192) (q r one : BitVec 32) (ne1 : BitVec 1)
    (hq : q = BitVec.ofNat 32 (m / 256)) (hne : ne1 = 1#1 → m = 0) (hr : m = 0 → r = 0#32) :
    Scalar.select (IntOp.andi ne1 (IntOp.cmpi .ne r 0#32)) (IntOp.subi q one) q = BitVec.ofNat 32 (m / 256) := by
  have : IntOp.andi ne1 (IntOp.cmpi .ne r 0#32) = 0#1 := ValueIdx.eq_zero_of_ne_one fun e => by
    have h12 := andi_bits _ _ e
    exact IntOp.cmpi_ne.1 h12.2 (hr (hne h12.1))
  rw [this]
  exact hq

end Cert.Proof.Take
-- ==== Proof.RefRead.lean ====
/- What the reference computes, read at an index: the sort positions, the orders they
   give, and the rows taken along them. -/
module

public import proofs.«01_k».proof.Proof.Gen.ReferenceIdeal.Read
public import proofs.«01_k».proof.Proof.Take

@[expose] public section

noncomputable section

namespace Cert.Proof.Ref

open Cert.ReferenceIdeal Cert.ReferenceIdeal.Gen Cert.ReferenceIdeal.Read Cert.Proof.Take

open Idealize.ShloMosaic Idealize.ShloMosaic.ValueIdx

variable {F : FTy → Type} [FloatOps F]

/-- The row of the packed arrays that batch `b` and head `h` own. -/
abbrev wOf (b : Fin 2) (h : Fin 16) : Fin 32 := ⟨b.val * 16 + h.val, by omega⟩

/-- Row `w` of the positions lists, shifted by the row's own offset, where each element stands in sorted order. -/
def Ranks (p : S32x8192.Idx → BitVec 32) (σ : Fin 32 → Fin 8192 ≃ Fin 8192) : Prop :=
  ∀ w k, (p (ix2 w (σ w k))).toNat = 8192 * w.val + k.val

/-- A packed row's position of a sampled key. -/
def Samples (s : S2x16x256.Idx → BitVec 32) (z : Fin 2 → Fin 16 → Fin 256 → Fin 8192) : Prop :=
  ∀ b h c, s (ix3 b h c) = BitVec.ofNat 32 (z b h c).val

theorem sub_base {x : BitVec 32} {w k : ℕ} (hw : w < 32) (hk : k < 8192) (hx : x.toNat = 8192 * w + k) :
    IntOp.subi x (IntOp.muli (BitVec.ofNat 32 w) 8192#32) = BitVec.ofNat 32 k := by
  apply BitVec.eq_of_toNat_eq
  unfold IntOp.subi IntOp.muli
  simp only [BitVec.toNat_sub, BitVec.toNat_mul, BitVec.toNat_ofNat, hx]
  omega

theorem ix4_last {a b m : ℕ} (i : (⟨4, ![a, b, m, 1]⟩ : Shape).Idx) : i = ix4 (i 0) (i 1) (i 2) 0 := by
  have h : i 3 = (0 : Fin 1) := Subsingleton.elim (α := Fin 1) (i 3) 0
  exact (eq_ix4 i).trans (congrArg (fun t => ix4 (i 0) (i 1) (i 2) t) h)

theorem ext3 {a b c : ℕ} {i j : (⟨3, ![a, b, c]⟩ : Shape).Idx} (h0 : (i 0).val = (j 0).val) (h1 : (i 1).val = (j 1).val)
    (h2 : (i 2).val = (j 2).val) : i = j := by
  funext d; match d with
  | ⟨0, _⟩ => exact Fin.ext h0
  | ⟨1, _⟩ => exact Fin.ext h1
  | ⟨2, _⟩ => exact Fin.ext h2

theorem ext4 {a b c e : ℕ} {i j : (⟨4, ![a, b, c, e]⟩ : Shape).Idx} (h0 : (i 0).val = (j 0).val) (h1 : (i 1).val = (j 1).val)
    (h2 : (i 2).val = (j 2).val) (h3 : (i 3).val = (j 3).val) : i = j := by
  funext d; match d with
  | ⟨0, _⟩ => exact Fin.ext h0
  | ⟨1, _⟩ => exact Fin.ext h1
  | ⟨2, _⟩ => exact Fin.ext h2
  | ⟨3, _⟩ => exact Fin.ext h3

theorem ext2 {a b : ℕ} {i j : (⟨2, ![a, b]⟩ : Shape).Idx} (h0 : (i 0).val = (j 0).val) (h1 : (i 1).val = (j 1).val) : i = j := by
  funext d; match d with
  | ⟨0, _⟩ => exact Fin.ext h0
  | ⟨1, _⟩ => exact Fin.ext h1

theorem ext1 {a : ℕ} {i j : (⟨1, ![a]⟩ : Shape).Idx} (h0 : (i 0).val = (j 0).val) : i = j := by
  funext d; match d with
  | ⟨0, _⟩ => exact Fin.ext h0

theorem ext5 {a b c e f : ℕ} {i j : (⟨5, ![a, b, c, e, f]⟩ : Shape).Idx} (h0 : (i 0).val = (j 0).val) (h1 : (i 1).val = (j 1).val)
    (h2 : (i 2).val = (j 2).val) (h3 : (i 3).val = (j 3).val) (h4 : (i 4).val = (j 4).val) : i = j := by
  funext d; match d with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

variable (x0 x1 : (⟨S32x8192x128, .f32⟩ : BufTy).Contents (Elt F)) (x2 x3 : (⟨S32x8192, .i32⟩ : BufTy).Contents (Elt F))
  (x4 : (⟨S2x16x256, .i32⟩ : BufTy).Contents (Elt F))

/-- Position `n` of a row, less the row's offset, is where that element stands in sorted order. -/
theorem v12_at {σ : Fin 32 → Fin 8192 ≃ Fin 8192} (h2 : Ranks x2 σ) (b : Fin 2) (h : Fin 16) (n : Fin 8192) :
    val_main_v12 (F := F) x2 (ix3 b h n) = BitVec.ofNat 32 ((σ (wOf b h)).symm n).val := by
  have e1 : idx_main_v6 (ix3 b h n) = ix2 (wOf b h) n := ext2
    (by show ((b.val * 16 + h.val) * 8192 + n.val) / 8192 = b.val * 16 + h.val; omega)
    (by show ((b.val * 16 + h.val) * 8192 + n.val) % 8192 = n.val; omega)
  have e2 : idx_main_v10 (idx_main_v11 (ix3 b h n)) = ix1 (wOf b h) := by
    apply ext1; show _ = b.val * 16 + h.val
    show ((b.val * 16 + h.val) * 1 + 0) = b.val * 16 + h.val; omega
  rw [val_main_v12_apply, val_main_v6_apply, val_main_v11_apply, val_main_v10_apply, e1, e2, val_main_v9_apply,
    val_main_v7_apply, val_main_v8_apply, val_main_c_apply]
  refine sub_base (w := (wOf b h).val) (by omega) (by omega) ?_
  have := h2 (wOf b h) ((σ (wOf b h)).symm n)
  rwa [Equiv.apply_symm_apply] at this

/-- Position `n` of a row, less the row's offset, is where that element stands in sorted order. -/
theorem v20_at {σ : Fin 32 → Fin 8192 ≃ Fin 8192} (h3 : Ranks x3 σ) (b : Fin 2) (h : Fin 16) (n : Fin 8192) :
    val_main_v20 (F := F) x3 (ix3 b h n) = BitVec.ofNat 32 ((σ (wOf b h)).symm n).val := by
  have e1 : idx_main_v14 (ix3 b h n) = ix2 (wOf b h) n := ext2
    (by show ((b.val * 16 + h.val) * 8192 + n.val) / 8192 = b.val * 16 + h.val; omega)
    (by show ((b.val * 16 + h.val) * 8192 + n.val) % 8192 = n.val; omega)
  have e2 : idx_main_v18 (idx_main_v19 (ix3 b h n)) = ix1 (wOf b h) := by
    apply ext1; show _ = b.val * 16 + h.val
    show ((b.val * 16 + h.val) * 1 + 0) = b.val * 16 + h.val; omega
  rw [val_main_v20_apply, val_main_v14_apply, val_main_v19_apply, val_main_v18_apply, e1, e2, val_main_v17_apply,
    val_main_v15_apply, val_main_v16_apply, val_main_c_0_apply]
  refine sub_base (w := (wOf b h).val) (by omega) (by omega) ?_
  have := h3 (wOf b h) ((σ (wOf b h)).symm n)
  rwa [Equiv.apply_symm_apply] at this

/-- The sort's second result lists the elements in sorted order. -/
theorem v13_at {σ : Fin 32 → Fin 8192 ≃ Fin 8192} (h2 : Ranks x2 σ) (b : Fin 2) (h : Fin 16) (k : Fin 8192) :
    val_main_v13 (F := F) x2 (ix3 b h k) = BitVec.ofNat 32 (σ (wOf b h) k).val :=
  (argsort_at (by omega) comparator_i32_i32_d2 (fun _ _ => rfl) _ _ b h (σ (wOf b h)) (v12_at x2 h2 b h) k).trans rfl

/-- The sort's second result lists the elements in sorted order. -/
theorem v21_at {σ : Fin 32 → Fin 8192 ≃ Fin 8192} (h3 : Ranks x3 σ) (b : Fin 2) (h : Fin 16) (k : Fin 8192) :
    val_main_v21 (F := F) x3 (ix3 b h k) = BitVec.ofNat 32 (σ (wOf b h) k).val :=
  (argsort_at (by omega) comparator_i32_i32_d2 (fun _ _ => rfl) _ _ b h (σ (wOf b h)) (v20_at x3 h3 b h) k).trans rfl

theorem call2_v4_at (b : Fin 2) (h : Fin 16) (m : Fin 8192) (n : Fin 8192)
    (hi : val_main_v13 (F := F) x2 (ix3 b h m) = BitVec.ofNat 32 n.val) :
    val_main_call2_v4 (F := F) x2 (ix4 b h m 0) = BitVec.ofNat 32 n.val := by
  have e : idx_main_v22 (ix4 b h m 0) = ix3 b h m := ext3 rfl rfl rfl
  rw [val_main_call2_v4_apply, val_main_call2_v1_apply, val_main_v22_apply, e, hi, val_main_call2_v0_apply, val_main_call2_c_apply]
  exact wrap_small (by omega) _

theorem call2_v10_at (b : Fin 2) (h : Fin 16) (m : Fin 8192) (n : Fin 8192)
    (hi : val_main_v13 (F := F) x2 (ix3 b h m) = BitVec.ofNat 32 n.val) :
    val_main_call2_v10 (F := F) x2 (ix4 b h m 0) = 1#1 := by
  rw [val_main_call2_v10_apply, val_main_call2_v6_apply, val_main_call2_v9_apply, call2_v4_at x2 b h m n hi,
    val_main_call2_v5_apply, val_main_call2_c_2_apply, val_main_call2_v8_apply, val_main_call2_v7_apply, val_main_call2_c_1_apply]
  exact inside_small (by omega)

theorem call2_v13_at (hi : ∀ b h m, ∃ n : Fin 8192, val_main_v13 (F := F) x2 (ix3 b h m) = BitVec.ofNat 32 n.val)
    (i : S2x16x8192x64.Idx) : val_main_call2_v13 (F := F) x2 i = 1#1 := by
  rw [val_main_call2_v13_apply]
  refine Host.reduce_andi_one _ _ _ _ _ rfl (fun j => ?_)
  obtain ⟨n, hn⟩ := hi (j 0) (j 1) (j 2)
  exact (congrArg (val_main_call2_v10 (F := F) x2) (ix4_last j)).trans (call2_v10_at x2 (j 0) (j 1) (j 2) n hn)

/-- A query row, taken in sorted order. -/
theorem v23_take (hi : ∀ b h m, ∃ n : Fin 8192, val_main_v13 (F := F) x2 (ix3 b h m) = BitVec.ofNat 32 n.val)
    (b : Fin 2) (h : Fin 16) (m : Fin 8192) (d : Fin 64) (n : Fin 8192)
    (hn : val_main_v13 (F := F) x2 (ix3 b h m) = BitVec.ofNat 32 n.val) :
    val_main_v23 (F := F) x0 x2 (ix4 b h m d) = val_main_v1 (F := F) x0 (ix4 b h n d) := by
  rw [val_main_v23_apply, call2_v13_at x2 hi]
  refine (ValueIdx.select_one _ _).trans ?_
  unfold val_main_call2_v12
  generalize val_main_v1 (F := F) x0 = y
  have h4 := call2_v4_at x2 b h m n hn
  generalize val_main_call2_v4 (F := F) x2 = z at h4 ⊢
  exact gather_along (by omega) _ y z b h m d n h4

theorem call3_v4_at (b : Fin 2) (h : Fin 16) (m : Fin 8192) (n : Fin 8192)
    (hi : val_main_v21 (F := F) x3 (ix3 b h m) = BitVec.ofNat 32 n.val) :
    val_main_call3_v4 (F := F) x3 (ix4 b h m 0) = BitVec.ofNat 32 n.val := by
  have e : idx_main_v24 (ix4 b h m 0) = ix3 b h m := ext3 rfl rfl rfl
  rw [val_main_call3_v4_apply, val_main_call3_v1_apply, val_main_v24_apply, e, hi, val_main_call3_v0_apply, val_main_call3_c_apply]
  exact wrap_small (by omega) _

theorem call3_v10_at (b : Fin 2) (h : Fin 16) (m : Fin 8192) (n : Fin 8192)
    (hi : val_main_v21 (F := F) x3 (ix3 b h m) = BitVec.ofNat 32 n.val) :
    val_main_call3_v10 (F := F) x3 (ix4 b h m 0) = 1#1 := by
  rw [val_main_call3_v10_apply, val_main_call3_v6_apply, val_main_call3_v9_apply, call3_v4_at x3 b h m n hi,
    val_main_call3_v5_apply, val_main_call3_c_2_apply, val_main_call3_v8_apply, val_main_call3_v7_apply, val_main_call3_c_1_apply]
  exact inside_small (by omega)

theorem call3_v13_at (hi : ∀ b h m, ∃ n : Fin 8192, val_main_v21 (F := F) x3 (ix3 b h m) = BitVec.ofNat 32 n.val)
    (i : S2x16x8192x64.Idx) : val_main_call3_v13 (F := F) x3 i = 1#1 := by
  rw [val_main_call3_v13_apply]
  refine Host.reduce_andi_one _ _ _ _ _ rfl (fun j => ?_)
  obtain ⟨n, hn⟩ := hi (j 0) (j 1) (j 2)
  exact (congrArg (val_main_call3_v10 (F := F) x3) (ix4_last j)).trans (call3_v10_at x3 (j 0) (j 1) (j 2) n hn)

/-- A key row, taken in sorted order. -/
theorem v25_take (hi : ∀ b h m, ∃ n : Fin 8192, val_main_v21 (F := F) x3 (ix3 b h m) = BitVec.ofNat 32 n.val)
    (b : Fin 2) (h : Fin 16) (m : Fin 8192) (d : Fin 64) (n : Fin 8192)
    (hn : val_main_v21 (F := F) x3 (ix3 b h m) = BitVec.ofNat 32 n.val) :
    val_main_v25 (F := F) x1 x3 (ix4 b h m d) = val_main_v3 (F := F) x1 (ix4 b h n d) := by
  rw [val_main_v25_apply, call3_v13_at x3 hi]
  refine (ValueIdx.select_one _ _).trans ?_
  unfold val_main_call3_v12
  generalize val_main_v3 (F := F) x1 = y
  have h4 := call3_v4_at x3 b h m n hn
  generalize val_main_call3_v4 (F := F) x3 = z at h4 ⊢
  exact gather_along (by omega) _ y z b h m d n h4

theorem call4_v4_at (b : Fin 2) (h : Fin 16) (m : Fin 8192) (n : Fin 8192)
    (hi : val_main_v21 (F := F) x3 (ix3 b h m) = BitVec.ofNat 32 n.val) :
    val_main_call4_v4 (F := F) x3 (ix4 b h m 0) = BitVec.ofNat 32 n.val := by
  have e : idx_main_v26 (ix4 b h m 0) = ix3 b h m := ext3 rfl rfl rfl
  rw [val_main_call4_v4_apply, val_main_call4_v1_apply, val_main_v26_apply, e, hi, val_main_call4_v0_apply, val_main_call4_c_apply]
  exact wrap_small (by omega) _

theorem call4_v10_at (b : Fin 2) (h : Fin 16) (m : Fin 8192) (n : Fin 8192)
    (hi : val_main_v21 (F := F) x3 (ix3 b h m) = BitVec.ofNat 32 n.val) :
    val_main_call4_v10 (F := F) x3 (ix4 b h m 0) = 1#1 := by
  rw [val_main_call4_v10_apply, val_main_call4_v6_apply, val_main_call4_v9_apply, call4_v4_at x3 b h m n hi,
    val_main_call4_v5_apply, val_main_call4_c_2_apply, val_main_call4_v8_apply, val_main_call4_v7_apply, val_main_call4_c_1_apply]
  exact inside_small (by omega)

theorem call4_v13_at (hi : ∀ b h m, ∃ n : Fin 8192, val_main_v21 (F := F) x3 (ix3 b h m) = BitVec.ofNat 32 n.val)
    (i : S2x16x8192x64.Idx) : val_main_call4_v13 (F := F) x3 i = 1#1 := by
  rw [val_main_call4_v13_apply]
  refine Host.reduce_andi_one _ _ _ _ _ rfl (fun j => ?_)
  obtain ⟨n, hn⟩ := hi (j 0) (j 1) (j 2)
  exact (congrArg (val_main_call4_v10 (F := F) x3) (ix4_last j)).trans (call4_v10_at x3 (j 0) (j 1) (j 2) n hn)

/-- A value row, taken in sorted order. -/
theorem v27_take (hi : ∀ b h m, ∃ n : Fin 8192, val_main_v21 (F := F) x3 (ix3 b h m) = BitVec.ofNat 32 n.val)
    (b : Fin 2) (h : Fin 16) (m : Fin 8192) (d : Fin 64) (n : Fin 8192)
    (hn : val_main_v21 (F := F) x3 (ix3 b h m) = BitVec.ofNat 32 n.val) :
    val_main_v27 (F := F) x1 x3 (ix4 b h m d) = val_main_v5 (F := F) x1 (ix4 b h n d) := by
  rw [val_main_v27_apply, call4_v13_at x3 hi]
  refine (ValueIdx.select_one _ _).trans ?_
  unfold val_main_call4_v12
  generalize val_main_v5 (F := F) x1 = y
  have h4 := call4_v4_at x3 b h m n hn
  generalize val_main_call4_v4 (F := F) x3 = z at h4 ⊢
  exact gather_along (by omega) _ y z b h m d n h4

theorem call5_v4_at (b : Fin 2) (h : Fin 16) (m : Fin 256) (n : Fin 8192)
    (hi : x4 (ix3 b h m) = BitVec.ofNat 32 n.val) :
    val_main_call5_v4 (F := F) x4 (ix4 b h m 0) = BitVec.ofNat 32 n.val := by
  have e : idx_main_v57 (ix4 b h m 0) = ix3 b h m := ext3 rfl rfl rfl
  rw [val_main_call5_v4_apply, val_main_call5_v1_apply, val_main_v57_apply, e, hi, val_main_call5_v0_apply, val_main_call5_c_apply]
  exact wrap_small (by omega) _

theorem call5_v10_at (b : Fin 2) (h : Fin 16) (m : Fin 256) (n : Fin 8192)
    (hi : x4 (ix3 b h m) = BitVec.ofNat 32 n.val) :
    val_main_call5_v10 (F := F) x4 (ix4 b h m 0) = 1#1 := by
  rw [val_main_call5_v10_apply, val_main_call5_v6_apply, val_main_call5_v9_apply, call5_v4_at x4 b h m n hi,
    val_main_call5_v5_apply, val_main_call5_c_2_apply, val_main_call5_v8_apply, val_main_call5_v7_apply, val_main_call5_c_1_apply]
  exact inside_small (by omega)

theorem call5_v13_at (hi : ∀ b h m, ∃ n : Fin 8192, x4 (ix3 b h m) = BitVec.ofNat 32 n.val)
    (i : S2x16x256x64.Idx) : val_main_call5_v13 (F := F) x4 i = 1#1 := by
  rw [val_main_call5_v13_apply]
  refine Host.reduce_andi_one _ _ _ _ _ rfl (fun j => ?_)
  obtain ⟨n, hn⟩ := hi (j 0) (j 1) (j 2)
  exact (congrArg (val_main_call5_v10 (F := F) x4) (ix4_last j)).trans (call5_v10_at x4 (j 0) (j 1) (j 2) n hn)

/-- A sampled key row. -/
theorem v58_take (hi : ∀ b h m, ∃ n : Fin 8192, x4 (ix3 b h m) = BitVec.ofNat 32 n.val)
    (b : Fin 2) (h : Fin 16) (m : Fin 256) (d : Fin 64) (n : Fin 8192)
    (hn : x4 (ix3 b h m) = BitVec.ofNat 32 n.val) :
    val_main_v58 (F := F) x1 x3 x4 (ix4 b h m d) = val_main_v25 (F := F) x1 x3 (ix4 b h n d) := by
  rw [val_main_v58_apply, call5_v13_at x4 hi]
  refine (ValueIdx.select_one _ _).trans ?_
  unfold val_main_call5_v12
  generalize val_main_v25 (F := F) x1 x3 = y
  have h4 := call5_v4_at x4 b h m n hn
  generalize val_main_call5_v4 (F := F) x4 = z at h4 ⊢
  exact gather_along (by omega) _ y z b h m d n h4

theorem call6_v4_at (b : Fin 2) (h : Fin 16) (m : Fin 256) (n : Fin 8192)
    (hi : x4 (ix3 b h m) = BitVec.ofNat 32 n.val) :
    val_main_call6_v4 (F := F) x4 (ix4 b h m 0) = BitVec.ofNat 32 n.val := by
  have e : idx_main_v59 (ix4 b h m 0) = ix3 b h m := ext3 rfl rfl rfl
  rw [val_main_call6_v4_apply, val_main_call6_v1_apply, val_main_v59_apply, e, hi, val_main_call6_v0_apply, val_main_call6_c_apply]
  exact wrap_small (by omega) _

theorem call6_v10_at (b : Fin 2) (h : Fin 16) (m : Fin 256) (n : Fin 8192)
    (hi : x4 (ix3 b h m) = BitVec.ofNat 32 n.val) :
    val_main_call6_v10 (F := F) x4 (ix4 b h m 0) = 1#1 := by
  rw [val_main_call6_v10_apply, val_main_call6_v6_apply, val_main_call6_v9_apply, call6_v4_at x4 b h m n hi,
    val_main_call6_v5_apply, val_main_call6_c_2_apply, val_main_call6_v8_apply, val_main_call6_v7_apply, val_main_call6_c_1_apply]
  exact inside_small (by omega)

theorem call6_v13_at (hi : ∀ b h m, ∃ n : Fin 8192, x4 (ix3 b h m) = BitVec.ofNat 32 n.val)
    (i : S2x16x256x64.Idx) : val_main_call6_v13 (F := F) x4 i = 1#1 := by
  rw [val_main_call6_v13_apply]
  refine Host.reduce_andi_one _ _ _ _ _ rfl (fun j => ?_)
  obtain ⟨n, hn⟩ := hi (j 0) (j 1) (j 2)
  exact (congrArg (val_main_call6_v10 (F := F) x4) (ix4_last j)).trans (call6_v10_at x4 (j 0) (j 1) (j 2) n hn)

/-- A sampled value row. -/
theorem v60_take (hi : ∀ b h m, ∃ n : Fin 8192, x4 (ix3 b h m) = BitVec.ofNat 32 n.val)
    (b : Fin 2) (h : Fin 16) (m : Fin 256) (d : Fin 64) (n : Fin 8192)
    (hn : x4 (ix3 b h m) = BitVec.ofNat 32 n.val) :
    val_main_v60 (F := F) x1 x3 x4 (ix4 b h m d) = val_main_v27 (F := F) x1 x3 (ix4 b h n d) := by
  rw [val_main_v60_apply, call6_v13_at x4 hi]
  refine (ValueIdx.select_one _ _).trans ?_
  unfold val_main_call6_v12
  generalize val_main_v27 (F := F) x1 x3 = y
  have h4 := call6_v4_at x4 b h m n hn
  generalize val_main_call6_v4 (F := F) x4 = z at h4 ⊢
  exact gather_along (by omega) _ y z b h m d n h4

theorem call10_v4_at (b : Fin 2) (h : Fin 16) (m : Fin 8192) (n : Fin 8192)
    (hi : val_main_v12 (F := F) x2 (ix3 b h m) = BitVec.ofNat 32 n.val) :
    val_main_call10_v4 (F := F) x2 (ix4 b h m 0) = BitVec.ofNat 32 n.val := by
  have e : idx_main_v110 (ix4 b h m 0) = ix3 b h m := ext3 rfl rfl rfl
  rw [val_main_call10_v4_apply, val_main_call10_v1_apply, val_main_v110_apply, e, hi, val_main_call10_v0_apply, val_main_call10_c_apply]
  exact wrap_small (by omega) _

theorem call10_v10_at (b : Fin 2) (h : Fin 16) (m : Fin 8192) (n : Fin 8192)
    (hi : val_main_v12 (F := F) x2 (ix3 b h m) = BitVec.ofNat 32 n.val) :
    val_main_call10_v10 (F := F) x2 (ix4 b h m 0) = 1#1 := by
  rw [val_main_call10_v10_apply, val_main_call10_v6_apply, val_main_call10_v9_apply, call10_v4_at x2 b h m n hi,
    val_main_call10_v5_apply, val_main_call10_c_2_apply, val_main_call10_v8_apply, val_main_call10_v7_apply, val_main_call10_c_1_apply]
  exact inside_small (by omega)

theorem call10_v13_at (hi : ∀ b h m, ∃ n : Fin 8192, val_main_v12 (F := F) x2 (ix3 b h m) = BitVec.ofNat 32 n.val)
    (i : S2x16x8192x64.Idx) : val_main_call10_v13 (F := F) x2 i = 1#1 := by
  rw [val_main_call10_v13_apply]
  refine Host.reduce_andi_one _ _ _ _ _ rfl (fun j => ?_)
  obtain ⟨n, hn⟩ := hi (j 0) (j 1) (j 2)
  exact (congrArg (val_main_call10_v10 (F := F) x2) (ix4_last j)).trans (call10_v10_at x2 (j 0) (j 1) (j 2) n hn)

/-- A result row, taken back to the element it belongs to. -/
theorem v111_take (hi : ∀ b h m, ∃ n : Fin 8192, val_main_v12 (F := F) x2 (ix3 b h m) = BitVec.ofNat 32 n.val)
    (b : Fin 2) (h : Fin 16) (m : Fin 8192) (d : Fin 64) (n : Fin 8192)
    (hn : val_main_v12 (F := F) x2 (ix3 b h m) = BitVec.ofNat 32 n.val) :
    val_main_v111 (F := F) x0 x1 x2 x3 x4 (ix4 b h m d) = val_main_v109 (F := F) x0 x1 x2 x3 x4 (ix4 b h n d) := by
  rw [val_main_v111_apply, call10_v13_at x2 hi]
  refine (ValueIdx.select_one _ _).trans ?_
  unfold val_main_call10_v12
  generalize val_main_v109 (F := F) x0 x1 x2 x3 x4 = y
  have h4 := call10_v4_at x2 b h m n hn
  generalize val_main_call10_v4 (F := F) x2 = z at h4 ⊢
  exact gather_along (by omega) _ y z b h m d n h4

theorem v1_at (b : Fin 2) (h : Fin 16) (n : Fin 8192) (d : Fin 64) :
    val_main_v1 (F := F) x0 (ix4 b h n d) = x0 (ix3 (wOf b h) n ⟨d.val, by omega⟩) := by
  rw [val_main_v1_apply, val_main_v0_apply]
  refine congrArg x0 (ext3 ?_ ?_ ?_)
  · show (((b.val * 16 + h.val) * 8192 + n.val) * 128 + d.val) / 1048576 = b.val * 16 + h.val; omega
  · show (((b.val * 16 + h.val) * 8192 + n.val) * 128 + d.val) / 128 % 8192 = n.val; omega
  · show (((b.val * 16 + h.val) * 8192 + n.val) * 128 + d.val) % 128 = d.val; omega

theorem v3_at (b : Fin 2) (h : Fin 16) (n : Fin 8192) (d : Fin 64) :
    val_main_v3 (F := F) x1 (ix4 b h n d) = x1 (ix3 (wOf b h) n ⟨d.val, by omega⟩) := by
  rw [val_main_v3_apply, val_main_v2_apply]
  refine congrArg x1 (ext3 ?_ ?_ ?_)
  · show (((b.val * 16 + h.val) * 8192 + n.val) * 128 + d.val) / 1048576 = b.val * 16 + h.val; omega
  · show (((b.val * 16 + h.val) * 8192 + n.val) * 128 + d.val) / 128 % 8192 = n.val; omega
  · show (((b.val * 16 + h.val) * 8192 + n.val) * 128 + d.val) % 128 = d.val; omega

theorem v5_at (b : Fin 2) (h : Fin 16) (n : Fin 8192) (d : Fin 64) :
    val_main_v5 (F := F) x1 (ix4 b h n d) = x1 (ix3 (wOf b h) n ⟨64 + d.val, by omega⟩) := by
  rw [val_main_v5_apply, val_main_v4_apply]
  refine congrArg x1 (ext3 ?_ ?_ ?_)
  · show (((b.val * 16 + h.val) * 8192 + n.val) * 128 + (64 + d.val)) / 1048576 = b.val * 16 + h.val; omega
  · show (((b.val * 16 + h.val) * 8192 + n.val) * 128 + (64 + d.val)) / 128 % 8192 = n.val; omega
  · show (((b.val * 16 + h.val) * 8192 + n.val) * 128 + (64 + d.val)) % 128 = 64 + d.val; omega

section rows

variable {σ ρ : Fin 32 → Fin 8192 ≃ Fin 8192} {z : Fin 2 → Fin 16 → Fin 256 → Fin 8192}

theorem v23_at (h2 : Ranks x2 σ) (b : Fin 2) (h : Fin 16) (k : Fin 8192) (d : Fin 64) :
    val_main_v23 (F := F) x0 x2 (ix4 b h k d) = x0 (ix3 (wOf b h) (σ (wOf b h) k) ⟨d.val, by omega⟩) :=
  (v23_take x0 x2 (fun b h m => ⟨_, v13_at x2 h2 b h m⟩) b h k d _ (v13_at x2 h2 b h k)).trans (v1_at x0 _ _ _ _)

theorem v25_at (h3 : Ranks x3 ρ) (b : Fin 2) (h : Fin 16) (k : Fin 8192) (d : Fin 64) :
    val_main_v25 (F := F) x1 x3 (ix4 b h k d) = x1 (ix3 (wOf b h) (ρ (wOf b h) k) ⟨d.val, by omega⟩) :=
  (v25_take x1 x3 (fun b h m => ⟨_, v21_at x3 h3 b h m⟩) b h k d _ (v21_at x3 h3 b h k)).trans (v3_at x1 _ _ _ _)

theorem v27_at (h3 : Ranks x3 ρ) (b : Fin 2) (h : Fin 16) (k : Fin 8192) (d : Fin 64) :
    val_main_v27 (F := F) x1 x3 (ix4 b h k d) = x1 (ix3 (wOf b h) (ρ (wOf b h) k) ⟨64 + d.val, by omega⟩) :=
  (v27_take x1 x3 (fun b h m => ⟨_, v21_at x3 h3 b h m⟩) b h k d _ (v21_at x3 h3 b h k)).trans (v5_at x1 _ _ _ _)

theorem v58_at (h3 : Ranks x3 ρ) (h4 : Samples x4 z) (b : Fin 2) (h : Fin 16) (c : Fin 256) (d : Fin 64) :
    val_main_v58 (F := F) x1 x3 x4 (ix4 b h c d) = x1 (ix3 (wOf b h) (ρ (wOf b h) (z b h c)) ⟨d.val, by omega⟩) :=
  (v58_take x1 x3 x4 (fun b h m => ⟨_, h4 b h m⟩) b h c d _ (h4 b h c)).trans (v25_at x1 x3 h3 _ _ _ _)

theorem v60_at (h3 : Ranks x3 ρ) (h4 : Samples x4 z) (b : Fin 2) (h : Fin 16) (c : Fin 256) (d : Fin 64) :
    val_main_v60 (F := F) x1 x3 x4 (ix4 b h c d) = x1 (ix3 (wOf b h) (ρ (wOf b h) (z b h c)) ⟨64 + d.val, by omega⟩) :=
  (v60_take x1 x3 x4 (fun b h m => ⟨_, h4 b h m⟩) b h c d _ (h4 b h c)).trans (v27_at x1 x3 h3 _ _ _ _)

/-- The result's row of element `n` is the row computed at the position of `n`. -/
theorem v111_at (h2 : Ranks x2 σ) (b : Fin 2) (h : Fin 16) (n : Fin 8192) (d : Fin 64) :
    val_main_v111 (F := F) x0 x1 x2 x3 x4 (ix4 b h n d)
      = val_main_v109 (F := F) x0 x1 x2 x3 x4 (ix4 b h ((σ (wOf b h)).symm n) d) :=
  v111_take x0 x1 x2 x3 x4 (fun b h m => ⟨_, v12_at x2 h2 b h m⟩) b h n d _ (v12_at x2 h2 b h n)

end rows

end Cert.Proof.Ref
-- ==== Proof.RowMath.lean ====
/- One query row of the attention, over the extended reals: the kernel's form, the reference's form, and that they agree. -/
module

public import Idealize.ShloMosaic.PureOps.Ideal
public import Idealize.ShloMosaic.Lib.IdealHost

@[expose] public section

noncomputable section

namespace Cert.Proof.Sort

open Idealize.ShloMosaic

/-- The largest score of a row. -/
def rowMax (s : Fin 256 → EReal) : EReal := Finset.univ.fold max (Ideal.ofBits .f32 0xFF800000#32) s

/-- The weights of a row: the exponentials of the scores less `m`. -/
def wts (s : Fin 256 → EReal) (m : EReal) (x : Fin 256) : EReal := Ideal.exp (s x - m)

/-- The share of the block's attention, as the kernel takes it. -/
def kerShare (s t : Fin 256 → EReal) : EReal :=
  Ideal.logistic (rowMax s + Ideal.log (∑ x, wts s (rowMax s) x)
    - (rowMax t + Ideal.log (∑ x, wts t (rowMax t) x) + Ideal.ofBits .f32 0x405DCE9E#32))

/-- A result of the kernel: block scores `s` with values `v`, residual scores `t` with values `u`. -/
def kerRow (s v t u : Fin 256 → EReal) : EReal :=
  kerShare s t * Ideal.div (∑ x, wts s (rowMax s) x * v x) (∑ x, wts s (rowMax s) x)
    + (1 - kerShare s t) * Ideal.div (∑ x, wts t (rowMax t) x * u x) (∑ x, wts t (rowMax t) x)

/-- The reference's maximum: the least number first. -/
def refMax (s : Fin 256 → EReal) : EReal := max (Ideal.ofBits .f32 0xFF800000#32) (rowMax s)

/-- The share of the block's attention, as the reference takes it. -/
def refShare (s t : Fin 256 → EReal) : EReal :=
  Ideal.div 1 (1 + Ideal.exp (Ideal.log (∑ x, wts t (rowMax t) x) + rowMax t + Ideal.ofBits .f32 0x405DCE9E#32
    - (Ideal.log (∑ x, wts s (rowMax s) x) + rowMax s)))

/-- A result of the reference. -/
def refRow (s v t u : Fin 256 → EReal) : EReal :=
  refShare s t * (∑ x, Ideal.div (wts s (refMax s) x) (∑ y, wts s (refMax s) y) * v x)
    + (1 - refShare s t) * (∑ x, Ideal.div (wts t (refMax t) x) (∑ y, wts t (refMax t) y) * u x)

theorem negInf : Ideal.ofBits .f32 0xFF800000#32 = ⊥ := by simp [Ideal.ofBits, Ideal.ieee]

theorem refMax_eq (s : Fin 256 → EReal) : refMax s = rowMax s := by
  rw [refMax, negInf]; exact max_eq_right bot_le

theorem rowMax_mem (s : Fin 256 → EReal) : ∃ x, rowMax s = s x := by
  have h : rowMax s = Finset.univ.sup s := by rw [rowMax, negInf]; rfl
  obtain ⟨x, _, hx⟩ := Finset.exists_mem_eq_sup Finset.univ (Finset.univ_nonempty (α := Fin 256)) s
  exact ⟨x, h.trans hx⟩

/-- The value of a row of real scores: real maximum, positive weights, positive sum. -/
theorem row_real (s : Fin 256 → EReal) (h : ∀ x, s x ≠ ⊤ ∧ s x ≠ ⊥) :
    ∃ (m a : ℝ), 0 < a ∧ rowMax s = (m : EReal) ∧ (∑ x, wts s (rowMax s) x) = (a : EReal) := by
  lift s to Fin 256 → ℝ using fun x => h x
  obtain ⟨x₀, hx₀⟩ := rowMax_mem fun x => (s x : EReal)
  refine ⟨s x₀, ∑ x, Real.exp (s x - s x₀), Finset.sum_pos (fun x _ => Real.exp_pos _) Finset.univ_nonempty, hx₀, ?_⟩
  rw [hx₀]
  simp only [wts, ← EReal.coe_sub, Ideal.exp_coe]
  exact (map_sum (⟨⟨Real.toEReal, EReal.coe_zero⟩, EReal.coe_add⟩ : ℝ →+ EReal) _ _).symm

theorem kerShare_eq (s t : Fin 256 → EReal) (hs : ∀ x, s x ≠ ⊤ ∧ s x ≠ ⊥) (ht : ∀ x, t x ≠ ⊤ ∧ t x ≠ ⊥) :
    kerShare s t = refShare s t := by
  obtain ⟨m, a, ha, hm, hl⟩ := row_real s hs
  obtain ⟨m', a', ha', hm', hl'⟩ := row_real t ht
  have hK : ∃ K : ℝ, Ideal.ofBits .f32 0x405DCE9E#32 = (K : EReal) := ⟨_, by simp [Ideal.ofBits, Ideal.ieee]; rfl⟩
  obtain ⟨K, hK⟩ := hK
  rw [kerShare, refShare, hl, hl', hm, hm', hK, Ideal.log_coe, if_neg (not_le.2 ha), Ideal.log_coe, if_neg (not_le.2 ha'),
    Ideal.logistic]
  simp only [← EReal.coe_add, ← EReal.coe_sub, ← EReal.coe_neg]
  congr 4
  ring

theorem sum_mul_coe (f : Fin 256 → EReal) (r : ℝ) (hr : 0 ≤ r) : (∑ x, f x) * (r : EReal) = ∑ x, f x * (r : EReal) := by
  have h : ∀ S : Finset (Fin 256), (∑ x ∈ S, f x) * (r : EReal) = ∑ x ∈ S, f x * (r : EReal) := by
    intro S
    induction S using Finset.induction_on with
    | empty => simp
    | insert a S ha ih =>
      rw [Finset.sum_insert ha, Finset.sum_insert ha, ← ih, mul_comm,
        EReal.left_distrib_of_nonneg_of_ne_top (by exact_mod_cast hr) (EReal.coe_ne_top r), mul_comm, mul_comm (r : EReal)]
  exact h _

theorem mean_eq (s v : Fin 256 → EReal) (hs : ∀ x, s x ≠ ⊤ ∧ s x ≠ ⊥) :
    Ideal.div (∑ x, wts s (rowMax s) x * v x) (∑ x, wts s (rowMax s) x)
      = ∑ x, Ideal.div (wts s (rowMax s) x) (∑ y, wts s (rowMax s) y) * v x := by
  obtain ⟨m, a, ha, hm, hl⟩ := row_real s hs
  rw [hl, Ideal.div_coe ha.ne', sum_mul_coe _ _ (by positivity)]
  refine Finset.sum_congr rfl fun x _ => ?_
  rw [Ideal.div_coe ha.ne', mul_right_comm]

/-- On real scores the two forms of a row agree; the values may be infinite. -/
theorem row_eq (s v t u : Fin 256 → EReal) (hs : ∀ x, s x ≠ ⊤ ∧ s x ≠ ⊥) (ht : ∀ x, t x ≠ ⊤ ∧ t x ≠ ⊥) :
    kerRow s v t u = refRow s v t u := by
  rw [kerRow, refRow, refMax_eq, refMax_eq, mean_eq s v hs, mean_eq t u ht, kerShare_eq s t hs ht]

/-- A score: the product of two real rows, scaled. -/
theorem score_real (q k : Fin 64 → EReal) (hq : ∀ d, q d ≠ ⊤ ∧ q d ≠ ⊥) (hk : ∀ d, k d ≠ ⊤ ∧ k d ≠ ⊥) :
    ∃ r : ℝ, (∑ d, q d * k d) * Ideal.ofBits .f32 0x3E000000#32 = (r : EReal) := by
  lift q to Fin 64 → ℝ using fun x => hq x
  lift k to Fin 64 → ℝ using fun x => hk x
  have hK : ∃ K : ℝ, Ideal.ofBits .f32 0x3E000000#32 = (K : EReal) := ⟨_, by simp [Ideal.ofBits, Ideal.ieee]; rfl⟩
  obtain ⟨K, hK⟩ := hK
  refine ⟨(∑ d, q d * k d) * K, ?_⟩
  rw [hK, EReal.coe_mul]
  congr 1

end Cert.Proof.Sort
-- ==== Proof.KRow.lean ====
/- The attention body's stored block, at an index, over the extended reals. -/
module

public import proofs.«01_k».proof.Proof.Attn
public import proofs.«01_k».proof.Proof.RowMath
public import Idealize.ShloMosaic.Lib.Pointwise

@[expose] public section

noncomputable section

namespace Cert.Proof.Sort

open Cert.KernelIdeal Cert.KernelIdeal.Gen

open Idealize.ShloMosaic

variable (q k : Vec Ideal S1x1x256x128 .f32) (x2 : Vec Ideal S1x256x128 .f32) (x3 : Vec Ideal S1x1x256 .i32) (nb : BitVec 32)

/-- A block's score. -/
def kS (r c : Fin 256) : EReal :=
  (∑ d : Fin 64, q (ix4 0 0 r ⟨d.val, by omega⟩) * k (ix4 0 0 c ⟨d.val, by omega⟩)) * Ideal.ofBits .f32 0x3E000000#32

/-- A residual score: masked where the sampled row lies in the block. -/
def kT (r c : Fin 256) : EReal :=
  (∑ d : Fin 64, q (ix4 0 0 r ⟨d.val, by omega⟩) * x2 (ix3 0 c ⟨d.val, by omega⟩)) * Ideal.ofBits .f32 0x3E000000#32
    + Scalar.select (IntOp.cmpi .eq (k2_pay5 x3 (ix1 c)) nb) (Ideal.ofBits .f32 0xFF7FFFFF#32) 0

theorem pay8_at (r c : Fin 256) : k2_pay8 (k2_pay6 q) k (ix2 r c) = kS q k r c := by
  pointwise [k2_pay8, k2_pay6, k2_pay7]
  rfl

theorem pay9_at (r : Fin 256) : k2_pay9 (k2_pay6 q) k (ix2 r 0) = rowMax (kS q k r) := by
  pointwise [k2_pay9]
  simp only [pay8_at]
  rfl

theorem pay10_at (r c : Fin 256) : k2_pay10 (k2_pay6 q) k (ix2 r c) = wts (kS q k r) (rowMax (kS q k r)) c := by
  pointwise [k2_pay10]
  rw [pay8_at, pay9_at]
  rfl

theorem pay11_at (r : Fin 256) : k2_pay11 (k2_pay6 q) k (ix2 r 0) = ∑ c, wts (kS q k r) (rowMax (kS q k r)) c := by
  pointwise [k2_pay11]
  simp only [pay10_at]

theorem pay3_at (r : Fin 256) (d : Fin 64) : k2_pay3 x2 (ix2 r d) = x2 (ix3 0 r ⟨d.val, by omega⟩) := by
  pointwise [k2_pay3, k2_pay2]

theorem pay4_at (r : Fin 256) (d : Fin 64) : k2_pay4 x2 (ix2 r d) = x2 (ix3 0 r ⟨64 + d.val, by omega⟩) := by
  pointwise [k2_pay4, k2_pay2]

theorem pay6_at (r : Fin 256) (d : Fin 64) : k2_pay6 q (ix2 r d) = q (ix4 0 0 r ⟨d.val, by omega⟩) := by
  pointwise [k2_pay6]

theorem pay12_at (r c : Fin 256) : k2_pay12 (k2_pay3 x2) (k2_pay5 x3) nb (k2_pay6 q) (ix2 r c) = kT q x2 x3 nb r c := by
  pointwise [k2_pay12]
  simp only [pay6_at, pay3_at]
  rfl

theorem pay13_at (r : Fin 256) : k2_pay13 (k2_pay3 x2) (k2_pay5 x3) nb (k2_pay6 q) (ix2 r 0) = rowMax (kT q x2 x3 nb r) := by
  pointwise [k2_pay13]
  simp only [pay12_at]
  rfl

theorem pay14_at (r c : Fin 256) : k2_pay14 (k2_pay3 x2) (k2_pay5 x3) nb (k2_pay6 q) (ix2 r c)
    = wts (kT q x2 x3 nb r) (rowMax (kT q x2 x3 nb r)) c := by
  pointwise [k2_pay14]
  rw [pay12_at, pay13_at]
  rfl

theorem pay15_at (r : Fin 256) : k2_pay15 (k2_pay3 x2) (k2_pay5 x3) nb (k2_pay6 q) (ix2 r 0)
    = ∑ c, wts (kT q x2 x3 nb r) (rowMax (kT q x2 x3 nb r)) c := by
  pointwise [k2_pay15]
  simp only [pay14_at]

theorem pay16_at (r : Fin 256) (d : Fin 64) : k2_pay16 (k2_pay3 x2) (k2_pay4 x2) (k2_pay5 x3) nb (k2_pay6 q) (ix2 r d)
    = ∑ c, wts (kT q x2 x3 nb r) (rowMax (kT q x2 x3 nb r)) c * x2 (ix3 0 c ⟨64 + d.val, by omega⟩) := by
  pointwise [k2_pay16]
  simp only [pay14_at, pay4_at]

theorem pay17_at (r : Fin 256) : k2_pay17 (k2_pay3 x2) (k2_pay5 x3) nb (k2_pay6 q) k (ix2 r 0)
    = kerShare (kS q k r) (kT q x2 x3 nb r) := by
  pointwise [k2_pay17]
  rw [pay9_at, pay11_at, pay13_at, pay15_at]
  rfl

theorem pay18_at (r : Fin 256) (d : Fin 64) : k2_pay18 (k2_pay3 x2) (k2_pay5 x3) nb (k2_pay6 q) k (ix2 r d)
    = kerShare (kS q k r) (kT q x2 x3 nb r)
      * Ideal.div (∑ c, wts (kS q k r) (rowMax (kS q k r)) c * k (ix4 0 0 c ⟨64 + d.val, by omega⟩))
        (∑ c, wts (kS q k r) (rowMax (kS q k r)) c) := by
  pointwise [k2_pay18, k2_pay7]
  simp only [pay17_at, pay10_at, pay11_at]

/-- The block's result, at a row and a column. -/
theorem blockOut_at (r : Fin 256) (d : Fin 64) : blockOut nb q k x2 x3 (ix4 0 0 r d)
    = kerRow (kS q k r) (fun c => k (ix4 0 0 c ⟨64 + d.val, by omega⟩)) (kT q x2 x3 nb r)
      (fun c => x2 (ix3 0 c ⟨64 + d.val, by omega⟩)) := by
  rw [blockOut]
  pointwise [k2_pay19]
  rw [pay18_at, pay17_at, pay16_at, pay15_at]
  rfl

end Cert.Proof.Sort
-- ==== Proof.ArrOut.lean ====
/- The attention call's result array, read at an index: each entry is one row's joined attention over the four arrays the
   call reads. -/
module

public import proofs.«01_k».proof.Proof.Region
public import proofs.«01_k».proof.Proof.KRow
public import proofs.«01_k».proof.Proof.RefRead
public import Idealize.ShloMosaic.Lib.Pipeline.Value
public import Idealize.ShloMosaic.Lib.Pipeline.ValueKit

@[expose] public section

noncomputable section

namespace Cert.Proof.Sort

open Cert.KernelIdeal Cert.KernelIdeal.Gen Cert.Proof.Ref

open Idealize.ShloMosaic hiding ix1 ix2 ix3 ix4 ix5
open Idealize.ShloMosaic.ValueIdx
open Idealize.ShloMosaic.TcCoe
open Idealize.ShloMosaic.Pipeline (Dat)

/-! ## One grid point's output block -/

/-- The output block of the point at `i`, from its four input blocks. -/
def blkG (i : grid2.Coords) (x0 x1 : Vec Ideal S1x8x256x128 .f32) (x2 : Vec Ideal S1x256x128 .f32) (x3 : Vec Ideal S1x1x256 .i32)
    (j : Fin 8) (r : Fin 256) (d : Fin 64) : EReal :=
  kerRow
    (fun c => (∑ e : Fin 64, x0 (ix4 0 j r ⟨e.val, by omega⟩) * x1 (ix4 0 j c ⟨e.val, by omega⟩)) * Ideal.ofBits .f32 0x3E000000#32)
    (fun c => x1 (ix4 0 j c ⟨64 + d.val, by omega⟩))
    (fun c => (∑ e : Fin 64, x0 (ix4 0 j r ⟨e.val, by omega⟩) * x2 (ix3 0 c ⟨e.val, by omega⟩)) * Ideal.ofBits .f32 0x3E000000#32
      + Scalar.select (IntOp.cmpi .eq (k2_pay5 x3 (ix1 c)) (nbOf i j.val)) (Ideal.ofBits .f32 0xFF7FFFFF#32) 0)
    (fun c => x2 (ix3 0 c ⟨64 + d.val, by omega⟩))

theorem ld_block {e : EltTy} (x : Vec Ideal S1x8x256x128 e) (j : ℕ) (hj : j < 8) (h) (r : Fin 256) (d : Fin 128) :
    View.ld x (Rect.unit (s := S1x8x256x128) ![0, j, 0, 0] S1x1x256x128.size h) (ix4 0 0 r d) = x (ix4 0 ⟨j, hj⟩ r d) := by
  refine congrArg x ?_
  refine ext4 ?_ ?_ ?_ ?_ <;> simp [Rect.emb_apply]

theorem emb_out (j : ℕ) (hj : j < 8) (h) (y : S1x1x256x64.Idx) :
    (Rect.unit (s := S1x8x256x64) ![0, j, 0, 0] S1x1x256x64.size h).emb y = ix4 0 ⟨j, hj⟩ (y 2) (y 3) := by
  have h0 : (y 0).val < 1 := (y 0).isLt
  have h1 : (y 1).val < 1 := (y 1).isLt
  refine ext4 ?_ ?_ ?_ ?_ <;> rw [Rect.emb_apply] <;> simp <;> omega

theorem hz3 : (![0, 0, 0] : Fin 3 → ℕ) = fun _ => 0 := funext fun a => by fin_cases a <;> rfl

theorem piece (i : grid2.Coords) (x0 x1 : Vec Ideal S1x8x256x128 .f32) (x2 : Vec Ideal S1x256x128 .f32) (x3 : Vec Ideal S1x1x256 .i32)
    (j : ℕ) (hj : j < 8) (h h') (y : S1x1x256x64.Idx) :
    blockOut (nbOf i j) (View.ld x0 (Rect.unit (s := S1x8x256x128) ![0, j, 0, 0] S1x1x256x128.size h))
      (View.ld x1 (Rect.unit (s := S1x8x256x128) ![0, j, 0, 0] S1x1x256x128.size h)) (View.ld x2 rS) (View.ld x3 rB) y
      = (fun z : S1x8x256x64.Idx => blkG i x0 x1 x2 x3 (z 1) (z 2) (z 3))
          ((Rect.unit (s := S1x8x256x64) ![0, j, 0, 0] S1x1x256x64.size h').emb y) := by
  rw [emb_out j hj, View.ld_unit_zero hz3, View.ld_unit_zero hz3]
  have ey : y = ix4 0 0 (y 2) (y 3) := by
    have h0 : (y 0).val < 1 := (y 0).isLt
    have h1 : (y 1).val < 1 := (y 1).isLt
    refine ext4 ?_ ?_ rfl rfl
    · show (y 0).val = 0; omega
    · show (y 1).val = 0; omega
  generalize y 2 = r at ey ⊢
  generalize y 3 = d at ey ⊢
  subst ey
  refine (blockOut_at _ _ _ _ _ r d).trans ?_
  show _ = blkG i x0 x1 x2 x3 ⟨j, hj⟩ r d
  unfold blkG kS kT
  congr 1
  · funext c
    refine congrArg (· * _) ?_
    refine Finset.sum_congr rfl fun e _ => ?_
    exact congrArg₂ (· * ·) (ld_block x0 j hj h r _) (ld_block x1 j hj h c _)
  · funext c
    exact ld_block x1 j hj h c _
  · funext c
    refine congrArg (fun s : EReal => s * _ + _) ?_
    refine Finset.sum_congr rfl fun e _ => ?_
    exact congrArg (· * _) (ld_block x0 j hj h r _)

theorem attnOut_eq (i : grid2.Coords) (x0 x1 : Vec Ideal S1x8x256x128 .f32) (x2 : Vec Ideal S1x256x128 .f32) (x3 : Vec Ideal S1x1x256 .i32) :
    attnOut (F := Ideal) i x0 x1 x2 x3 = fun z => blkG i x0 x1 x2 x3 (z 1) (z 2) (z 3) := by
  funext z
  unfold attnOut
  refine View.canon_apply_of_pieces (Val := Elt Ideal) (e := .f32) (fun z : S1x8x256x64.Idx => blkG i x0 x1 x2 x3 (z 1) (z 2) (z 3)) _ ?_ z (attn_cover _ _ _ _ _ _ _ _ z)
  intro p hp
  simp only [List.mem_cons, List.mem_nil_iff, or_false] at hp
  rcases hp with rfl | rfl | rfl | rfl | rfl | rfl | rfl | rfl
  · exact piece i x0 x1 x2 x3 7 (by decide) inb_S1x8x256x128_S1x1x256x128_0_7_0_0 inb_S1x8x256x64_S1x1x256x64_0_7_0_0
  · exact piece i x0 x1 x2 x3 6 (by decide) inb_S1x8x256x128_S1x1x256x128_0_6_0_0 inb_S1x8x256x64_S1x1x256x64_0_6_0_0
  · exact piece i x0 x1 x2 x3 5 (by decide) inb_S1x8x256x128_S1x1x256x128_0_5_0_0 inb_S1x8x256x64_S1x1x256x64_0_5_0_0
  · exact piece i x0 x1 x2 x3 4 (by decide) inb_S1x8x256x128_S1x1x256x128_0_4_0_0 inb_S1x8x256x64_S1x1x256x64_0_4_0_0
  · exact piece i x0 x1 x2 x3 3 (by decide) inb_S1x8x256x128_S1x1x256x128_0_3_0_0 inb_S1x8x256x64_S1x1x256x64_0_3_0_0
  · exact piece i x0 x1 x2 x3 2 (by decide) inb_S1x8x256x128_S1x1x256x128_0_2_0_0 inb_S1x8x256x64_S1x1x256x64_0_2_0_0
  · exact piece i x0 x1 x2 x3 1 (by decide) inb_S1x8x256x128_S1x1x256x128_0_1_0_0 inb_S1x8x256x64_S1x1x256x64_0_1_0_0
  · exact piece i x0 x1 x2 x3 0 (by decide) inb_S1x8x256x128_S1x1x256x128_0_0_0_0 inb_S1x8x256x64_S1x1x256x64_0_0_0_0

/-! ## The whole array -/

/-- The result array, from the four arrays the call reads. -/
def outG (Q K : S32x32x256x128.Idx → EReal) (X : S32x256x128.Idx → EReal) (Y : S32x1x256.Idx → BitVec 32) (w g : Fin 32) (r : Fin 256) (d : Fin 64) : EReal :=
  kerRow
    (fun c => (∑ e : Fin 64, Q (ix4 w g r ⟨e.val, by omega⟩) * K (ix4 w g c ⟨e.val, by omega⟩)) * Ideal.ofBits .f32 0x3E000000#32)
    (fun c => K (ix4 w g c ⟨64 + d.val, by omega⟩))
    (fun c => (∑ e : Fin 64, Q (ix4 w g r ⟨e.val, by omega⟩) * X (ix3 w c ⟨e.val, by omega⟩)) * Ideal.ofBits .f32 0x3E000000#32
      + Scalar.select (IntOp.cmpi .eq (k2_pay5 (F := Ideal) (fun y : S1x1x256.Idx => Y (ix3 w 0 (y 2))) (ix1 c)) (BitVec.ofNat 32 g.val)) (Ideal.ofBits .f32 0xFF7FFFFF#32) 0)
    (fun c => X (ix3 w c ⟨64 + d.val, by omega⟩))

theorem blk_out (i : grid2.Coords) (x0 x1 : Vec Ideal S1x8x256x128 .f32) (x2 : Vec Ideal S1x256x128 .f32) (x3 : Vec Ideal S1x1x256 .i32)
    (Q K : S32x32x256x128.Idx → EReal) (X : S32x256x128.Idx → EReal) (Y : S32x1x256.Idx → BitVec 32) (w g : Fin 32) (j : Fin 8)
    (e0 : ∀ r d, x0 (ix4 0 j r d) = Q (ix4 w g r d)) (e1 : ∀ r d, x1 (ix4 0 j r d) = K (ix4 w g r d)) (e2 : ∀ r d, x2 (ix3 0 r d) = X (ix3 w r d))
    (e3 : x3 = fun y : S1x1x256.Idx => Y (ix3 w 0 (y 2))) (nb : nbOf i j.val = BitVec.ofNat 32 g.val) (r : Fin 256) (d : Fin 64) :
    blkG i x0 x1 x2 x3 j r d = outG Q K X Y w g r d := by
  unfold blkG outG
  simp only [e0, e1, e2, e3, nb]

theorem idx_facts : ∀ t : Fin cfg2.N,
    (win2_0.index t 0 = (grid2.coords t 0).val ∧ win2_0.index t 1 = (grid2.coords t 1).val ∧ win2_0.index t 2 = 0 ∧ win2_0.index t 3 = 0)
    ∧ (win2_1.index t 0 = (grid2.coords t 0).val ∧ win2_1.index t 1 = (grid2.coords t 1).val ∧ win2_1.index t 2 = 0 ∧ win2_1.index t 3 = 0)
    ∧ (win2_2.index t 0 = (grid2.coords t 0).val ∧ win2_2.index t 1 = 0 ∧ win2_2.index t 2 = 0)
    ∧ (win2_3.index t 0 = (grid2.coords t 0).val ∧ win2_3.index t 1 = 0 ∧ win2_3.index t 2 = 0)
    ∧ (win2_4.index t 0 = (grid2.coords t 0).val ∧ win2_4.index t 1 = (grid2.coords t 1).val ∧ win2_4.index t 2 = 0 ∧ win2_4.index t 3 = 0) :=
  (by decide +kernel : ∀ t : Fin grid2.N, _)

theorem nb_facts : ∀ (a : Fin 4) (j : Fin 8), Scalar.addi (Scalar.muli (BitVec.ofNat 32 a.val) 8#32) (BitVec.ofNat 32 j.val) = BitVec.ofNat 32 (8 * a.val + j.val) := by
  decide +kernel

variable (W₀ : Vals Ideal) (c : Dev nD)

theorem iblk0_at (t : Fin cfg2.N) (j : Fin 8) (r : Fin 256) (d : Fin 128) (w g : Fin 32) (hw : w.val = (grid2.coords t 0).val)
    (hg : g.val = 8 * (grid2.coords t 1).val + j.val) :
    iblk W₀ c 0 t (ix4 0 j r d) = (W₀ c (Proc.devRef .tc main_v12) : S32x32x256x128.Idx → EReal) (ix4 w g r d) := by
  obtain ⟨⟨h0, h1, h2, h3⟩, -⟩ := idx_facts t
  refine congrArg (W₀ c (Proc.devRef .tc main_v12) : S32x32x256x128.Idx → EReal) ?_
  refine ext4 ?_ ?_ ?_ ?_
  · show win2_0.index t 0 * 1 + 1 * 0 = w.val; omega
  · show win2_0.index t 1 * 8 + 1 * j.val = g.val; omega
  · show win2_0.index t 2 * 256 + 1 * r.val = r.val; omega
  · show win2_0.index t 3 * 128 + 1 * d.val = d.val; omega

theorem iblk1_at (t : Fin cfg2.N) (j : Fin 8) (r : Fin 256) (d : Fin 128) (w g : Fin 32) (hw : w.val = (grid2.coords t 0).val)
    (hg : g.val = 8 * (grid2.coords t 1).val + j.val) :
    iblk W₀ c 1 t (ix4 0 j r d) = (W₀ c (Proc.devRef .tc main_v13) : S32x32x256x128.Idx → EReal) (ix4 w g r d) := by
  obtain ⟨-, ⟨h0, h1, h2, h3⟩, -⟩ := idx_facts t
  refine congrArg (W₀ c (Proc.devRef .tc main_v13) : S32x32x256x128.Idx → EReal) ?_
  refine ext4 ?_ ?_ ?_ ?_
  · show win2_1.index t 0 * 1 + 1 * 0 = w.val; omega
  · show win2_1.index t 1 * 8 + 1 * j.val = g.val; omega
  · show win2_1.index t 2 * 256 + 1 * r.val = r.val; omega
  · show win2_1.index t 3 * 128 + 1 * d.val = d.val; omega

theorem iblk2_at (t : Fin cfg2.N) (r : Fin 256) (d : Fin 128) (w : Fin 32) (hw : w.val = (grid2.coords t 0).val) :
    iblk W₀ c 2 t (ix3 0 r d) = (W₀ c (Proc.devRef .tc main_v10) : S32x256x128.Idx → EReal) (ix3 w r d) := by
  obtain ⟨-, -, ⟨h0, h1, h2⟩, -⟩ := idx_facts t
  refine congrArg (W₀ c (Proc.devRef .tc main_v10) : S32x256x128.Idx → EReal) ?_
  refine ext3 ?_ ?_ ?_
  · show win2_2.index t 0 * 1 + 1 * 0 = w.val; omega
  · show win2_2.index t 1 * 256 + 1 * r.val = r.val; omega
  · show win2_2.index t 2 * 128 + 1 * d.val = d.val; omega

theorem iblk3_at (t : Fin cfg2.N) (w : Fin 32) (hw : w.val = (grid2.coords t 0).val) :
    iblk W₀ c 3 t = fun y : S1x1x256.Idx => (W₀ c (Proc.devRef .tc main_v11) : S32x1x256.Idx → BitVec 32) (ix3 w 0 (y 2)) := by
  funext y
  obtain ⟨-, -, -, ⟨h0, h1, h2⟩, -⟩ := idx_facts t
  have y0 : (y 0).val < 1 := (y 0).isLt
  have y1 : (y 1).val < 1 := (y 1).isLt
  refine congrArg (W₀ c (Proc.devRef .tc main_v11) : S32x1x256.Idx → BitVec 32) ?_
  refine ext3 ?_ ?_ ?_
  · show win2_3.index t 0 * 1 + 1 * (y 0).val = w.val; omega
  · show win2_3.index t 1 * 1 + 1 * (y 1).val = 0; omega
  · show win2_3.index t 2 * 256 + 1 * (y 2).val = (y 2).val; omega

/-- What the call's result array is shown to hold. -/
abbrev outA : S32x32x256x64.Idx → EReal := fun i =>
  outG (W₀ c (Proc.devRef .tc main_v12)) (W₀ c (Proc.devRef .tc main_v13)) (W₀ c (Proc.devRef .tc main_v10)) (W₀ c (Proc.devRef .tc main_v11))
    (i 0) (i 1) (i 2) (i 3)

theorem flushed_eq (t : Fin cfg2.N) :
    (dat W₀ c).flushed 4 t = ((cfg2.win 4).blk t).view.read (Elt Ideal) (outA W₀ c) := by
  show (cfg2.win 4).cut (grid2.coords t) ((dat W₀ c).after 4 t) = _
  rw [after4, attnOut_eq]
  funext y
  obtain ⟨-, -, -, -, h0, h1, h2, h3⟩ := idx_facts t
  have y0 : (y 0).val < 1 := (y 0).isLt
  have y1 : (y 1).val < 8 := (y 1).isLt
  have y2 : (y 2).val < 256 := (y 2).isLt
  have y3 : (y 3).val < 64 := (y 3).isLt
  have c0 : (grid2.coords t 0).val < 32 := (grid2.coords t 0).isLt
  have c1 : (grid2.coords t 1).val < 4 := (grid2.coords t 1).isLt
  have e : ((cfg2.win 4).blk t).view.emb y
      = ix4 (⟨(grid2.coords t 0).val, c0⟩ : Fin 32) (⟨8 * (grid2.coords t 1).val + (y 1).val, by omega⟩ : Fin 32) (⟨(y 2).val, y2⟩ : Fin 256) (⟨(y 3).val, y3⟩ : Fin 64) := by
    refine ext4 ?_ ?_ ?_ ?_
    · show win2_4.index t 0 * 1 + 1 * (y 0).val = (grid2.coords t 0).val; omega
    · show win2_4.index t 1 * 8 + 1 * (y 1).val = 8 * (grid2.coords t 1).val + (y 1).val; omega
    · show win2_4.index t 2 * 256 + 1 * (y 2).val = (y 2).val; omega
    · show win2_4.index t 3 * 64 + 1 * (y 3).val = (y 3).val; omega
  show blkG (grid2.coords t) (iblk W₀ c 0 t) (iblk W₀ c 1 t) (iblk W₀ c 2 t) (iblk W₀ c 3 t) ⟨(y 1).val, y1⟩ ⟨(y 2).val, y2⟩ ⟨(y 3).val, y3⟩
    = outA W₀ c (((cfg2.win 4).blk t).view.emb y)
  rw [e]
  show _ = outG _ _ _ _ (⟨(grid2.coords t 0).val, c0⟩ : Fin 32) (⟨8 * (grid2.coords t 1).val + (y 1).val, by omega⟩ : Fin 32) (⟨(y 2).val, y2⟩ : Fin 256) (⟨(y 3).val, y3⟩ : Fin 64)
  exact blk_out (grid2.coords t) _ _ _ _ _ _ _ _ _ _ _
    (fun r d => iblk0_at W₀ c t ⟨(y 1).val, y1⟩ r d ⟨(grid2.coords t 0).val, c0⟩ ⟨8 * (grid2.coords t 1).val + (y 1).val, by omega⟩ rfl rfl)
    (fun r d => iblk1_at W₀ c t ⟨(y 1).val, y1⟩ r d ⟨(grid2.coords t 0).val, c0⟩ ⟨8 * (grid2.coords t 1).val + (y 1).val, by omega⟩ rfl rfl)
    (fun r d => iblk2_at W₀ c t r d ⟨(grid2.coords t 0).val, c0⟩ rfl)
    (iblk3_at W₀ c t ⟨(grid2.coords t 0).val, c0⟩ rfl)
    (nb_facts ⟨(grid2.coords t 1).val, c1⟩ ⟨(y 1).val, y1⟩) _ _

theorem mem_blk (t : Fin cfg2.N) (i : S32x32x256x64.Idx) (h0 : (i 0).val = (grid2.coords t 0).val) (h1 : (i 1).val / 8 = (grid2.coords t 1).val) :
    i ∈ ((cfg2.win 4).blk t).view.set := by
  show i ∈ ((View.whole main_v14).slice (win2_4.rect t)).set
  rw [View.set_slice_whole, Rect.mem_set_unit]
  obtain ⟨-, -, -, -, e0, e1, e2, e3⟩ := idx_facts t
  have i2 : (i 2).val < 256 := (i 2).isLt
  have i3 : (i 3).val < 64 := (i 3).isLt
  intro a
  match a with
  | ⟨0, _⟩ => show win2_4.index t 0 * 1 ≤ (i 0).val ∧ (i 0).val < win2_4.index t 0 * 1 + 1; omega
  | ⟨1, _⟩ => show win2_4.index t 1 * 8 ≤ (i 1).val ∧ (i 1).val < win2_4.index t 1 * 8 + 8; omega
  | ⟨2, _⟩ => show win2_4.index t 2 * 256 ≤ (i 2).val ∧ (i 2).val < win2_4.index t 2 * 256 + 256; omega
  | ⟨3, _⟩ => show win2_4.index t 3 * 64 ≤ (i 3).val ∧ (i 3).val < win2_4.index t 3 * 64 + 64; omega

theorem point_of : ∀ (a : Fin 32) (b : Fin 4), ∃ t : Fin cfg2.N, (grid2.coords t 0).val = a.val ∧ (grid2.coords t 1).val = b.val :=
  (by decide +kernel : ∀ (a : Fin 32) (b : Fin 4), ∃ t : Fin grid2.N, (grid2.coords t 0).val = a.val ∧ (grid2.coords t 1).val = b.val)

theorem cover (i : S32x32x256x64.Idx) : ∃ t : Fin cfg2.N, (cfg2.win 4).flush t = true ∧ i ∈ ((cfg2.win 4).blk t).view.set := by
  have i0 : (i 0).val < 32 := (i 0).isLt
  have i1 : (i 1).val < 32 := (i 1).isLt
  obtain ⟨t, h0, h1⟩ := point_of ⟨(i 0).val, i0⟩ ⟨(i 1).val / 8, by omega⟩
  exact ⟨t, flush2_4 t, mem_blk t i h0.symm h1.symm⟩

/-- The call's result array after the whole grid. -/
theorem arr_out : (dat W₀ c).arrAt 4 cfg2.N = outA W₀ c :=
  (dat W₀ c).arrAt_eq_of_cover 4 (outA W₀ c) (fun t _ => flushed_eq W₀ c t) cover

end Cert.Proof.Sort

end
-- ==== Proof.KArr.lean ====
/- The arrays between the lines of @main: what the attention call reads, from the arguments, and what the last lines make of
   its result. -/
module

public import proofs.«01_k».proof.Proof.PreFacts
public import proofs.«01_k».proof.Proof.RefRead
public import Idealize.ShloMosaic.Lib.Routing.Ops
public import Idealize.ShloMosaic.Lib.StableHlo.RunRead

@[expose] public section

set_option maxRecDepth 16384

noncomputable section

namespace Cert.Proof.Sort

open Cert.KernelIdeal Cert.KernelIdeal.Gen Cert.Proof.Ref Cert.Proof.Take

open Idealize.ShloMosaic
open Idealize.ShloMosaic.ValueIdx
open Idealize.ShloMosaic.TcCoe

/-! ## The rows, sorted -/

theorem flatRow {α : Type} (A : S32x8192x128.Idx → α) (w : Fin 32) (k : Fin 8192) (e : Fin 128) (n : Fin 262144) (hn : n.val = 8192 * w.val + k.val) :
    shapeCast S262144x128 A shapeCasts_S32x8192x128_S262144x128 (ix2 n e) = A (ix3 w k e) := by
  refine shapeCast_apply A _ _ _ ?_
  rw [Shape.rowMajor_val_two, Shape.rowMajor_val_three]
  show (w.val * 8192 + k.val) * 128 + e.val = n.val * 128 + e.val
  omega

/-- The scattered row at sorted position `k` of row block `w`. -/
theorem scat_row {α : Type} (p : S32x8192.Idx → BitVec 32) (σ : Fin 32 → Fin 8192 ≃ Fin 8192) (hp : Ranks p σ)
    (hP : PosAll (shapeCast S32x64x128 p shapeCasts_S32x8192_S32x64x128)) (A : S32x8192x128.Idx → α) (w : Fin 32) (k : Fin 8192) (e : Fin 128)
    (n : Fin 262144) (hn : n.val = 8192 * w.val + k.val) :
    scat (shapeCast S32x64x128 p shapeCasts_S32x8192_S32x64x128) (shapeCast S262144x128 A shapeCasts_S32x8192x128_S262144x128) (ix2 n e)
      = A (ix3 w (σ w k) e) := by
  have hk : (σ w k).val < 8192 := (σ w k).isLt
  have hx : shapeCast S32x64x128 p shapeCasts_S32x8192_S32x64x128 (ix3 w (⟨(σ w k).val / 128, by omega⟩ : Fin 64) (⟨(σ w k).val % 128, by omega⟩ : Fin 128)) = p (ix2 w (σ w k)) := by
    refine shapeCast_apply p _ _ _ ?_
    rw [Shape.rowMajor_val_two, Shape.rowMajor_val_three]
    show w.val * 8192 + (σ w k).val = (w.val * 64 + (σ w k).val / 128) * 128 + (σ w k).val % 128
    omega
  refine (scat_at hP _ (ix3 w (⟨(σ w k).val / 128, by omega⟩ : Fin 64) (⟨(σ w k).val % 128, by omega⟩ : Fin 128)) (ix2 n e) ?_).trans ?_
  · rw [hx, hp]; exact hn.symm
  · refine flatRow A w (σ w k) e _ ?_
    show 8192 * w.val + 128 * ((σ w k).val / 128) + (σ w k).val % 128 = _
    omega

theorem blockRow {α : Type} (S : S262144x128.Idx → α) (w g : Fin 32) (r : Fin 256) (e : Fin 128) (n : Fin 262144) (hn : n.val = 8192 * w.val + (g.val * 256 + r.val)) :
    shapeCast S32x32x256x128 (shapeCast S32x8192x128 S shapeCasts_S262144x128_S32x8192x128) shapeCasts_S32x8192x128_S32x32x256x128 (ix4 w g r e) = S (ix2 n e) := by
  refine (shapeCast_apply _ _ _ (ix3 w (⟨g.val * 256 + r.val, by omega⟩ : Fin 8192) e) ?_).trans (shapeCast_apply S _ _ _ ?_)
  · rw [Shape.rowMajor_val_three, Shape.rowMajor_val_four]
    show (w.val * 8192 + (g.val * 256 + r.val)) * 128 + e.val = ((w.val * 32 + g.val) * 256 + r.val) * 128 + e.val
    omega
  · rw [Shape.rowMajor_val_two, Shape.rowMajor_val_three]
    show n.val * 128 + e.val = (w.val * 8192 + (g.val * 256 + r.val)) * 128 + e.val
    omega

theorem subRow {α : Type} (S : S8192x128.Idx → α) (w : Fin 32) (c : Fin 256) (e : Fin 128) (n : Fin 8192) (hn : n.val = 256 * w.val + c.val) :
    shapeCast S32x256x128 S shapeCasts_S8192x128_S32x256x128 (ix3 w c e) = S (ix2 n e) := by
  refine shapeCast_apply S _ _ _ ?_
  rw [Shape.rowMajor_val_two, Shape.rowMajor_val_three]
  show n.val * 128 + e.val = (w.val * 256 + c.val) * 128 + e.val
  omega

/-- The sampled word of row block `b, h`, listed at `c`. -/
theorem sampWord (s : S2x16x256.Idx → BitVec 32) (b : Fin 2) (h : Fin 16) (c : Fin 256) (n : Fin 8192) (hn : n.val = 256 * (wOf b h).val + c.val) :
    shapeCast S32x2x128 (shapeCast S32x256 s shapeCasts_S2x16x256_S32x256) shapeCasts_S32x256_S32x2x128 (sampIx n) = s (ix3 b h c) := by
  have hw : (wOf b h).val = b.val * 16 + h.val := rfl
  refine (shapeCast_apply _ _ _ (ix2 (wOf b h) c) ?_).trans (shapeCast_apply s _ _ _ ?_)
  · rw [Shape.rowMajor_val_two, Shape.rowMajor_val_three]
    show (wOf b h).val * 256 + c.val = (n.val / 256 * 2 + n.val % 256 / 128) * 128 + n.val % 128
    omega
  · rw [Shape.rowMajor_val_two, Shape.rowMajor_val_three]
    show (b.val * 16 + h.val) * 256 + c.val = (wOf b h).val * 256 + c.val
    omega

theorem sampBlock (s : S2x16x256.Idx → BitVec 32) (b : Fin 2) (h : Fin 16) (c : Fin 256) :
    shapeCast S32x1x256 (shapeCast S32x256 s shapeCasts_S2x16x256_S32x256) shapeCasts_S32x256_S32x1x256 (ix3 (wOf b h) 0 c) = s (ix3 b h c) := by
  have hw : (wOf b h).val = b.val * 16 + h.val := rfl
  refine (shapeCast_apply _ _ _ (ix2 (wOf b h) c) ?_).trans (shapeCast_apply s _ _ _ ?_)
  · rw [Shape.rowMajor_val_two, Shape.rowMajor_val_three]
    show (wOf b h).val * 256 + c.val = ((wOf b h).val * 1 + 0) * 256 + c.val
    omega
  · rw [Shape.rowMajor_val_two, Shape.rowMajor_val_three]
    show (b.val * 16 + h.val) * 256 + c.val = (wOf b h).val * 256 + c.val
    omega

/-! ## The contents the attention call finds -/

variable (m : (ℓ : Loc nD τ sig) → Buf (Elt Ideal) ℓ) (d : Dev nD)

theorem V1_v3 : xqA (V1 m d) = shapeCast S262144x128 (m (d, Proc.devRef .tc main_arg0)) shapeCasts_S32x8192x128_S262144x128 := by
  unfold xqA V1 opsA
  simp only [StableHlo.after_cons, StableHlo.after_nil]
  rw [StableHlo.reshape_result', StableHlo.reshape_result_ne' (h := by decide), StableHlo.reshape_result_ne' (h := by decide),
    StableHlo.reshape_result_ne' (h := by decide)]
  rfl

theorem V3_v6 : xkA (V3 m d) = shapeCast S262144x128 (m (d, Proc.devRef .tc main_arg1)) shapeCasts_S32x8192x128_S262144x128 := by
  unfold xkA V3 opsB
  simp only [StableHlo.after_cons, StableHlo.after_nil]
  rw [StableHlo.reshape_result', StableHlo.reshape_result_ne' (h := by decide)]
  unfold V2 V1 V0
  rw [putQ_keep _ (by decide), opsA_keep _ (by decide)]
  rfl

theorem V4_v4 : V4 m d (Proc.devRef .tc main_v4) = sq (V1 m d) := by
  unfold V4 V3 V2
  rw [putK_keep _ (by decide), opsB_keep _ (by decide), putQ_v4]

theorem V4_v0 : V4 m d (Proc.devRef .tc main_v0) = V1 m d (Proc.devRef .tc main_v0) := by
  unfold V4
  rw [putK_keep _ (by decide), V3_keep m d (by decide) (by decide)]

theorem V5_v12 : V5 m d (Proc.devRef .tc main_v12)
    = shapeCast S32x32x256x128 (shapeCast S32x8192x128 (sq (V1 m d)) shapeCasts_S262144x128_S32x8192x128) shapeCasts_S32x8192x128_S32x32x256x128 := by
  unfold V5 opsC
  simp only [StableHlo.after_cons, StableHlo.after_nil]
  rw [StableHlo.reshape_result_ne' (h := by decide), StableHlo.reshape_result', StableHlo.reshape_result_ne' (h := by decide),
    StableHlo.reshape_result_ne' (h := by decide), StableHlo.reshape_result_ne' (h := by decide), StableHlo.reshape_result', V4_v4]
  rfl

theorem V5_v13 : V5 m d (Proc.devRef .tc main_v13)
    = shapeCast S32x32x256x128 (shapeCast S32x8192x128 (skv (V3 m d)) shapeCasts_S262144x128_S32x8192x128) shapeCasts_S32x8192x128_S32x32x256x128 := by
  unfold V5 opsC
  simp only [StableHlo.after_cons, StableHlo.after_nil]
  rw [StableHlo.reshape_result', StableHlo.reshape_result_ne' (h := by decide), StableHlo.reshape_result_ne' (h := by decide),
    StableHlo.reshape_result_ne' (h := by decide), StableHlo.reshape_result', StableHlo.reshape_result_ne' (h := by decide)]
  unfold V4
  rw [putK_v70]
  rfl

theorem V5_v10 : V5 m d (Proc.devRef .tc main_v10) = shapeCast S32x256x128 (ssub (V3 m d)) shapeCasts_S8192x128_S32x256x128 := by
  unfold V5 opsC
  simp only [StableHlo.after_cons, StableHlo.after_nil]
  rw [StableHlo.reshape_result_ne' (h := by decide), StableHlo.reshape_result_ne' (h := by decide), StableHlo.reshape_result_ne' (h := by decide),
    StableHlo.reshape_result', StableHlo.reshape_result_ne' (h := by decide), StableHlo.reshape_result_ne' (h := by decide)]
  unfold V4
  rw [putK_v71]
  rfl

theorem V5_v11 : V5 m d (Proc.devRef .tc main_v11)
    = shapeCast S32x1x256 (shapeCast S32x256 (m (d, Proc.devRef .tc main_arg4)) shapeCasts_S2x16x256_S32x256) shapeCasts_S32x256_S32x1x256 := by
  unfold V5 opsC
  simp only [StableHlo.after_cons, StableHlo.after_nil]
  rw [StableHlo.reshape_result_ne' (h := by decide), StableHlo.reshape_result_ne' (h := by decide), StableHlo.reshape_result',
    StableHlo.reshape_result_ne' (h := by decide), StableHlo.reshape_result_ne' (h := by decide), StableHlo.reshape_result_ne' (h := by decide),
    V4_v0, V1_v0]
  rfl

/-! ## The four arrays, at an entry -/

section Entries
variable (σ ρ : Fin 32 → Fin 8192 ≃ Fin 8192) (z : Fin 2 → Fin 16 → Fin 256 → Fin 8192)

theorem v12_entry (hp : Ranks (m (d, Proc.devRef .tc main_arg2)) σ) (hP : PosAll (pqA (V1 m d))) (w g : Fin 32) (r : Fin 256) (e : Fin 128) :
    (V5 m d (Proc.devRef .tc main_v12) : S32x32x256x128.Idx → EReal) (ix4 w g r e)
      = (m (d, Proc.devRef .tc main_arg0) : S32x8192x128.Idx → EReal) (ix3 w (σ w ⟨g.val * 256 + r.val, by omega⟩) e) := by
  rw [V1_v2] at hP
  rw [V5_v12]
  refine (blockRow _ w g r e ⟨8192 * w.val + (g.val * 256 + r.val), by omega⟩ rfl).trans ?_
  unfold sq
  rw [V1_v2, V1_v3]
  exact scat_row _ σ hp hP _ w ⟨g.val * 256 + r.val, by omega⟩ e _ rfl

theorem skv_entry (hp : Ranks (m (d, Proc.devRef .tc main_arg3)) ρ) (hP : PosAll (pkA (V3 m d))) (w : Fin 32) (k : Fin 8192) (e : Fin 128)
    (n : Fin 262144) (hn : n.val = 8192 * w.val + k.val) :
    (skv (V3 m d) : S262144x128.Idx → EReal) (ix2 n e)
      = (m (d, Proc.devRef .tc main_arg1) : S32x8192x128.Idx → EReal) (ix3 w (ρ w k) e) := by
  rw [V3_v5] at hP
  unfold skv
  rw [V3_v5, V3_v6]
  exact scat_row _ ρ hp hP _ w k e n hn

theorem v13_entry (hp : Ranks (m (d, Proc.devRef .tc main_arg3)) ρ) (hP : PosAll (pkA (V3 m d))) (w g : Fin 32) (r : Fin 256) (e : Fin 128) :
    (V5 m d (Proc.devRef .tc main_v13) : S32x32x256x128.Idx → EReal) (ix4 w g r e)
      = (m (d, Proc.devRef .tc main_arg1) : S32x8192x128.Idx → EReal) (ix3 w (ρ w ⟨g.val * 256 + r.val, by omega⟩) e) := by
  rw [V5_v13]
  refine (blockRow _ w g r e ⟨8192 * w.val + (g.val * 256 + r.val), by omega⟩ rfl).trans ?_
  exact skv_entry m d ρ hp hP w ⟨g.val * 256 + r.val, by omega⟩ e _ rfl

theorem v10_entry (hp : Ranks (m (d, Proc.devRef .tc main_arg3)) ρ) (hP : PosAll (pkA (V3 m d))) (hs : Samples (m (d, Proc.devRef .tc main_arg4)) z)
    (b : Fin 2) (h : Fin 16) (c : Fin 256) (e : Fin 128) :
    (V5 m d (Proc.devRef .tc main_v10) : S32x256x128.Idx → EReal) (ix3 (wOf b h) c e)
      = (m (d, Proc.devRef .tc main_arg1) : S32x8192x128.Idx → EReal) (ix3 (wOf b h) (ρ (wOf b h) (z b h c)) e) := by
  have hw : (wOf b h).val < 32 := (wOf b h).isLt
  have hz : (z b h c).val < 8192 := (z b h c).isLt
  rw [V5_v10]
  refine (subRow _ (wOf b h) c e ⟨256 * (wOf b h).val + c.val, by omega⟩ rfl).trans ?_
  unfold ssub subOf
  have e1 : skA (V3 m d) = skA (V1 m d) := V3_keep m d (by decide) (by decide)
  refine skv_entry m d ρ hp hP (wOf b h) (z b h c) e _ ?_
  show (8192 * ((256 * (wOf b h).val + c.val) / 256) + (skA (V3 m d) (sampIx ⟨256 * (wOf b h).val + c.val, _⟩)).toNat) % 262144 = _
  rw [e1, V1_v1, sampWord _ b h c _ rfl, hs, BitVec.toNat_ofNat]
  omega

theorem v11_entry (hs : Samples (m (d, Proc.devRef .tc main_arg4)) z) (b : Fin 2) (h : Fin 16) (c : Fin 256) :
    (V5 m d (Proc.devRef .tc main_v11) : S32x1x256.Idx → BitVec 32) (ix3 (wOf b h) 0 c) = BitVec.ofNat 32 (z b h c).val := by
  rw [V5_v11]
  exact (sampBlock _ b h c).trans (hs b h c)

end Entries

/-! ## The last lines -/

theorem inside_flat {m : ℕ} (h : m < 262144) :
    IntOp.andi (IntOp.cmpi .sge (BitVec.ofNat 32 m) 0#32) (IntOp.cmpi .sle (BitVec.ofNat 32 m) 262143#32) = 1#1 := by
  have h1 : IntOp.cmpi .sge (BitVec.ofNat 32 m) 0#32 = 1#1 := IntOp.cmpi_sge.2 (by
    rw [toInt_small (m := m) (by omega)]; exact Int.natCast_nonneg m)
  have h2 : IntOp.cmpi .sle (BitVec.ofNat 32 m) 262143#32 = 1#1 := IntOp.cmpi_sle.2 (by
    rw [toInt_small (by omega), show (262143#32 : BitVec 32).toInt = 262143 from rfl]; omega)
  rw [h1, h2]
  rfl

/-- The index words a take reads its rows at: each word, wrapped where it is negative, as a column. -/
def takeIx (p : S262144.Idx → BitVec 32) : S262144x1.Idx → BitVec 32 :=
  broadcastInDim S262144x1 ![0] bcast_S262144_S262144x1_0
    (select (cmpi .slt p (broadcastInDim S262144 ![] bcast_S_S262144 (constantI S_ 32 0#32)))
      (addi p (broadcastInDim S262144 ![] bcast_S_S262144 (constantI S_ 32 262144#32))) p)

theorem opsT_v18 (V : Valuation τ sig (Elt Ideal)) :
    StableHlo.after opsT V (Proc.devRef .tc main_v18)
      = select (α := Ideal .f32) (broadcastInDim S262144x64 ![0] bcast_S262144_S262144x64_0
          (Host.reduce IntOp.andi (andi (cmpi .sge (takeIx (V (Proc.devRef .tc main_v17))) (broadcastInDim S262144x1 ![] bcast_S_S262144x1 (constantI S_ 32 0#32)))
            (cmpi .sle (takeIx (V (Proc.devRef .tc main_v17))) (broadcastInDim S262144x1 ![0, 1] bcast_S1x1_S262144x1_0_1 (broadcastInDim S1x1 ![1] bcast_S1_S1x1_1 (constantI S1 32 262143#32)))))
            (constantI S_ 1 1#1) reducesTo_S262144x1_S262144_d1 h_S_))
        (Host.gather gather_S262144x64_S262144x1_S262144x64_1_0_n_n_0_1_164 (V (Proc.devRef .tc main_v16) : S262144x64.Idx → Ideal .f32) (takeIx (V (Proc.devRef .tc main_v17))))
        (broadcastInDim S262144x64 ![] bcast_S_S262144x64 (constant (F := Ideal) S_ .f32 0x7FC00000#32) : S262144x64.Idx → Ideal .f32) := by
  unfold opsT takeIx
  after_reads_simp
  simp only [cast_cast, cast_eq]

theorem takeIx_at (p : S262144.Idx → BitVec 32) (n t : Fin 262144) (hp : p (ix1 n) = BitVec.ofNat 32 t.val) :
    takeIx p (ix2 n 0) = BitVec.ofNat 32 t.val := by
  have ht : t.val < 2 ^ 31 := by omega
  unfold takeIx
  refine (broadcastInDim_apply _ _ _ _ (ix1 n) (fun a => ?_)).trans ?_
  · match a with
    | ⟨0, _⟩ => rfl
  · show Scalar.select (IntOp.cmpi .slt (p (ix1 n)) 0#32) (IntOp.addi (p (ix1 n)) 262144#32) (p (ix1 n)) = _
    rw [hp]
    exact wrap_small ht _

theorem mask_at (p : S262144.Idx → BitVec 32) (hall : ∀ n : Fin 262144, ∃ t : Fin 262144, p (ix1 n) = BitVec.ofNat 32 t.val) (j : S262144x1.Idx) :
    andi (cmpi .sge (takeIx p) (broadcastInDim S262144x1 ![] bcast_S_S262144x1 (constantI S_ 32 0#32)))
      (cmpi .sle (takeIx p) (broadcastInDim S262144x1 ![0, 1] bcast_S1x1_S262144x1_0_1 (broadcastInDim S1x1 ![1] bcast_S1_S1x1_1 (constantI S1 32 262143#32)))) j = 1#1 := by
  obtain ⟨t, ht⟩ := hall (j 0)
  have ej : j = ix2 (j 0) 0 := by
    have h1 : (j 1).val < 1 := (j 1).isLt
    refine ext2 rfl ?_
    show (j 1).val = 0; omega
  have h := takeIx_at p (j 0) t ht
  show IntOp.andi (IntOp.cmpi .sge (takeIx p j) 0#32) (IntOp.cmpi .sle (takeIx p j) 262143#32) = 1#1
  rw [(congrArg (takeIx p) ej).trans h]
  exact inside_flat t.isLt

/-- The rows taken, where every index word is in range. -/
theorem take_row (V : Valuation τ sig (Elt Ideal)) (n t : Fin 262144) (e : Fin 64)
    (hall : ∀ n : Fin 262144, ∃ t : Fin 262144, (V (Proc.devRef .tc main_v17) : S262144.Idx → BitVec 32) (ix1 n) = BitVec.ofNat 32 t.val)
    (hp : (V (Proc.devRef .tc main_v17) : S262144.Idx → BitVec 32) (ix1 n) = BitVec.ofNat 32 t.val) :
    (StableHlo.after opsT V (Proc.devRef .tc main_v18) : S262144x64.Idx → EReal) (ix2 n e)
      = (V (Proc.devRef .tc main_v16) : S262144x64.Idx → EReal) (ix2 t e) := by
  rw [opsT_v18]
  refine Eq.trans ?_ (Routing.gather_row gather_S262144x64_S262144x1_S262144x64_1_0_n_n_0_1_164 rfl rfl rfl rfl rfl
    (V (Proc.devRef .tc main_v16) : S262144x64.Idx → EReal) _ n e t (takeIx_at _ n t hp) (by decide))
  unfold select
  rw [broadcastInDim_apply _ _ _ _ (ix1 n) (fun a => match a with | ⟨0, _⟩ => rfl),
    Host.reduce_andi_one _ _ _ _ _ rfl (mask_at _ hall)]
  rfl

theorem V9_v19 : V9 m d (Proc.devRef .tc main_v19) = shapeCast S2x16x8192x64 (V8 m d (Proc.devRef .tc main_v18)) shapeCasts_S262144x64_S2x16x8192x64 := by
  unfold V9 opsE
  simp only [StableHlo.after_cons, StableHlo.after_nil]
  rw [StableHlo.reshape_result']
  rfl

theorem V7_v17 : V7 m d (Proc.devRef .tc main_v17) = shapeCast S262144 (m (d, Proc.devRef .tc main_arg2)) shapeCasts_S32x8192_S262144 := by
  unfold V7 opsD
  simp only [StableHlo.after_cons, StableHlo.after_nil]
  rw [StableHlo.reshape_result', StableHlo.reshape_result_ne' (h := by decide), StableHlo.reshape_result_ne' (h := by decide)]
  unfold V6
  rw [Wout_keep _ _ (arr_ne _ (by decide))]
  unfold V5 V4 V3 V2 V1 V0
  rw [opsC_keep _ (by decide), putK_keep _ (by decide), opsB_keep _ (by decide), putQ_keep _ (by decide), opsA_keep _ (by decide)]
  rfl

theorem V7_v16 : V7 m d (Proc.devRef .tc main_v16)
    = shapeCast S262144x64 (shapeCast S32x8192x64 (V6 m d (Proc.devRef .tc main_v14)) shapeCasts_S32x32x256x64_S32x8192x64) shapeCasts_S32x8192x64_S262144x64 := by
  unfold V7 opsD
  simp only [StableHlo.after_cons, StableHlo.after_nil]
  rw [StableHlo.reshape_result_ne' (h := by decide), StableHlo.reshape_result', StableHlo.reshape_result']
  rfl

theorem v17_entry (σ : Fin 32 → Fin 8192 ≃ Fin 8192) (hp : Ranks (m (d, Proc.devRef .tc main_arg2)) σ) (w : Fin 32) (k : Fin 8192)
    (n : Fin 262144) (hn : n.val = 8192 * w.val + k.val) :
    (V7 m d (Proc.devRef .tc main_v17) : S262144.Idx → BitVec 32) (ix1 n) = BitVec.ofNat 32 (8192 * w.val + ((σ w).symm k).val) := by
  have hw : w.val < 32 := w.isLt
  rw [V7_v17]
  refine (shapeCast_apply _ _ _ (ix2 w k) ?_).trans ?_
  · rw [Shape.rowMajor_val_one, Shape.rowMajor_val_two]
    show w.val * 8192 + k.val = n.val
    omega
  · have h1 := hp w ((σ w).symm k)
    rw [Equiv.apply_symm_apply] at h1
    have h2 := ((σ w).symm k).isLt
    apply BitVec.eq_of_toNat_eq
    rw [BitVec.toNat_ofNat]
    refine h1.trans ?_
    omega

/-- The result, from the attention call's result array: row `n` is the row its position names. -/
theorem v19_entry (σ : Fin 32 → Fin 8192 ≃ Fin 8192) (hp : Ranks (m (d, Proc.devRef .tc main_arg2)) σ) (b : Fin 2) (h : Fin 16) (n : Fin 8192) (e : Fin 64)
    (g : Fin 32) (r : Fin 256) (hk : ((σ (wOf b h)).symm n).val = g.val * 256 + r.val) :
    (V9 m d (Proc.devRef .tc main_v19) : S2x16x8192x64.Idx → EReal) (ix4 b h n e)
      = (V6 m d (Proc.devRef .tc main_v14) : S32x32x256x64.Idx → EReal) (ix4 (wOf b h) g r e) := by
  have hw : (wOf b h).val = b.val * 16 + h.val := rfl
  have hw' : (wOf b h).val < 32 := (wOf b h).isLt
  have hn : n.val < 8192 := n.isLt
  have hg : g.val < 32 := g.isLt
  have hr : r.val < 256 := r.isLt
  rw [V9_v19]
  refine (shapeCast_apply _ _ _ (ix2 (⟨8192 * (wOf b h).val + n.val, by omega⟩ : Fin 262144) e) ?_).trans ?_
  · rw [Shape.rowMajor_val_two, Shape.rowMajor_val_four]
    show (8192 * (wOf b h).val + n.val) * 64 + e.val = ((b.val * 16 + h.val) * 8192 + n.val) * 64 + e.val
    omega
  unfold V8
  refine (take_row _ _ (⟨8192 * (wOf b h).val + (g.val * 256 + r.val), by omega⟩ : Fin 262144) e ?_ ?_).trans ?_
  · exact fun n' => ⟨⟨8192 * (n'.val / 8192) + ((σ ⟨n'.val / 8192, by omega⟩).symm ⟨n'.val % 8192, by omega⟩).val, by omega⟩,
      v17_entry m d σ hp ⟨n'.val / 8192, by omega⟩ ⟨n'.val % 8192, by omega⟩ n' (by show n'.val = 8192 * (n'.val / 8192) + n'.val % 8192; omega)⟩
  · rw [v17_entry m d σ hp (wOf b h) n _ rfl, hk]
  · rw [V7_v16]
    refine (shapeCast_apply _ _ _ (ix3 (wOf b h) (⟨g.val * 256 + r.val, by omega⟩ : Fin 8192) e) ?_).trans (shapeCast_apply (s := S32x32x256x64) _ _ _ (ix4 (wOf b h) g r e) ?_)
    · rw [Shape.rowMajor_val_two, Shape.rowMajor_val_three]
      show ((wOf b h).val * 8192 + (g.val * 256 + r.val)) * 64 + e.val = (8192 * (wOf b h).val + (g.val * 256 + r.val)) * 64 + e.val
      omega
    · rw [Shape.rowMajor_val_three, Shape.rowMajor_val_four]
      show (((wOf b h).val * 32 + g.val) * 256 + r.val) * 64 + e.val = ((wOf b h).val * 8192 + (g.val * 256 + r.val)) * 64 + e.val
      omega

end Cert.Proof.Sort

end
-- ==== Proof.RefRows.lean ====
/- The reference's result row, read at an index: block scores, residual scores, and how the two attentions are joined. -/
module

public import proofs.«01_k».proof.Proof.RefRead
public import proofs.«01_k».proof.Proof.RowMath
public import Idealize.ShloMosaic.Lib.Pointwise.Reduce

@[expose] public section

noncomputable section

namespace Cert.Proof.Ref

open Cert.ReferenceIdeal Cert.ReferenceIdeal.Gen Cert.ReferenceIdeal.Read Cert.Proof.Take Cert.Proof.Sort

open Idealize.ShloMosaic hiding ix1 ix2 ix3 ix4 ix5
open Idealize.ShloMosaic.ValueIdx

/-- Signed division of a small word by 256. -/
theorem div256 {m : ℕ} (h : m < 8192) : IntOp.divsi .host (BitVec.ofNat 32 m) 256#32 = BitVec.ofNat 32 (m / 256) := by
  have hm : (BitVec.ofNat 32 m).msb = false := by
    rw [BitVec.msb_eq_false_iff_two_mul_lt, BitVec.toNat_ofNat]; omega
  have hk : (256#32).msb = false := by decide
  unfold IntOp.divsi
  rw [if_neg (IntOp.not_corner_of_pos (by decide)), BitVec.sdiv_eq, hm, hk]
  apply BitVec.eq_of_toNat_eq
  show (BitVec.ofNat 32 m / 256#32).toNat = _
  have h256 : 256 % 2 ^ 32 = 256 := by decide
  rw [BitVec.toNat_udiv, BitVec.toNat_ofNat, BitVec.toNat_ofNat, BitVec.toNat_ofNat, h256, Nat.mod_eq_of_lt (by omega), Nat.mod_eq_of_lt (by omega)]

/-- The reference's floor division by 256 of a small word. -/
theorem floorDiv {m : ℕ} (h : m < 8192) (s : BitVec 32) (hs : s = 1#32) (sg : BitVec 32) (hsg : m ≠ 0 → sg = 1#32) :
    Scalar.select (IntOp.andi (IntOp.cmpi .ne sg s) (IntOp.cmpi .ne (IntOp.remsi .host (BitVec.ofNat 32 m) 256#32) 0#32))
      (IntOp.subi (IntOp.divsi .host (BitVec.ofNat 32 m) 256#32) 1#32) (IntOp.divsi .host (BitVec.ofNat 32 m) 256#32)
      = BitVec.ofNat 32 (m / 256) := by
  refine floor256 h _ _ _ _ (div256 h) (fun e => ?_) (fun e => ?_)
  · by_contra hm
    exact IntOp.cmpi_ne.1 e (by rw [hsg hm, hs])
  · subst e; decide

theorem sign_pos {s : Shape} (x : IVec s 32) (i : s.Idx) {m : ℕ} (h : m < 8192) (hx : x i = BitVec.ofNat 32 m) (h0 : m ≠ 0) : signi x i = 1#32 := by
  have h1 : (BitVec.ofNat 32 m) ≠ 0 := by
    intro e
    have := congrArg BitVec.toNat e
    rw [BitVec.toNat_ofNat] at this
    simp at this
    omega
  have h2 : (BitVec.ofNat 32 m).msb = false := by
    rw [BitVec.msb_eq_false_iff_two_mul_lt, BitVec.toNat_ofNat]; omega
  unfold signi
  rw [hx, if_neg h1, h2]
  rfl

theorem sign256 {s : Shape} (x : IVec s 32) (i : s.Idx) (hx : x i = 256#32) : signi x i = 1#32 := by
  unfold signi
  rw [hx]
  decide

/-- The position of element `r` of block `g`. -/
abbrev pos (g : Fin 32) (r : Fin 256) : Fin 8192 := ⟨g.val * 256 + r.val, by omega⟩

theorem zeroBits : Ideal.ofBits .f32 0x00000000#32 = 0 := by simp [Ideal.ofBits, Ideal.ieee]

theorem oneBits : Ideal.ofBits .f32 0x3F800000#32 = 1 := Ideal.ofBits_one_f32

theorem max_r5 (x : (⟨5, ![2, 16, 32, 256, 256]⟩ : Shape).Idx → EReal) (init : S_.Idx → EReal) (h : (⟨5, ![2, 16, 32, 256, 256]⟩ : Shape).ReducesTo [4] S2x16x32x256) (hu : 0 < S_.numel)
    (b : Fin 2) (hh : Fin 16) (g : Fin 32) (r : Fin 256) (e : EReal) (he : init (Shape.Idx.first hu) = e) :
    Host.reduce (max : EReal → EReal → EReal) x init h hu (ix4 b hh g r) = Finset.univ.fold max e (fun k : Fin 256 => x (ix5 b hh g r k)) := by
  rw [Host.reduce_eq_fold, he]
  exact (h.fold_fiber_r5_a4 (ix4 b hh g r) max _ x).trans (Finset.fold_congr fun k _ => congrArg x (ext5 rfl rfl rfl rfl rfl))

theorem max_r4 (x : (⟨4, ![2, 16, 8192, 256]⟩ : Shape).Idx → EReal) (init : S_.Idx → EReal) (h : (⟨4, ![2, 16, 8192, 256]⟩ : Shape).ReducesTo [3] S2x16x8192) (hu : 0 < S_.numel)
    (b : Fin 2) (hh : Fin 16) (p : Fin 8192) (e : EReal) (he : init (Shape.Idx.first hu) = e) :
    Host.reduce (max : EReal → EReal → EReal) x init h hu (ix3 b hh p) = Finset.univ.fold max e (fun k : Fin 256 => x (ix4 b hh p k)) := by
  rw [Host.reduce_eq_fold, he]
  exact (h.fold_fiber_r4_a3 (ix3 b hh p) max _ x).trans (Finset.fold_congr fun k _ => congrArg x (ext4 rfl rfl rfl rfl))

variable (x0 x1 : (⟨S32x8192x128, .f32⟩ : BufTy).Contents (Elt Ideal)) (x2 x3 : (⟨S32x8192, .i32⟩ : BufTy).Contents (Elt Ideal))
  (x4 : (⟨S2x16x256, .i32⟩ : BufTy).Contents (Elt Ideal))

variable {σ ρ : Fin 32 → Fin 8192 ≃ Fin 8192} {z : Fin 2 → Fin 16 → Fin 256 → Fin 8192}

/-- The score of the query at sorted position `p` against the key at sorted position `k`, in row `w`. -/
def scoreAt (x0 x1 : S32x8192x128.Idx → EReal) (σ ρ : Fin 32 → Fin 8192 ≃ Fin 8192) (w : Fin 32) (p k : Fin 8192) : EReal :=
  (∑ d : Fin 64, x0 (ix3 w (σ w p) ⟨d.val, by omega⟩) * x1 (ix3 w (ρ w k) ⟨d.val, by omega⟩)) * Ideal.ofBits .f32 0x3E000000#32

/-- The value at sorted position `k`. -/
def valueAt (x1 : S32x8192x128.Idx → EReal) (ρ : Fin 32 → Fin 8192 ≃ Fin 8192) (w : Fin 32) (d : Fin 64) (k : Fin 8192) : EReal :=
  x1 (ix3 w (ρ w k) ⟨64 + d.val, by omega⟩)

/-- What a sampled key's score is lowered by when the key lies in the query's own block. -/
def biasAt (p k : Fin 8192) : EReal :=
  if k.val / 256 = p.val / 256 then Ideal.ofBits .f32 0xFF7FFFFF#32 else 0

/-- The scores against the query's own block. -/
abbrev blkS (x0 x1 : S32x8192x128.Idx → EReal) (σ ρ : Fin 32 → Fin 8192 ≃ Fin 8192) (w : Fin 32) (g : Fin 32) (r c : Fin 256) : EReal :=
  scoreAt x0 x1 σ ρ w (pos g r) (pos g c)

/-- The scores against the sampled keys. -/
abbrev resS (x0 x1 : S32x8192x128.Idx → EReal) (σ ρ : Fin 32 → Fin 8192 ≃ Fin 8192) (w : Fin 32) (y : Fin 256 → Fin 8192) (p : Fin 8192) (c : Fin 256) : EReal :=
  scoreAt x0 x1 σ ρ w p (y c) + biasAt p (y c)

theorem v28_at (b : Fin 2) (h : Fin 16) (g : Fin 32) (r : Fin 256) (d : Fin 64) :
    val_main_v28 (F := Ideal) x0 x2 (ix5 b h g r d) = val_main_v23 (F := Ideal) x0 x2 (ix4 b h (pos g r) d) := by
  rw [val_main_v28_apply]
  refine congrArg (val_main_v23 (F := Ideal) x0 x2) (ext4 ?_ ?_ ?_ ?_)
  · show ((((b.val * 16 + h.val) * 32 + g.val) * 256 + r.val) * 64 + d.val) / 8388608 = b.val; omega
  · show ((((b.val * 16 + h.val) * 32 + g.val) * 256 + r.val) * 64 + d.val) / 524288 % 16 = h.val; omega
  · show ((((b.val * 16 + h.val) * 32 + g.val) * 256 + r.val) * 64 + d.val) / 64 % 8192 = g.val * 256 + r.val; omega
  · show ((((b.val * 16 + h.val) * 32 + g.val) * 256 + r.val) * 64 + d.val) % 64 = d.val; omega

theorem v29_at (b : Fin 2) (h : Fin 16) (g : Fin 32) (r : Fin 256) (d : Fin 64) :
    val_main_v29 (F := Ideal) x1 x3 (ix5 b h g r d) = val_main_v25 (F := Ideal) x1 x3 (ix4 b h (pos g r) d) := by
  rw [val_main_v29_apply]
  refine congrArg (val_main_v25 (F := Ideal) x1 x3) (ext4 ?_ ?_ ?_ ?_)
  · show ((((b.val * 16 + h.val) * 32 + g.val) * 256 + r.val) * 64 + d.val) / 8388608 = b.val; omega
  · show ((((b.val * 16 + h.val) * 32 + g.val) * 256 + r.val) * 64 + d.val) / 524288 % 16 = h.val; omega
  · show ((((b.val * 16 + h.val) * 32 + g.val) * 256 + r.val) * 64 + d.val) / 64 % 8192 = g.val * 256 + r.val; omega
  · show ((((b.val * 16 + h.val) * 32 + g.val) * 256 + r.val) * 64 + d.val) % 64 = d.val; omega

theorem v30_at (b : Fin 2) (h : Fin 16) (g : Fin 32) (r : Fin 256) (d : Fin 64) :
    val_main_v30 (F := Ideal) x1 x3 (ix5 b h g r d) = val_main_v27 (F := Ideal) x1 x3 (ix4 b h (pos g r) d) := by
  rw [val_main_v30_apply]
  refine congrArg (val_main_v27 (F := Ideal) x1 x3) (ext4 ?_ ?_ ?_ ?_)
  · show ((((b.val * 16 + h.val) * 32 + g.val) * 256 + r.val) * 64 + d.val) / 8388608 = b.val; omega
  · show ((((b.val * 16 + h.val) * 32 + g.val) * 256 + r.val) * 64 + d.val) / 524288 % 16 = h.val; omega
  · show ((((b.val * 16 + h.val) * 32 + g.val) * 256 + r.val) * 64 + d.val) / 64 % 8192 = g.val * 256 + r.val; omega
  · show ((((b.val * 16 + h.val) * 32 + g.val) * 256 + r.val) * 64 + d.val) % 64 = d.val; omega

/-- A score inside a block. -/
theorem v33_at (h2 : Ranks x2 σ) (h3 : Ranks x3 ρ) (b : Fin 2) (h : Fin 16) (g : Fin 32) (r c : Fin 256) :
    val_main_v33 (F := Ideal) x0 x1 x2 x3 (ix5 b h g r c) = blkS x0 x1 σ ρ (wOf b h) g r c := by
  have el : ∀ k : Fin 64, lidx_main_v31 (ix5 b h g r c) k = ix5 b h g r k := fun k => ext5 rfl rfl rfl rfl rfl
  have er : ∀ k : Fin 64, ridx_main_v31 (ix5 b h g r c) k = ix5 b h g c k := fun k => ext5 rfl rfl rfl rfl rfl
  rw [val_main_v33_apply, val_main_v31_apply, val_main_v32_apply, val_main_cst_apply]
  have es : (∑ k : Fin 64, (val_main_v28 (F := Ideal) x0 x2) (lidx_main_v31 (ix5 b h g r c) k) * (val_main_v29 (F := Ideal) x1 x3) (ridx_main_v31 (ix5 b h g r c) k))
      = ∑ d : Fin 64, x0 (ix3 (wOf b h) (σ (wOf b h) (pos g r)) ⟨d.val, by omega⟩) * x1 (ix3 (wOf b h) (ρ (wOf b h) (pos g c)) ⟨d.val, by omega⟩) := by
    refine Finset.sum_congr rfl fun k _ => ?_
    rw [el, er, v28_at, v29_at, v23_at x0 x2 h2, v25_at x1 x3 h3]
  rw [es]
  rfl

theorem v62_at (p : Fin 8192) : val_main_v62 (F := Ideal) (ix1 p) = BitVec.ofNat 32 (p.val / 256) := by
  rw [val_main_v62_apply, val_main_call7_v11_apply, val_main_call7_v13_apply, val_main_call7_v6_apply, val_main_call7_v10_apply,
    val_main_call7_v8_apply, val_main_call7_v2_apply, val_main_v61_apply, val_main_call7_v1_apply, val_main_call7_v7_apply,
    val_main_call7_v0_apply, val_main_c_6_apply, val_main_call7_v9_apply, val_main_call7_c_apply, val_main_call7_v12_apply,
    val_main_call7_c_0_apply, val_main_call7_v5_apply]
  exact floorDiv p.isLt _ (sign256 _ _ rfl) _ (fun e => sign_pos _ _ p.isLt rfl e)

theorem v64_at (h4 : Samples x4 z) (b : Fin 2) (h : Fin 16) (c : Fin 256) :
    val_main_v64 (F := Ideal) x4 (ix3 b h c) = BitVec.ofNat 32 ((z b h c).val / 256) := by
  rw [val_main_v64_apply, val_main_call8_v11_apply, val_main_call8_v13_apply, val_main_call8_v6_apply, val_main_call8_v10_apply,
    val_main_call8_v8_apply, val_main_call8_v2_apply, val_main_call8_v1_apply, val_main_call8_v7_apply,
    val_main_call8_v0_apply, val_main_c_7_apply, val_main_call8_v9_apply, val_main_call8_c_apply, val_main_call8_v12_apply,
    val_main_call8_c_0_apply, val_main_call8_v5_apply, h4]
  exact floorDiv (z b h c).isLt _ (sign256 _ _ rfl) _ (fun e => sign_pos _ _ (z b h c).isLt (h4 b h c) e)

theorem v69_at (h4 : Samples x4 z) (b : Fin 2) (h : Fin 16) (p : Fin 8192) (c : Fin 256) :
    val_main_v69 (F := Ideal) x4 (ix4 b h p c) = biasAt p (z b h c) := by
  have e1 : idx_main_v63 (idx_main_v66 (ix4 b h p c)) = ix1 p := ext1 rfl
  have e2 : idx_main_v65 (idx_main_v67 (ix4 b h p c)) = ix3 b h c := ext3 rfl rfl rfl
  rw [val_main_v69_apply, val_main_v68_apply, val_main_v66_apply, val_main_v63_apply, e1, v62_at, val_main_v67_apply, val_main_v65_apply, e2,
    v64_at x4 h4, val_main_call9_v1_apply, val_main_cst_8_apply, val_main_call9_v2_apply, val_main_call9_v0_apply, val_main_cst_9_apply]
  unfold biasAt
  by_cases hk : (z b h c).val / 256 = p.val / 256
  · rw [if_pos hk, hk, IntOp.cmpi_eq.2 rfl]; rfl
  · have hne : IntOp.cmpi .eq (BitVec.ofNat 32 (p.val / 256)) (BitVec.ofNat 32 ((z b h c).val / 256)) = 0#1 :=
      ValueIdx.eq_zero_of_ne_one fun e => by
        have := congrArg BitVec.toNat (IntOp.cmpi_eq.1 e)
        rw [BitVec.toNat_ofNat, BitVec.toNat_ofNat] at this
        omega
    rw [if_neg hk, hne]
    exact zeroBits

/-- A score against a sampled key. -/
theorem v73_at (h2 : Ranks x2 σ) (h3 : Ranks x3 ρ) (h4 : Samples x4 z) (b : Fin 2) (h : Fin 16) (p : Fin 8192) (c : Fin 256) :
    val_main_v73 (F := Ideal) x0 x1 x2 x3 x4 (ix4 b h p c) = resS x0 x1 σ ρ (wOf b h) (z b h) p c := by
  have el : ∀ k : Fin 64, lidx_main_v70 (ix4 b h p c) k = ix4 b h p k := fun k => ext4 rfl rfl rfl rfl
  have er : ∀ k : Fin 64, ridx_main_v70 (ix4 b h p c) k = ix4 b h c k := fun k => ext4 rfl rfl rfl rfl
  rw [val_main_v73_apply, val_main_v72_apply, val_main_v70_apply, val_main_v71_apply, val_main_cst_10_apply, v69_at x4 h4]
  have es : (∑ k : Fin 64, (val_main_v23 (F := Ideal) x0 x2) (lidx_main_v70 (ix4 b h p c) k) * (val_main_v58 (F := Ideal) x1 x3 x4) (ridx_main_v70 (ix4 b h p c) k))
      = ∑ d : Fin 64, x0 (ix3 (wOf b h) (σ (wOf b h) p) ⟨d.val, by omega⟩) * x1 (ix3 (wOf b h) (ρ (wOf b h) (z b h c)) ⟨d.val, by omega⟩) := by
    refine Finset.sum_congr rfl fun k _ => ?_
    rw [el, er, v23_at x0 x2 h2, v58_at x1 x3 x4 h3 h4]
  rw [es]
  rfl

section block

variable {x0 x1 : (⟨S32x8192x128, .f32⟩ : BufTy).Contents (Elt Ideal)} {x2 x3 : (⟨S32x8192, .i32⟩ : BufTy).Contents (Elt Ideal)}
  {b : Fin 2} {h : Fin 16} {g : Fin 32} {r : Fin 256} {s : Fin 256 → EReal}
  (hs : ∀ c, val_main_v33 (F := Ideal) x0 x1 x2 x3 (ix5 b h g r c) = s c)

include hs

theorem v34_at : val_main_v34 (F := Ideal) x0 x1 x2 x3 (ix4 b h g r) = rowMax s := by
  unfold val_main_v34
  refine (max_r5 _ _ _ _ b h g r _ rfl).trans ?_
  exact Finset.fold_congr fun k _ => hs k

theorem v43_at : val_main_v43 (F := Ideal) x0 x1 x2 x3 (ix4 b h g r) = rowMax s := by
  unfold val_main_v43
  refine (max_r5 _ _ _ _ b h g r _ rfl).trans ?_
  exact Finset.fold_congr fun k _ => hs k

theorem v38_at (c : Fin 256) : val_main_v38 (F := Ideal) x0 x1 x2 x3 (ix5 b h g r c) = wts s (rowMax s) c := by
  have e : idx_main_v35 (idx_main_v36 (ix5 b h g r c)) = ix4 b h g r := ext4 rfl rfl rfl rfl
  rw [val_main_v38_apply, val_main_v37_apply, val_main_v36_apply, val_main_v35_apply, e, v34_at hs, hs]
  rfl

theorem v42_at : val_main_v42 (F := Ideal) x0 x1 x2 x3 (ix5 b h g r 0) = Ideal.log (∑ x, wts s (rowMax s) x) + rowMax s := by
  have e : idx_main_v40 (ix5 b h g r 0) = ix4 b h g r := ext4 rfl rfl rfl rfl
  have e' : idx_main_v35 (ix5 b h g r 0) = ix4 b h g r := ext4 rfl rfl rfl rfl
  have ek : ∀ k : Fin 256, idx_main_v39 (ix4 b h g r) k = ix5 b h g r k := fun k => ext5 rfl rfl rfl rfl rfl
  have e39 : val_main_v39 (F := Ideal) x0 x1 x2 x3 (ix4 b h g r) = ∑ x, wts s (rowMax s) x := by
    rw [val_main_v39_apply, val_main_cst_2_apply]
    refine (congrArg (· + _) zeroBits).trans ((zero_add _).trans ?_)
    exact Finset.sum_congr rfl fun k _ => (congrArg _ (ek k)).trans (v38_at hs k)
  rw [val_main_v42_apply, val_main_v41_apply, val_main_v40_apply, e, e39, val_main_v35_apply, e', v34_at hs]
  rfl

theorem v45_at : val_main_v45 (F := Ideal) x0 x1 x2 x3 (ix4 b h g r) = refMax s := by
  rw [val_main_v45_apply, val_main_v44_apply, val_main_cst_4_apply, v43_at hs]
  rfl

theorem v49_at (c : Fin 256) : val_main_v49 (F := Ideal) x0 x1 x2 x3 (ix5 b h g r c) = wts s (refMax s) c := by
  have e : idx_main_v46 (idx_main_v47 (ix5 b h g r c)) = ix4 b h g r := ext4 rfl rfl rfl rfl
  rw [val_main_v49_apply, val_main_v48_apply, val_main_v47_apply, val_main_v46_apply, e, v45_at hs, hs]
  rfl

theorem v53_at (c : Fin 256) : val_main_v53 (F := Ideal) x0 x1 x2 x3 (ix5 b h g r c)
    = Ideal.div (wts s (refMax s) c) (∑ y, wts s (refMax s) y) := by
  have e : idx_main_v51 (idx_main_v52 (ix5 b h g r c)) = ix4 b h g r := ext4 rfl rfl rfl rfl
  have ek : ∀ k : Fin 256, idx_main_v50 (ix4 b h g r) k = ix5 b h g r k := fun k => ext5 rfl rfl rfl rfl rfl
  have e50 : val_main_v50 (F := Ideal) x0 x1 x2 x3 (ix4 b h g r) = ∑ x, wts s (refMax s) x := by
    rw [val_main_v50_apply, val_main_cst_5_apply]
    refine (congrArg (· + _) zeroBits).trans ((zero_add _).trans ?_)
    exact Finset.sum_congr rfl fun k _ => (congrArg _ (ek k)).trans (v49_at hs k)
  rw [val_main_v53_apply, val_main_v52_apply, val_main_v51_apply, e, e50, v49_at hs]
  rfl

/-- The block's attention. -/
theorem v55_at (h3 : Ranks x3 ρ) (d : Fin 64) : val_main_v55 (F := Ideal) x0 x1 x2 x3 (ix4 b h (pos g r) d)
    = ∑ c, Ideal.div (wts s (refMax s) c) (∑ y, wts s (refMax s) y) * valueAt x1 ρ (wOf b h) d (pos g c) := by
  have e : idx_main_v55 (ix4 b h (pos g r) d) = ix5 b h g r d := by
    apply ext5
    · show (((b.val * 16 + h.val) * 8192 + (g.val * 256 + r.val)) * 64 + d.val) / 8388608 = b.val; omega
    · show (((b.val * 16 + h.val) * 8192 + (g.val * 256 + r.val)) * 64 + d.val) / 524288 % 16 = h.val; omega
    · show (((b.val * 16 + h.val) * 8192 + (g.val * 256 + r.val)) * 64 + d.val) / 16384 % 32 = g.val; omega
    · show (((b.val * 16 + h.val) * 8192 + (g.val * 256 + r.val)) * 64 + d.val) / 64 % 256 = r.val; omega
    · show (((b.val * 16 + h.val) * 8192 + (g.val * 256 + r.val)) * 64 + d.val) % 64 = d.val; omega
  have el : ∀ k : Fin 256, lidx_main_v54 (ix5 b h g r d) k = ix5 b h g r k := fun k => ext5 rfl rfl rfl rfl rfl
  have er : ∀ k : Fin 256, ridx_main_v54 (ix5 b h g r d) k = ix5 b h g k d := fun k => ext5 rfl rfl rfl rfl rfl
  rw [val_main_v55_apply, e, val_main_v54_apply]
  refine Finset.sum_congr rfl fun k _ => ?_
  rw [el, er, v53_at hs, v30_at, v27_at x1 x3 h3]
  rfl

theorem v56_at : val_main_v56 (F := Ideal) x0 x1 x2 x3 (ix4 b h (pos g r) 0) = Ideal.log (∑ x, wts s (rowMax s) x) + rowMax s := by
  have e : idx_main_v56 (ix4 b h (pos g r) 0) = ix5 b h g r 0 := by
    apply ext5
    · show (((b.val * 16 + h.val) * 8192 + (g.val * 256 + r.val)) * 1 + 0) / 131072 = b.val; omega
    · show (((b.val * 16 + h.val) * 8192 + (g.val * 256 + r.val)) * 1 + 0) / 8192 % 16 = h.val; omega
    · show (((b.val * 16 + h.val) * 8192 + (g.val * 256 + r.val)) * 1 + 0) / 256 % 32 = g.val; omega
    · show (((b.val * 16 + h.val) * 8192 + (g.val * 256 + r.val)) * 1 + 0) / 1 % 256 = r.val; omega
    · rfl
  rw [val_main_v56_apply, e, v42_at hs]

end block

section residual

variable {x0 x1 : (⟨S32x8192x128, .f32⟩ : BufTy).Contents (Elt Ideal)} {x2 x3 : (⟨S32x8192, .i32⟩ : BufTy).Contents (Elt Ideal)}
  {x4 : (⟨S2x16x256, .i32⟩ : BufTy).Contents (Elt Ideal)}
  {b : Fin 2} {h : Fin 16} {p : Fin 8192} {t : Fin 256 → EReal}
  (ht : ∀ c, val_main_v73 (F := Ideal) x0 x1 x2 x3 x4 (ix4 b h p c) = t c)

include ht

theorem v74_at : val_main_v74 (F := Ideal) x0 x1 x2 x3 x4 (ix3 b h p) = rowMax t := by
  unfold val_main_v74
  refine (max_r4 _ _ _ _ b h p _ rfl).trans ?_
  exact Finset.fold_congr fun k _ => ht k

theorem v85_at : val_main_v85 (F := Ideal) x0 x1 x2 x3 x4 (ix3 b h p) = rowMax t := by
  unfold val_main_v85
  refine (max_r4 _ _ _ _ b h p _ rfl).trans ?_
  exact Finset.fold_congr fun k _ => ht k

theorem v78_at (c : Fin 256) : val_main_v78 (F := Ideal) x0 x1 x2 x3 x4 (ix4 b h p c) = wts t (rowMax t) c := by
  have e : idx_main_v75 (idx_main_v76 (ix4 b h p c)) = ix3 b h p := ext3 rfl rfl rfl
  rw [val_main_v78_apply, val_main_v77_apply, val_main_v76_apply, val_main_v75_apply, e, v74_at ht, ht]
  rfl

theorem v84_at : val_main_v84 (F := Ideal) x0 x1 x2 x3 x4 (ix4 b h p 0)
    = Ideal.log (∑ x, wts t (rowMax t) x) + rowMax t + Ideal.ofBits .f32 0x405DCE9E#32 := by
  have e : idx_main_v80 (ix4 b h p 0) = ix3 b h p := ext3 rfl rfl rfl
  have e' : idx_main_v75 (ix4 b h p 0) = ix3 b h p := ext3 rfl rfl rfl
  have ek : ∀ k : Fin 256, idx_main_v79 (ix3 b h p) k = ix4 b h p k := fun k => ext4 rfl rfl rfl rfl
  have e79 : val_main_v79 (F := Ideal) x0 x1 x2 x3 x4 (ix3 b h p) = ∑ x, wts t (rowMax t) x := by
    rw [val_main_v79_apply, val_main_cst_12_apply]
    refine (congrArg (· + _) zeroBits).trans ((zero_add _).trans ?_)
    exact Finset.sum_congr rfl fun k _ => (congrArg _ (ek k)).trans (v78_at ht k)
  rw [val_main_v84_apply, val_main_v82_apply, val_main_v81_apply, val_main_v80_apply, e, e79, val_main_v75_apply, e', v74_at ht,
    val_main_v83_apply, val_main_cst_13_apply]
  rfl

theorem v87_at : val_main_v87 (F := Ideal) x0 x1 x2 x3 x4 (ix3 b h p) = refMax t := by
  rw [val_main_v87_apply, val_main_v86_apply, val_main_cst_15_apply, v85_at ht]
  rfl

theorem v91_at (c : Fin 256) : val_main_v91 (F := Ideal) x0 x1 x2 x3 x4 (ix4 b h p c) = wts t (refMax t) c := by
  have e : idx_main_v88 (idx_main_v89 (ix4 b h p c)) = ix3 b h p := ext3 rfl rfl rfl
  rw [val_main_v91_apply, val_main_v90_apply, val_main_v89_apply, val_main_v88_apply, e, v87_at ht, ht]
  rfl

theorem v95_at (c : Fin 256) : val_main_v95 (F := Ideal) x0 x1 x2 x3 x4 (ix4 b h p c)
    = Ideal.div (wts t (refMax t) c) (∑ y, wts t (refMax t) y) := by
  have e : idx_main_v93 (idx_main_v94 (ix4 b h p c)) = ix3 b h p := ext3 rfl rfl rfl
  have ek : ∀ k : Fin 256, idx_main_v92 (ix3 b h p) k = ix4 b h p k := fun k => ext4 rfl rfl rfl rfl
  have e92 : val_main_v92 (F := Ideal) x0 x1 x2 x3 x4 (ix3 b h p) = ∑ x, wts t (refMax t) x := by
    rw [val_main_v92_apply, val_main_cst_16_apply]
    refine (congrArg (· + _) zeroBits).trans ((zero_add _).trans ?_)
    exact Finset.sum_congr rfl fun k _ => (congrArg _ (ek k)).trans (v91_at ht k)
  rw [val_main_v95_apply, val_main_v94_apply, val_main_v93_apply, e, e92, v91_at ht]
  rfl

/-- The attention over the sampled keys. -/
theorem v96_at (h3 : Ranks x3 ρ) (h4 : Samples x4 z) (d : Fin 64) : val_main_v96 (F := Ideal) x0 x1 x2 x3 x4 (ix4 b h p d)
    = ∑ c, Ideal.div (wts t (refMax t) c) (∑ y, wts t (refMax t) y) * valueAt x1 ρ (wOf b h) d (z b h c) := by
  have el : ∀ k : Fin 256, lidx_main_v96 (ix4 b h p d) k = ix4 b h p k := fun k => ext4 rfl rfl rfl rfl
  have er : ∀ k : Fin 256, ridx_main_v96 (ix4 b h p d) k = ix4 b h k d := fun k => ext4 rfl rfl rfl rfl
  rw [val_main_v96_apply]
  refine Finset.sum_congr rfl fun k _ => ?_
  rw [el, er, v95_at ht, v60_at x1 x3 x4 h3 h4]
  rfl

end residual

/-- The row computed at position `r` of block `g`. -/
theorem v109_at (h2 : Ranks x2 σ) (h3 : Ranks x3 ρ) (h4 : Samples x4 z) (b : Fin 2) (h : Fin 16) (g : Fin 32) (r : Fin 256) (d : Fin 64) :
    val_main_v109 (F := Ideal) x0 x1 x2 x3 x4 (ix4 b h (pos g r) d)
      = refRow (blkS x0 x1 σ ρ (wOf b h) g r) (fun c => valueAt x1 ρ (wOf b h) d (pos g c))
          (resS x0 x1 σ ρ (wOf b h) (z b h) (pos g r)) (fun c => valueAt x1 ρ (wOf b h) d (z b h c)) := by
  have hs := fun c => v33_at x0 x1 x2 x3 h2 h3 b h g r c
  have ht := fun c => v73_at x0 x1 x2 x3 x4 h2 h3 h4 b h (pos g r) c
  have e3 : idx_main_v103 (ix4 b h (pos g r) d) = ix4 b h (pos g r) 0 := ext4 rfl rfl rfl rfl
  have e7 : idx_main_v107 (ix4 b h (pos g r) d) = ix4 b h (pos g r) 0 := ext4 rfl rfl rfl rfl
  have e102 : val_main_v102 (F := Ideal) x0 x1 x2 x3 x4 (ix4 b h (pos g r) 0)
      = refShare (blkS x0 x1 σ ρ (wOf b h) g r) (resS x0 x1 σ ρ (wOf b h) (z b h) (pos g r)) := by
    rw [val_main_v102_apply, val_main_v101_apply, val_main_cst_18_apply, val_main_v100_apply, val_main_v99_apply, val_main_cst_17_apply,
      val_main_v98_apply, val_main_v97_apply, v84_at ht, v56_at hs]
    unfold refShare
    rw [← oneBits]
    rfl
  rw [val_main_v109_apply, val_main_v104_apply, val_main_v103_apply, e3, e102, v55_at hs h3, val_main_v108_apply, val_main_v107_apply, e7,
    val_main_v106_apply, e102, val_main_v105_apply, val_main_cst_19_apply, v96_at ht h3 h4]
  unfold refRow
  rw [← oneBits]
  rfl

end Cert.Proof.Ref
-- ==== Proof.Agree.lean ====
/- The kernel's result is the reference's, entry by entry, where the rows of the query and the key are real numbers. -/
module

public import proofs.«01_k».proof.Proof.ArrOut
public import proofs.«01_k».proof.Proof.KArr
public import proofs.«01_k».proof.Proof.RefRows
public import proofs.«01_k».proof.Proof.Finite

@[expose] public section

set_option maxRecDepth 16384

noncomputable section

namespace Cert.Proof.Sort

open Cert.KernelIdeal Cert.KernelIdeal.Gen Cert.Proof.Ref Cert.Proof.Take

open Idealize.ShloMosaic hiding ix1 ix2 ix3 ix4 ix5
open Idealize.ShloMosaic.ValueIdx
open Idealize.ShloMosaic.TcCoe Idealize.SL.Sem

/-! ## The block number of a sampled row -/

theorem div256v {m : ℕ} (h : m < 8192) : IntOp.divsi .vector (BitVec.ofNat 32 m) 256#32 = BitVec.ofNat 32 (m / 256) := by
  have e := div256 h
  unfold IntOp.divsi at e ⊢
  rw [if_neg (IntOp.not_corner_of_pos (by decide))] at e ⊢
  exact e

/-- The kernel's floor division by 256 of a listed word. -/
theorem pay5_at (x3 : Vec Ideal S1x1x256 .i32) (c : Fin 256) {m : ℕ} (h : m < 8192) (hx : x3 (ix3 0 0 c) = BitVec.ofNat 32 m) :
    k2_pay5 (F := Ideal) x3 (ix1 c) = BitVec.ofNat 32 (m / 256) := by
  have e5 : shapeCast S256 x3 shapeCasts_S1x1x256_S256 (ix1 c) = BitVec.ofNat 32 m := by
    refine (shapeCast_apply x3 _ _ (ix3 0 0 c) ?_).trans hx
    rw [Shape.rowMajor_val_one, Shape.rowMajor_val_three]
    show (0 * 1 + 0) * 256 + c.val = c.val
    omega
  unfold k2_pay5
  show Scalar.select (IntOp.andi
      (IntOp.cmpi .ne (IntOp.subi (Scalar.extui (IntOp.cmpi .sgt (shapeCast S256 x3 shapeCasts_S1x1x256_S256 (ix1 c)) 0#32))
        (Scalar.extui (IntOp.cmpi .slt (shapeCast S256 x3 shapeCasts_S1x1x256_S256 (ix1 c)) 0#32)))
        (Scalar.subi (Scalar.extui (Scalar.cmpi .sgt 256#32 0#32)) (Scalar.extui (Scalar.cmpi .slt 256#32 0#32))))
      (IntOp.cmpi .ne (IntOp.remsi .vector (shapeCast S256 x3 shapeCasts_S1x1x256_S256 (ix1 c)) 256#32) 0#32))
    (IntOp.subi (IntOp.divsi .vector (shapeCast S256 x3 shapeCasts_S1x1x256_S256 (ix1 c)) 256#32) 1#32)
    (IntOp.divsi .vector (shapeCast S256 x3 shapeCasts_S1x1x256_S256 (ix1 c)) 256#32) = _
  rw [e5]
  refine floor256 h _ _ _ _ (div256v h) (fun e => ?_) (fun e => ?_)
  · by_contra hm
    have h1 : IntOp.cmpi .sgt (BitVec.ofNat 32 m) 0#32 = 1#1 := IntOp.cmpi_sgt.2 (by
      rw [toInt_small (m := m) (by omega)]; show (0 : ℤ) < m; omega)
    have h2 : IntOp.cmpi .slt (BitVec.ofNat 32 m) 0#32 = 0#1 := ValueIdx.eq_zero_of_ne_one fun e => by
      have := IntOp.cmpi_slt.1 e
      rw [toInt_small (m := m) (by omega)] at this
      simp at this
      omega
    rw [h1, h2] at e
    exact absurd e (by decide)
  · subst e; decide

/-! ## The kernel's result, as the rows of the arguments -/

section
variable (m : (ℓ : Loc nD τ sig) → Buf (Elt Ideal) ℓ) (d : Dev nD)
variable (σ ρ : Fin 32 → Fin 8192 ≃ Fin 8192) (z : Fin 2 → Fin 16 → Fin 256 → Fin 8192)

abbrev q0 : S32x8192x128.Idx → EReal := m (d, Proc.devRef .tc main_arg0)
abbrev k0 : S32x8192x128.Idx → EReal := m (d, Proc.devRef .tc main_arg1)

theorem V6_v14 : V6 m d (Proc.devRef .tc main_v14) = outA (V5 m) d := by
  unfold V6 Wout
  exact (Pipeline.withArrays_arr spec2 winFacts2.arr_inj d (V5 m d) (fun w => (dat (V5 m) d).arrAt w cfg2.N) 4).trans (arr_out (V5 m) d)

theorem ker_entry (hok : PreOK m) (hq : Ranks (m (d, Proc.devRef .tc main_arg2)) σ) (hk : Ranks (m (d, Proc.devRef .tc main_arg3)) ρ)
    (hs : Samples (m (d, Proc.devRef .tc main_arg4)) z) (b : Fin 2) (h : Fin 16) (g : Fin 32) (r : Fin 256) (e : Fin 64) :
    outA (V5 m) d (ix4 (wOf b h) g r e)
      = kerRow (blkS (q0 m d) (k0 m d) σ ρ (wOf b h) g r) (fun c => valueAt (k0 m d) ρ (wOf b h) e (pos g c))
          (resS (q0 m d) (k0 m d) σ ρ (wOf b h) (z b h) (pos g r)) (fun c => valueAt (k0 m d) ρ (wOf b h) e (z b h c)) := by
  have hg : g.val < 32 := g.isLt
  have e12 := v12_entry m d σ hq (hok.q d) (wOf b h)
  have e13 := v13_entry m d ρ hk (hok.k d) (wOf b h)
  have e10 := v10_entry m d ρ z hk (hok.k d) hs b h
  have e11 := v11_entry m d z hs b h
  show outG _ _ _ _ (wOf b h) g r e = _
  unfold outG
  have ebias : ∀ c : Fin 256, Scalar.select (IntOp.cmpi .eq (k2_pay5 (F := Ideal)
      (fun y : S1x1x256.Idx => (V5 m d (Proc.devRef .tc main_v11) : S32x1x256.Idx → BitVec 32) (ix3 (wOf b h) 0 (y 2))) (ix1 c)) (BitVec.ofNat 32 g.val))
        (Ideal.ofBits .f32 0xFF7FFFFF#32) 0 = biasAt (pos g r) (z b h c) := by
    intro c
    have hz : (z b h c).val < 8192 := (z b h c).isLt
    have hr : r.val < 256 := r.isLt
    rw [pay5_at _ c hz (e11 c)]
    unfold biasAt
    have hpos : (pos g r).val / 256 = g.val := by show (g.val * 256 + r.val) / 256 = g.val; omega
    rw [hpos]
    by_cases he : (z b h c).val / 256 = g.val
    · rw [if_pos he, IntOp.cmpi_eq.2 (by rw [he])]
      rfl
    · rw [if_neg he, ValueIdx.eq_zero_of_ne_one (b := IntOp.cmpi .eq (BitVec.ofNat 32 ((z b h c).val / 256)) (BitVec.ofNat 32 g.val)) fun e1 => he (by
        have := congrArg BitVec.toNat (IntOp.cmpi_eq.1 e1)
        rw [BitVec.toNat_ofNat, BitVec.toNat_ofNat] at this
        omega)]
      rfl
  simp only [e12, e13, e10, ebias]
  rfl

/-! ## Finite scores -/

theorem ne_of_real {x : EReal} (h : ∃ r : ℝ, x = (r : EReal)) : x ≠ ⊤ ∧ x ≠ ⊥ := by
  obtain ⟨r, rfl⟩ := h
  exact ⟨EReal.coe_ne_top r, EReal.coe_ne_bot r⟩

theorem score_finite (x0 x1 : S32x8192x128.Idx → EReal) (h0 : RowsFinite x0) (h1 : RowsFinite x1) (w : Fin 32) (p k : Fin 8192) :
    ∃ r : ℝ, scoreAt x0 x1 σ ρ w p k = (r : EReal) :=
  score_real _ _ (fun d => h0 w _ _ d.isLt) (fun d => h1 w _ _ d.isLt)

theorem bias_finite (p k : Fin 8192) : ∃ r : ℝ, biasAt p k = (r : EReal) := by
  unfold biasAt
  split
  · exact ⟨_, by simp [Ideal.ofBits, Ideal.ieee]; rfl⟩
  · exact ⟨0, rfl⟩

theorem res_finite (x0 x1 : S32x8192x128.Idx → EReal) (h0 : RowsFinite x0) (h1 : RowsFinite x1) (w : Fin 32) (y : Fin 256 → Fin 8192) (p : Fin 8192) (c : Fin 256) :
    ∃ r : ℝ, resS x0 x1 σ ρ w y p c = (r : EReal) := by
  obtain ⟨a, ha⟩ := score_finite σ ρ x0 x1 h0 h1 w p (y c)
  obtain ⟨b, hb⟩ := bias_finite p (y c)
  exact ⟨a + b, by show scoreAt _ _ _ _ _ _ _ + biasAt _ _ = _; rw [ha, hb, EReal.coe_add]⟩

/-! ## The two results -/

theorem result_eq (hok : PreOK m) (hq : Ranks (m (d, Proc.devRef .tc main_arg2)) σ) (hk : Ranks (m (d, Proc.devRef .tc main_arg3)) ρ)
    (hs : Samples (m (d, Proc.devRef .tc main_arg4)) z) (h0 : RowsFinite (m (d, Proc.devRef .tc main_arg0))) (h1 : RowsFinite (m (d, Proc.devRef .tc main_arg1))) :
    (V9 m d (Proc.devRef .tc main_v19) : S2x16x8192x64.Idx → EReal)
      = Cert.ReferenceIdeal.Read.val_main_v111 (F := Ideal) (m (d, Proc.devRef .tc main_arg0)) (m (d, Proc.devRef .tc main_arg1))
          (m (d, Proc.devRef .tc main_arg2)) (m (d, Proc.devRef .tc main_arg3)) (m (d, Proc.devRef .tc main_arg4)) := by
  have key : ∀ (b : Fin 2) (h : Fin 16) (n : Fin 8192) (e : Fin 64),
      (V9 m d (Proc.devRef .tc main_v19) : S2x16x8192x64.Idx → EReal) (ix4 b h n e)
        = Cert.ReferenceIdeal.Read.val_main_v111 (F := Ideal) (m (d, Proc.devRef .tc main_arg0)) (m (d, Proc.devRef .tc main_arg1))
          (m (d, Proc.devRef .tc main_arg2)) (m (d, Proc.devRef .tc main_arg3)) (m (d, Proc.devRef .tc main_arg4)) (ix4 b h n e) := by
    intro b h n e
    obtain ⟨g, r, hp⟩ : ∃ (g : Fin 32) (r : Fin 256), (σ (wOf b h)).symm n = pos g r :=
      ⟨⟨((σ (wOf b h)).symm n).val / 256, by omega⟩, ⟨((σ (wOf b h)).symm n).val % 256, by omega⟩, Fin.ext (by
        show ((σ (wOf b h)).symm n).val = ((σ (wOf b h)).symm n).val / 256 * 256 + ((σ (wOf b h)).symm n).val % 256; omega)⟩
    rw [v19_entry m d σ hq b h n e g r (congrArg Fin.val hp), V6_v14]
    refine (ker_entry m d σ ρ z hok hq hk hs b h g r e).trans ?_
    rw [row_eq _ _ _ _ (fun c => ne_of_real (score_finite σ ρ _ _ h0 h1 _ _ _)) (fun c => ne_of_real (res_finite σ ρ _ _ h0 h1 _ _ _ c))]
    refine (v109_at _ _ _ _ _ hq hk hs b h g r e).symm.trans ?_
    rw [← hp]
    exact (v111_at _ _ _ _ _ hq b h n e).symm
  funext i
  have ei : i = ix4 (i 0) (i 1) (i 2) (i 3) := ext4 rfl rfl rfl rfl
  exact (congrArg (V9 m d (Proc.devRef .tc main_v19) : S2x16x8192x64.Idx → EReal) ei).trans ((key (i 0) (i 1) (i 2) (i 3)).trans
    (congrArg (Cert.ReferenceIdeal.Read.val_main_v111 (F := Ideal) (m (d, Proc.devRef .tc main_arg0)) (m (d, Proc.devRef .tc main_arg1))
          (m (d, Proc.devRef .tc main_arg2)) (m (d, Proc.devRef .tc main_arg3)) (m (d, Proc.devRef .tc main_arg4))) ei.symm))

end

theorem result_of_pre (m : (ℓ : Loc nD τ sig) → Buf (Elt Ideal) ℓ) (hpre : Cert.Pre_KernelIdeal_sorted_positions_of_finite_rows m) (d : Dev nD) :
    (V9 m d (Proc.devRef .tc main_v19) : S2x16x8192x64.Idx → EReal)
      = Cert.ReferenceIdeal.Read.val_main_v111 (F := Ideal) (m (d, Proc.devRef .tc main_arg0)) (m (d, Proc.devRef .tc main_arg1))
          (m (d, Proc.devRef .tc main_arg2)) (m (d, Proc.devRef .tc main_arg3)) (m (d, Proc.devRef .tc main_arg4)) := by
  obtain ⟨hq, hk, hs, h0, h1⟩ := finite_facts _ _ _ _ _ (hpre d)
  choose σ hσ using hq
  choose ρ hρ using hk
  refine result_eq m d σ ρ (fun b h c => ⟨((m (d, Proc.devRef .tc main_arg4) : S2x16x256.Idx → BitVec 32) (ix3 b h c)).toNat, hs _⟩)
    (preOK_finite m hpre) hσ hρ (fun b h c => ?_) h0 h1
  exact (BitVec.eq_of_toNat_eq (by
    show ((m (d, Proc.devRef .tc main_arg4) : S2x16x256.Idx → BitVec 32) (ix3 b h c)).toNat = (BitVec.ofNat 32 _).toNat
    rw [BitVec.toNat_ofNat, Nat.mod_eq_of_lt (BitVec.isLt _)]))

/-- The kernel's result is the reference's. -/
theorem algebraic : Cert.algebraic_KernelIdeal_ReferenceIdeal_pre_sorted_positions_of_finite_rows := by
  intro m g m' g' hpre hagree
  refine ⟨fun c => V9 m c (Proc.devRef .tc main_v19), ?_, ?_⟩
  · exact (θ_run Cert.KernelIdeal.defs _ _).mono
      (fun r h c => ⟨h.1 c _ (mem_uc main_v19 (by decide)), (kept_of m h).1 c⟩) (run_main (F := Ideal) m g (preOK_finite m hpre))
  · refine (θ_run Cert.ReferenceIdeal.defs _ _).mono (fun r h c => ⟨?_, (h c).2⟩) (Cert.ReferenceIdeal.Value.run (F := Ideal) m' g')
    refine ((h c).1.trans (Cert.ReferenceIdeal.Read.val_main_v111_eq _)).trans ?_
    obtain ⟨a0, a1, a2, a3, a4⟩ := hagree c
    refine Eq.trans ?_ (result_of_pre m hpre c).symm
    exact congr (congr (congr (congr (congrArg _ a0) a1) a2) a3) a4

end Cert.Proof.Sort

end
-- ==== Proof.lean ====
module

public import proofs.«01_k».proof.Defs
public import proofs.«01_k».proof.Proof.Frames
public import proofs.«01_k».proof.Proof.Finite
public import proofs.«01_k».proof.Proof.RefRead
public import proofs.«01_k».proof.Proof.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_sorted_positions.Gen.facts, Cert.Pre_sorted_positions_of_finite_rows.Gen.facts,
  Sort.frame_kernel, Sort.frame_ideal, Sort.frame_ideal_finite, Sort.frame_reference, Sort.frame_reference_finite, trivial, Sort.algebraic⟩

end Cert.Proof

end
